-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S16x4x8192 : Shape := ⟨3, ![16, 4, 8192]⟩
abbrev S16x4x8x64 : Shape := ⟨4, ![16, 4, 8, 64]⟩
abbrev S16x32768x8x32 : Shape := ⟨4, ![16, 32768, 8, 32]⟩
abbrev S8x64x16 : Shape := ⟨3, ![8, 64, 16]⟩
abbrev S16x32768x8 : Shape := ⟨3, ![16, 32768, 8]⟩
abbrev S16 : Shape := ⟨1, ![16]⟩
abbrev S16x32768x8x4 : Shape := ⟨4, ![16, 32768, 8, 4]⟩
abbrev S_ : Shape := ⟨0, ![]⟩

class Facts : Prop where
  bcast_S_S16x4x8192 : S_.BroadcastsInDim S16x4x8192 (![] : Fin 0 → Fin S16x4x8192.rank)
  bcast_S_S16x4x8x64 : S_.BroadcastsInDim S16x4x8x64 (![] : Fin 0 → Fin S16x4x8x64.rank)
  bcast_S_S8x64x16 : S_.BroadcastsInDim S8x64x16 (![] : Fin 0 → Fin S8x64x16.rank)
  bcast_S_S16x32768x8x4 : S_.BroadcastsInDim S16x32768x8x4 (![] : Fin 0 → Fin S16x32768x8x4.rank)

variable [Facts]

def fn_part1 {F : FTy → Type} [FloatOps F] (main_v4 : IVec S16x4x8192 1) (main_v7 : IVec S16x4x8x64 1) (main_v10 : IVec S8x64x16 1) (main_v13 : IVec S16x32768x8x4 1) (main_v15 : IVec S16x32768x8x4 1) (main_v17 : IVec S16x32768x8x4 1) : IVec S16x4x8192 1 × IVec S16x4x8x64 1 × IVec S8x64x16 1 × IVec S16x32768x8x4 1 × IVec S16x32768x8x4 1 :=
  let main_v18 : IVec S16x32768x8x4 1 := andi main_v15 main_v17
  (main_v4, main_v7, main_v10, main_v13, main_v18)

def fn {F : FTy → Type} [FloatOps F] (main_arg0 : FVec F S16x4x8192 .bf16) (main_arg1 : FVec F S16x4x8x64 .bf16) (main_arg2 : FVec F S16x4x8x64 .bf16) (main_arg3 : IVec S16x32768x8x32 8) (main_arg4 : IVec S16x32768x8x32 8) (main_arg5 : IVec S8x64x16 16) (main_arg6 : IVec S8x64x16 16) (main_arg7 : FVec F S16x32768x8 .f32) (main_arg8 : IVec S16 32) (main_arg9 : IVec S16x32768x8x4 32) (main_arg10 : IVec S16x32768x8x4 16) : IVec S16x4x8192 1 × IVec S16x4x8x64 1 × IVec S8x64x16 1 × IVec S16x32768x8x4 1 × IVec S16x32768x8x4 1 :=
  let main_v0 : FVec F S8x64x16 .bf16 := bitcastToFloat .bf16 main_arg5
  let main_v1 : FVec F S16x32768x8x4 .bf16 := bitcastToFloat .bf16 main_arg10
  let main_v2 : FVec F S16x4x8192 .bf16 := Host.absf main_arg0
  let main_cst : FVec F S_ .bf16 := constant S_ .bf16 0x7F80#16
  let main_v3 : FVec F S16x4x8192 .bf16 := broadcastInDim S16x4x8192 ![] bcast_S_S16x4x8192 main_cst
  let main_v4 : IVec S16x4x8192 1 := cmpf .olt main_v2 main_v3
  let main_v5 : FVec F S16x4x8x64 .bf16 := Host.absf main_arg1
  let main_cst_0 : FVec F S_ .bf16 := constant S_ .bf16 0x7F80#16
  let main_v6 : FVec F S16x4x8x64 .bf16 := broadcastInDim S16x4x8x64 ![] bcast_S_S16x4x8x64 main_cst_0
  let main_v7 : IVec S16x4x8x64 1 := cmpf .olt main_v5 main_v6
  let main_v8 : FVec F S8x64x16 .bf16 := Host.absf main_v0
  let main_cst_1 : FVec F S_ .bf16 := constant S_ .bf16 0x7F80#16
  let main_v9 : FVec F S8x64x16 .bf16 := broadcastInDim S8x64x16 ![] bcast_S_S8x64x16 main_cst_1
  let main_v10 : IVec S8x64x16 1 := cmpf .olt main_v8 main_v9
  let main_v11 : FVec F S16x32768x8x4 .bf16 := Host.absf main_v1
  let main_cst_2 : FVec F S_ .bf16 := constant S_ .bf16 0x7F80#16
  let main_v12 : FVec F S16x32768x8x4 .bf16 := broadcastInDim S16x32768x8x4 ![] bcast_S_S16x32768x8x4 main_cst_2
  let main_v13 : IVec S16x32768x8x4 1 := cmpf .olt main_v11 main_v12
  let main_c : IVec S_ 32 := constantI S_ 32 0#32
  let main_v14 : IVec S16x32768x8x4 32 := broadcastInDim S16x32768x8x4 ![] bcast_S_S16x32768x8x4 main_c
  let main_v15 : IVec S16x32768x8x4 1 := cmpi .sge main_arg9 main_v14
  let main_c_3 : IVec S_ 32 := constantI S_ 32 64#32
  let main_v16 : IVec S16x32768x8x4 32 := broadcastInDim S16x32768x8x4 ![] bcast_S_S16x32768x8x4 main_c_3
  let main_v17 : IVec S16x32768x8x4 1 := cmpi .slt main_arg9 main_v16
  fn_part1 (F := F) main_v4 main_v7 main_v10 main_v13 main_v15 main_v17
-- ==== Kernel.lean ====
abbrev S16x4x8192 : Shape := ⟨3, ![16, 4, 8192]⟩
abbrev S16x4x8x64 : Shape := ⟨4, ![16, 4, 8, 64]⟩
abbrev S16x32768x8x32 : Shape := ⟨4, ![16, 32768, 8, 32]⟩
abbrev S8x64x16 : Shape := ⟨3, ![8, 64, 16]⟩
abbrev S16x32768x8 : Shape := ⟨3, ![16, 32768, 8]⟩
abbrev S16 : Shape := ⟨1, ![16]⟩
abbrev S16x32768x8x4 : Shape := ⟨4, ![16, 32768, 8, 4]⟩
abbrev S16x4x8x16x64 : Shape := ⟨5, ![16, 4, 8, 16, 64]⟩
abbrev S16x8x4x16x64 : Shape := ⟨5, ![16, 8, 4, 16, 64]⟩
abbrev S16x8x64x64 : Shape := ⟨4, ![16, 8, 64, 64]⟩
abbrev S16x8x64x8x4x2 : Shape := ⟨6, ![16, 8, 64, 8, 4, 2]⟩
abbrev S16x8x64x4x8x2 : Shape := ⟨6, ![16, 8, 64, 4, 8, 2]⟩
abbrev S16x8x4x64 : Shape := ⟨4, ![16, 8, 4, 64]⟩
abbrev S16x8x4x8x4x2 : Shape := ⟨6, ![16, 8, 4, 8, 4, 2]⟩
abbrev S16x8x4x4x8x2 : Shape := ⟨6, ![16, 8, 4, 4, 8, 2]⟩
abbrev S16x8x32x32768 : Shape := ⟨4, ![16, 8, 32, 32768]⟩
abbrev S16x8x32768 : Shape := ⟨3, ![16, 8, 32768]⟩
abbrev S16x8x4x32768 : Shape := ⟨4, ![16, 8, 4, 32768]⟩
abbrev S8x8x4x2x16 : Shape := ⟨5, ![8, 8, 4, 2, 16]⟩
abbrev S8x8x4x1x16 : Shape := ⟨5, ![8, 8, 4, 1, 16]⟩
abbrev S8x8x4x16 : Shape := ⟨4, ![8, 8, 4, 16]⟩
abbrev S8x8x4x16x1 : Shape := ⟨5, ![8, 8, 4, 16, 1]⟩
abbrev S_ : Shape := ⟨0, ![]⟩
abbrev S8x8x4x16x16 : Shape := ⟨5, ![8, 8, 4, 16, 16]⟩
abbrev S8x8x4x2x128 : Shape := ⟨5, ![8, 8, 4, 2, 128]⟩
abbrev S8x2x4x8x128 : Shape := ⟨5, ![8, 2, 4, 8, 128]⟩
abbrev S1x8x64x64 : Shape := ⟨4, ![1, 8, 64, 64]⟩
abbrev S1x8x4x64 : Shape := ⟨4, ![1, 8, 4, 64]⟩
abbrev S1x8x32x2048 : Shape := ⟨4, ![1, 8, 32, 2048]⟩
abbrev S1 : Shape := ⟨1, ![1]⟩
abbrev S1x8x2048 : Shape := ⟨3, ![1, 8, 2048]⟩
abbrev S1x8x4x2048 : Shape := ⟨4, ![1, 8, 4, 2048]⟩
abbrev S8x64x64 : Shape := ⟨3, ![8, 64, 64]⟩
abbrev S8x64x1 : Shape := ⟨3, ![8, 64, 1]⟩
abbrev S1x1x64x64 : Shape := ⟨4, ![1, 1, 64, 64]⟩
abbrev S64x64 : Shape := ⟨2, ![64, 64]⟩
abbrev S1x1x4x64 : Shape := ⟨4, ![1, 1, 4, 64]⟩
abbrev S4x64 : Shape := ⟨2, ![4, 64]⟩
abbrev S64x4 : Shape := ⟨2, ![64, 4]⟩
abbrev S64 : Shape := ⟨1, ![64]⟩
abbrev S64x1 : Shape := ⟨2, ![64, 1]⟩
abbrev S1x64x1 : Shape := ⟨3, ![1, 64, 1]⟩
abbrev S1x64x64 : Shape := ⟨3, ![1, 64, 64]⟩
abbrev S16x128 : Shape := ⟨2, ![16, 128]⟩
abbrev S1x1x32x128 : Shape := ⟨4, ![1, 1, 32, 128]⟩
abbrev S32x128 : Shape := ⟨2, ![32, 128]⟩
abbrev S8x128 : Shape := ⟨2, ![8, 128]⟩
abbrev S1x1x1x8x128 : Shape := ⟨5, ![1, 1, 1, 8, 128]⟩
abbrev S8x128x1 : Shape := ⟨3, ![8, 128, 1]⟩
abbrev S1x1x4x128 : Shape := ⟨4, ![1, 1, 4, 128]⟩
abbrev S4x128 : Shape := ⟨2, ![4, 128]⟩
abbrev S2x128 : Shape := ⟨2, ![2, 128]⟩
abbrev S1x128 : Shape := ⟨2, ![1, 128]⟩
abbrev S64x128 : Shape := ⟨2, ![64, 128]⟩
abbrev S64x256 : Shape := ⟨2, ![64, 256]⟩
abbrev S1x1x256 : Shape := ⟨3, ![1, 1, 256]⟩
abbrev S1x256 : Shape := ⟨2, ![1, 256]⟩

abbrev nBuf : Space → Nat
  | .hbm => 70
  | .vmem => 23
  | .smem => 1
  | _ => 0

abbrev bufTy : (tb : Table) → Fin (tcTables nBuf tb) → BufTy
  | .hbm, ⟨0, _⟩ => ⟨S16x4x8192, .bf16⟩
  | .hbm, ⟨1, _⟩ => ⟨S16x4x8x64, .bf16⟩
  | .hbm, ⟨2, _⟩ => ⟨S16x4x8x64, .bf16⟩
  | .hbm, ⟨3, _⟩ => ⟨S16x32768x8x32, .i8⟩
  | .hbm, ⟨4, _⟩ => ⟨S16x32768x8x32, .i8⟩
  | .hbm, ⟨5, _⟩ => ⟨S8x64x16, .i16⟩
  | .hbm, ⟨6, _⟩ => ⟨S8x64x16, .i16⟩
  | .hbm, ⟨7, _⟩ => ⟨S16x32768x8, .f32⟩
  | .hbm, ⟨8, _⟩ => ⟨S16x32768x8x4, .i32⟩
  | .hbm, ⟨9, _⟩ => ⟨S16x32768x8x4, .i16⟩
  | .hbm, ⟨10, _⟩ => ⟨S16x4x8x16x64, .bf16⟩
  | .hbm, ⟨11, _⟩ => ⟨S16x8x4x16x64, .bf16⟩
  | .hbm, ⟨12, _⟩ => ⟨S16x8x64x64, .bf16⟩
  | .hbm, ⟨13, _⟩ => ⟨S16x8x64x8x4x2, .bf16⟩
  | .hbm, ⟨14, _⟩ => ⟨S16x8x64x4x8x2, .bf16⟩
  | .hbm, ⟨15, _⟩ => ⟨S16x8x64x64, .bf16⟩
  | .hbm, ⟨16, _⟩ => ⟨S16x8x4x64, .bf16⟩
  | .hbm, ⟨17, _⟩ => ⟨S16x8x4x8x4x2, .bf16⟩
  | .hbm, ⟨18, _⟩ => ⟨S16x8x4x4x8x2, .bf16⟩
  | .hbm, ⟨19, _⟩ => ⟨S16x8x4x64, .bf16⟩
  | .hbm, ⟨20, _⟩ => ⟨S16x8x4x64, .bf16⟩
  | .hbm, ⟨21, _⟩ => ⟨S16x8x4x8x4x2, .bf16⟩
  | .hbm, ⟨22, _⟩ => ⟨S16x8x4x4x8x2, .bf16⟩
  | .hbm, ⟨23, _⟩ => ⟨S16x8x4x64, .bf16⟩
  | .hbm, ⟨24, _⟩ => ⟨S16x8x32x32768, .i8⟩
  | .hbm, ⟨25, _⟩ => ⟨S16x8x32x32768, .i8⟩
  | .hbm, ⟨26, _⟩ => ⟨S16x8x32768, .f32⟩
  | .hbm, ⟨27, _⟩ => ⟨S16x8x4x32768, .i32⟩
  | .hbm, ⟨28, _⟩ => ⟨S16x8x4x32768, .i16⟩
  | .hbm, ⟨29, _⟩ => ⟨S8x64x16, .i32⟩
  | .hbm, ⟨30, _⟩ => ⟨S8x8x4x2x16, .i32⟩
  | .hbm, ⟨31, _⟩ => ⟨S8x8x4x1x16, .i32⟩
  | .hbm, ⟨32, _⟩ => ⟨S8x8x4x16, .i32⟩
  | .hbm, ⟨33, _⟩ => ⟨S8x8x4x1x16, .i32⟩
  | .hbm, ⟨34, _⟩ => ⟨S8x8x4x16, .i32⟩
  | .hbm, ⟨35, _⟩ => ⟨S8x8x4x1x16, .i32⟩
  | .hbm, ⟨36, _⟩ => ⟨S8x8x4x16x1, .i32⟩
  | .hbm, ⟨37, _⟩ => ⟨S_, .i32⟩
  | .hbm, ⟨38, _⟩ => ⟨S8x8x4x16x1, .i32⟩
  | .hbm, ⟨39, _⟩ => ⟨S8x8x4x16x1, .i32⟩
  | .hbm, ⟨40, _⟩ => ⟨S8x8x4x16x16, .i32⟩
  | .hbm, ⟨41, _⟩ => ⟨S8x8x4x16x16, .i32⟩
  | .hbm, ⟨42, _⟩ => ⟨S8x8x4x16x16, .i32⟩
  | .hbm, ⟨43, _⟩ => ⟨S8x8x4x16x16, .i32⟩
  | .hbm, ⟨44, _⟩ => ⟨S8x8x4x2x128, .i32⟩
  | .hbm, ⟨45, _⟩ => ⟨S8x2x4x8x128, .i32⟩
  | .hbm, ⟨46, _⟩ => ⟨S8x64x16, .i32⟩
  | .hbm, ⟨47, _⟩ => ⟨S8x8x4x2x16, .i32⟩
  | .hbm, ⟨48, _⟩ => ⟨S8x8x4x1x16, .i32⟩
  | .hbm, ⟨49, _⟩ => ⟨S8x8x4x16, .i32⟩
  | .hbm, ⟨50, _⟩ => ⟨S8x8x4x1x16, .i32⟩
  | .hbm, ⟨51, _⟩ => ⟨S8x8x4x16, .i32⟩
  | .hbm, ⟨52, _⟩ => ⟨S8x8x4x1x16, .i32⟩
  | .hbm, ⟨53, _⟩ => ⟨S8x8x4x16x1, .i32⟩
  | .hbm, ⟨54, _⟩ => ⟨S_, .i32⟩
  | .hbm, ⟨55, _⟩ => ⟨S8x8x4x16x1, .i32⟩
  | .hbm, ⟨56, _⟩ => ⟨S8x8x4x16x1, .i32⟩
  | .hbm, ⟨57, _⟩ => ⟨S8x8x4x16x16, .i32⟩
  | .hbm, ⟨58, _⟩ => ⟨S8x8x4x16x16, .i32⟩
  | .hbm, ⟨59, _⟩ => ⟨S8x8x4x16x16, .i32⟩
  | .hbm, ⟨60, _⟩ => ⟨S8x8x4x16x16, .i32⟩
  | .hbm, ⟨61, _⟩ => ⟨S8x8x4x2x128, .i32⟩
  | .hbm, ⟨62, _⟩ => ⟨S8x2x4x8x128, .i32⟩
  | .hbm, ⟨63, _⟩ => ⟨S16x8x64x64, .bf16⟩
  | .hbm, ⟨64, _⟩ => ⟨S16x8x64x4x8x2, .bf16⟩
  | .hbm, ⟨65, _⟩ => ⟨S16x8x64x8x4x2, .bf16⟩
  | .hbm, ⟨66, _⟩ => ⟨S16x8x64x64, .bf16⟩
  | .hbm, ⟨67, _⟩ => ⟨S16x8x4x16x64, .bf16⟩
  | .hbm, ⟨68, _⟩ => ⟨S16x4x8x16x64, .bf16⟩
  | .hbm, ⟨69, _⟩ => ⟨S16x4x8192, .bf16⟩
  | .local _ .vmem, ⟨0, _⟩ => ⟨S1x8x64x64, .bf16⟩
  | .local _ .vmem, ⟨1, _⟩ => ⟨S1x8x64x64, .bf16⟩
  | .local _ .vmem, ⟨2, _⟩ => ⟨S1x8x4x64, .bf16⟩
  | .local _ .vmem, ⟨3, _⟩ => ⟨S1x8x4x64, .bf16⟩
  | .local _ .vmem, ⟨4, _⟩ => ⟨S1x8x4x64, .bf16⟩
  | .local _ .vmem, ⟨5, _⟩ => ⟨S1x8x4x64, .bf16⟩
  | .local _ .vmem, ⟨6, _⟩ => ⟨S1x8x32x2048, .i8⟩
  | .local _ .vmem, ⟨7, _⟩ => ⟨S1x8x32x2048, .i8⟩
  | .local _ .vmem, ⟨8, _⟩ => ⟨S1x8x32x2048, .i8⟩
  | .local _ .vmem, ⟨9, _⟩ => ⟨S1x8x32x2048, .i8⟩
  | .local _ .vmem, ⟨10, _⟩ => ⟨S1x8x2048, .f32⟩
  | .local _ .vmem, ⟨11, _⟩ => ⟨S1x8x2048, .f32⟩
  | .local _ .vmem, ⟨12, _⟩ => ⟨S1x8x4x2048, .i32⟩
  | .local _ .vmem, ⟨13, _⟩ => ⟨S1x8x4x2048, .i32⟩
  | .local _ .vmem, ⟨14, _⟩ => ⟨S1x8x4x2048, .i16⟩
  | .local _ .vmem, ⟨15, _⟩ => ⟨S1x8x4x2048, .i16⟩
  | .local _ .vmem, ⟨16, _⟩ => ⟨S8x2x4x8x128, .i32⟩
  | .local _ .vmem, ⟨17, _⟩ => ⟨S8x2x4x8x128, .i32⟩
  | .local _ .vmem, ⟨18, _⟩ => ⟨S1x8x64x64, .bf16⟩
  | .local _ .vmem, ⟨19, _⟩ => ⟨S1x8x64x64, .bf16⟩
  | .local _ .vmem, ⟨20, _⟩ => ⟨S8x64x64, .f32⟩
  | .local _ .vmem, ⟨21, _⟩ => ⟨S8x64x1, .f32⟩
  | .local _ .vmem, ⟨22, _⟩ => ⟨S8x64x1, .f32⟩
  | .local _ .smem, ⟨0, _⟩ => ⟨S16, .i32⟩
  | _, _ => ⟨S16x4x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg9 : Ref sig .tc := ⟨.hbm, 8, rfl⟩
abbrev main_arg10 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_0 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_arg8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 16], ![false, false]⟩

abbrev pre0 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_3 : BitVec 32 := 0#32
  let c8_i32 : BitVec 32 := 8#32
  let v13 : BitVec 32 := Scalar.addi c0_i32_3 c8_i32
  let c1_i32 : BitVec 32 := 1#32
  ⟨c0_i32_3, v13, c1_i32⟩
def k0_off2 (k0_t1 : Fin k0_t1_loop.trips) : Fin 4 → Nat :=
  let c0 : Index := 0#32
  let c0_i32_3 : BitVec 32 := 0#32
  let c1_i32 : BitVec 32 := 1#32
  let arg17 : BitVec 32 := Scf.iv c0_i32_3 c1_i32 k0_t1
  let v14 : Index := Scalar.indexCast arg17
  let c0_5 : Index := 0#32
  let c0_6 : Index := 0#32
  ![0, v14.toNat, 0, 0]
def k0_off3 (k0_t1 : Fin k0_t1_loop.trips) : Fin 3 → Nat :=
  let c0_i32_3 : BitVec 32 := 0#32
  let c1_i32 : BitVec 32 := 1#32
  let arg17 : BitVec 32 := Scf.iv c0_i32_3 c1_i32 k0_t1
  let v17 : Index := Scalar.indexCast arg17
  let c0_7 : Index := 0#32
  let c0_8 : Index := 0#32
  ![v17.toNat, 0, 0]
def k0_off4 (k0_t1 : Fin k0_t1_loop.trips) : Fin 3 → Nat :=
  let c0_i32_3 : BitVec 32 := 0#32
  let c1_i32 : BitVec 32 := 1#32
  let arg17 : BitVec 32 := Scf.iv c0_i32_3 c1_i32 k0_t1
  let v23 : Index := Scalar.indexCast arg17
  let c0_11 : Index := 0#32
  let c0_12 : Index := 0#32
  ![v23.toNat, 0, 0]
def k0_off5 (k0_t1 : Fin k0_t1_loop.trips) : Fin 4 → Nat :=
  let c0_15 : Index := 0#32
  let c0_i32_3 : BitVec 32 := 0#32
  let c1_i32 : BitVec 32 := 1#32
  let arg17 : BitVec 32 := Scf.iv c0_i32_3 c1_i32 k0_t1
  let v28 : Index := Scalar.indexCast arg17
  let c0_16 : Index := 0#32
  let c0_17 : Index := 0#32
  ![0, v28.toNat, 0, 0]
def k0_off6 (k0_t1 : Fin k0_t1_loop.trips) : Fin 5 → Nat :=
  let c0_i32_3 : BitVec 32 := 0#32
  let c1_i32 : BitVec 32 := 1#32
  let arg17 : BitVec 32 := Scf.iv c0_i32_3 c1_i32 k0_t1
  let v40 : Index := Scalar.indexCast arg17
  let c1 : Index := 1#32
  let c0_20 : Index := 0#32
  let c0_21 : Index := 0#32
  let c0_22 : Index := 0#32
  ![v40.toNat, 1, 0, 0, 0]
def k0_off7 (k0_t1 : Fin k0_t1_loop.trips) : Fin 5 → Nat :=
  let c0_i32_3 : BitVec 32 := 0#32
  let c1_i32 : BitVec 32 := 1#32
  let arg17 : BitVec 32 := Scf.iv c0_i32_3 c1_i32 k0_t1
  let v46 : Index := Scalar.indexCast arg17
  let c0_23 : Index := 0#32
  let c0_24 : Index := 0#32
  let c0_25 : Index := 0#32
  let c0_26 : Index := 0#32
  ![v46.toNat, 0, 0, 0, 0]
def k0_off8 (k0_t1 : Fin k0_t1_loop.trips) : Fin 5 → Nat :=
  let c0_i32_3 : BitVec 32 := 0#32
  let c1_i32 : BitVec 32 := 1#32
  let arg17 : BitVec 32 := Scf.iv c0_i32_3 c1_i32 k0_t1
  let v61 : Index := Scalar.indexCast arg17
  let c1_30 : Index := 1#32
  let c1_31 : Index := 1#32
  let c0_32 : Index := 0#32
  let c0_33 : Index := 0#32
  ![v61.toNat, 1, 1, 0, 0]
def k0_off9 (k0_t1 : Fin k0_t1_loop.trips) : Fin 5 → Nat :=
  let c0_i32_3 : BitVec 32 := 0#32
  let c1_i32 : BitVec 32 := 1#32
  let arg17 : BitVec 32 := Scf.iv c0_i32_3 c1_i32 k0_t1
  let v67 : Index := Scalar.indexCast arg17
  let c0_34 : Index := 0#32
  let c1_35 : Index := 1#32
  let c0_36 : Index := 0#32
  let c0_37 : Index := 0#32
  ![v67.toNat, 0, 1, 0, 0]
def k0_off10 (k0_t1 : Fin k0_t1_loop.trips) : Fin 5 → Nat :=
  let c0_i32_3 : BitVec 32 := 0#32
  let c1_i32 : BitVec 32 := 1#32
  let arg17 : BitVec 32 := Scf.iv c0_i32_3 c1_i32 k0_t1
  let v82 : Index := Scalar.indexCast arg17
  let c1_42 : Index := 1#32
  let c2 : Index := 2#32
  let c0_43 : Index := 0#32
  let c0_44 : Index := 0#32
  ![v82.toNat, 1, 2, 0, 0]
def k0_off11 (k0_t1 : Fin k0_t1_loop.trips) : Fin 5 → Nat :=
  let c0_i32_3 : BitVec 32 := 0#32
  let c1_i32 : BitVec 32 := 1#32
  let arg17 : BitVec 32 := Scf.iv c0_i32_3 c1_i32 k0_t1
  let v88 : Index := Scalar.indexCast arg17
  let c0_45 : Index := 0#32
  let c2_46 : Index := 2#32
  let c0_47 : Index := 0#32
  let c0_48 : Index := 0#32
  ![v88.toNat, 0, 2, 0, 0]
def k0_off12 (k0_t1 : Fin k0_t1_loop.trips) : Fin 5 → Nat :=
  let c0_i32_3 : BitVec 32 := 0#32
  let c1_i32 : BitVec 32 := 1#32
  let arg17 : BitVec 32 := Scf.iv c0_i32_3 c1_i32 k0_t1
  let v103 : Index := Scalar.indexCast arg17
  let c1_53 : Index := 1#32
  let c3 : Index := 3#32
  let c0_54 : Index := 0#32
  let c0_55 : Index := 0#32
  ![v103.toNat, 1, 3, 0, 0]
def k0_off13 (k0_t1 : Fin k0_t1_loop.trips) : Fin 5 → Nat :=
  let c0_i32_3 : BitVec 32 := 0#32
  let c1_i32 : BitVec 32 := 1#32
  let arg17 : BitVec 32 := Scf.iv c0_i32_3 c1_i32 k0_t1
  let v109 : Index := Scalar.indexCast arg17
  let c0_56 : Index := 0#32
  let c3_57 : Index := 3#32
  let c0_58 : Index := 0#32
  let c0_59 : Index := 0#32
  ![v109.toNat, 0, 3, 0, 0]
def k0_off14 (k0_t1 : Fin k0_t1_loop.trips) : Fin 4 → Nat :=
  let c0_111 : Index := 0#32
  let c0_i32_3 : BitVec 32 := 0#32
  let c1_i32 : BitVec 32 := 1#32
  let arg17 : BitVec 32 := Scf.iv c0_i32_3 c1_i32 k0_t1
  let v204 : Index := Scalar.indexCast arg17
  let c0_112 : Index := 0#32
  let c0_113 : Index := 0#32
  ![0, v204.toNat, 0, 0]
def k0_off15 (k0_t1 : Fin k0_t1_loop.trips) : Fin 4 → Nat :=
  let c0_205 : Index := 0#32
  let c0_i32_3 : BitVec 32 := 0#32
  let c1_i32 : BitVec 32 := 1#32
  let arg17 : BitVec 32 := Scf.iv c0_i32_3 c1_i32 k0_t1
  let v652 : Index := Scalar.indexCast arg17
  let c0_206 : Index := 0#32
  let c128 : Index := 128#32
  ![0, v652.toNat, 0, 128]
def k0_off16 (k0_t1 : Fin k0_t1_loop.trips) : Fin 4 → Nat :=
  let c0_306 : Index := 0#32
  let c0_i32_3 : BitVec 32 := 0#32
  let c1_i32 : BitVec 32 := 1#32
  let arg17 : BitVec 32 := Scf.iv c0_i32_3 c1_i32 k0_t1
  let v828 : Index := Scalar.indexCast arg17
  let c0_307 : Index := 0#32
  let c128_308 : Index := 128#32
  ![0, v828.toNat, 0, 128]
def k0_off17 (k0_t1 : Fin k0_t1_loop.trips) : Fin 3 → Nat :=
  let c0_409 : Index := 0#32
  let c0_i32_3 : BitVec 32 := 0#32
  let c1_i32 : BitVec 32 := 1#32
  let arg17 : BitVec 32 := Scf.iv c0_i32_3 c1_i32 k0_t1
  let v1300 : Index := Scalar.indexCast arg17
  let c0_410 : Index := 0#32
  ![0, v1300.toNat, 0]
def k0_off18 (k0_t1 : Fin k0_t1_loop.trips) : Fin 4 → Nat :=
  let c0_413 : Index := 0#32
  let c0_i32_3 : BitVec 32 := 0#32
  let c1_i32 : BitVec 32 := 1#32
  let arg17 : BitVec 32 := Scf.iv c0_i32_3 c1_i32 k0_t1
  let v1312 : Index := Scalar.indexCast arg17
  let c0_414 : Index := 0#32
  let c256 : Index := 256#32
  ![0, v1312.toNat, 0, 256]
def k0_off19 (k0_t1 : Fin k0_t1_loop.trips) : Fin 4 → Nat :=
  let c0_514 : Index := 0#32
  let c0_i32_3 : BitVec 32 := 0#32
  let c1_i32 : BitVec 32 := 1#32
  let arg17 : BitVec 32 := Scf.iv c0_i32_3 c1_i32 k0_t1
  let v1488 : Index := Scalar.indexCast arg17
  let c0_515 : Index := 0#32
  let c256_516 : Index := 256#32
  ![0, v1488.toNat, 0, 256]
def k0_off20 (k0_t1 : Fin k0_t1_loop.trips) : Fin 4 → Nat :=
  let c0_613 : Index := 0#32
  let c0_i32_3 : BitVec 32 := 0#32
  let c1_i32 : BitVec 32 := 1#32
  let arg17 : BitVec 32 := Scf.iv c0_i32_3 c1_i32 k0_t1
  let v1936 : Index := Scalar.indexCast arg17
  let c0_614 : Index := 0#32
  let c384 : Index := 384#32
  ![0, v1936.toNat, 0, 384]
def k0_off21 (k0_t1 : Fin k0_t1_loop.trips) : Fin 4 → Nat :=
  let c0_714 : Index := 0#32
  let c0_i32_3 : BitVec 32 := 0#32
  let c1_i32 : BitVec 32 := 1#32
  let arg17 : BitVec 32 := Scf.iv c0_i32_3 c1_i32 k0_t1
  let v2112 : Index := Scalar.indexCast arg17
  let c0_715 : Index := 0#32
  let c384_716 : Index := 384#32
  ![0, v2112.toNat, 0, 384]
def k0_off22 (k0_t1 : Fin k0_t1_loop.trips) : Fin 3 → Nat :=
  let c0_818 : Index := 0#32
  let c0_i32_3 : BitVec 32 := 0#32
  let c1_i32 : BitVec 32 := 1#32
  let arg17 : BitVec 32 := Scf.iv c0_i32_3 c1_i32 k0_t1
  let v2584 : Index := Scalar.indexCast arg17
  let c256_819 : Index := 256#32
  ![0, v2584.toNat, 256]
def k0_off23 (k0_t1 : Fin k0_t1_loop.trips) : Fin 4 → Nat :=
  let c0_822 : Index := 0#32
  let c0_i32_3 : BitVec 32 := 0#32
  let c1_i32 : BitVec 32 := 1#32
  let arg17 : BitVec 32 := Scf.iv c0_i32_3 c1_i32 k0_t1
  let v2596 : Index := Scalar.indexCast arg17
  let c0_823 : Index := 0#32
  let c512 : Index := 512#32
  ![0, v2596.toNat, 0, 512]
def k0_off24 (k0_t1 : Fin k0_t1_loop.trips) : Fin 4 → Nat :=
  let c0_923 : Index := 0#32
  let c0_i32_3 : BitVec 32 := 0#32
  let c1_i32 : BitVec 32 := 1#32
  let arg17 : BitVec 32 := Scf.iv c0_i32_3 c1_i32 k0_t1
  let v2772 : Index := Scalar.indexCast arg17
  let c0_924 : Index := 0#32
  let c512_925 : Index := 512#32
  ![0, v2772.toNat, 0, 512]
def k0_off25 (k0_t1 : Fin k0_t1_loop.trips) : Fin 4 → Nat :=
  let c0_1022 : Index := 0#32
  let c0_i32_3 : BitVec 32 := 0#32
  let c1_i32 : BitVec 32 := 1#32
  let arg17 : BitVec 32 := Scf.iv c0_i32_3 c1_i32 k0_t1
  let v3220 : Index := Scalar.indexCast arg17
  let c0_1023 : Index := 0#32
  let c640 : Index := 640#32
  ![0, v3220.toNat, 0, 640]
def k0_off26 (k0_t1 : Fin k0_t1_loop.trips) : Fin 4 → Nat :=
  let c0_1123 : Index := 0#32
  let c0_i32_3 : BitVec 32 := 0#32
  let c1_i32 : BitVec 32 := 1#32
  let arg17 : BitVec 32 := Scf.iv c0_i32_3 c1_i32 k0_t1
  let v3396 : Index := Scalar.indexCast arg17
  let c0_1124 : Index := 0#32
  let c640_1125 : Index := 640#32
  ![0, v3396.toNat, 0, 640]
def k0_off27 (k0_t1 : Fin k0_t1_loop.trips) : Fin 3 → Nat :=
  let c0_1227 : Index := 0#32
  let c0_i32_3 : BitVec 32 := 0#32
  let c1_i32 : BitVec 32 := 1#32
  let arg17 : BitVec 32 := Scf.iv c0_i32_3 c1_i32 k0_t1
  let v3868 : Index := Scalar.indexCast arg17
  let c512_1228 : Index := 512#32
  ![0, v3868.toNat, 512]
def k0_off28 (k0_t1 : Fin k0_t1_loop.trips) : Fin 4 → Nat :=
  let c0_1231 : Index := 0#32
  let c0_i32_3 : BitVec 32 := 0#32
  let c1_i32 : BitVec 32 := 1#32
  let arg17 : BitVec 32 := Scf.iv c0_i32_3 c1_i32 k0_t1
  let v3880 : Index := Scalar.indexCast arg17
  let c0_1232 : Index := 0#32
  let c768 : Index := 768#32
  ![0, v3880.toNat, 0, 768]
def k0_off29 (k0_t1 : Fin k0_t1_loop.trips) : Fin 4 → Nat :=
  let c0_1332 : Index := 0#32
  let c0_i32_3 : BitVec 32 := 0#32
  let c1_i32 : BitVec 32 := 1#32
  let arg17 : BitVec 32 := Scf.iv c0_i32_3 c1_i32 k0_t1
  let v4056 : Index := Scalar.indexCast arg17
  let c0_1333 : Index := 0#32
  let c768_1334 : Index := 768#32
  ![0, v4056.toNat, 0, 768]
def k0_off30 (k0_t1 : Fin k0_t1_loop.trips) : Fin 4 → Nat :=
  let c0_1431 : Index := 0#32
  let c0_i32_3 : BitVec 32 := 0#32
  let c1_i32 : BitVec 32 := 1#32
  let arg17 : BitVec 32 := Scf.iv c0_i32_3 c1_i32 k0_t1
  let v4504 : Index := Scalar.indexCast arg17
  let c0_1432 : Index := 0#32
  let c896 : Index := 896#32
  ![0, v4504.toNat, 0, 896]
def k0_off31 (k0_t1 : Fin k0_t1_loop.trips) : Fin 4 → Nat :=
  let c0_1532 : Index := 0#32
  let c0_i32_3 : BitVec 32 := 0#32
  let c1_i32 : BitVec 32 := 1#32
  let arg17 : BitVec 32 := Scf.iv c0_i32_3 c1_i32 k0_t1
  let v4680 : Index := Scalar.indexCast arg17
  let c0_1533 : Index := 0#32
  let c896_1534 : Index := 896#32
  ![0, v4680.toNat, 0, 896]
def k0_off32 (k0_t1 : Fin k0_t1_loop.trips) : Fin 3 → Nat :=
  let c0_1636 : Index := 0#32
  let c0_i32_3 : BitVec 32 := 0#32
  let c1_i32 : BitVec 32 := 1#32
  let arg17 : BitVec 32 := Scf.iv c0_i32_3 c1_i32 k0_t1
  let v5152 : Index := Scalar.indexCast arg17
  let c768_1637 : Index := 768#32
  ![0, v5152.toNat, 768]
def k0_off33 (k0_t1 : Fin k0_t1_loop.trips) : Fin 4 → Nat :=
  let c0_1640 : Index := 0#32
  let c0_i32_3 : BitVec 32 := 0#32
  let c1_i32 : BitVec 32 := 1#32
  let arg17 : BitVec 32 := Scf.iv c0_i32_3 c1_i32 k0_t1
  let v5164 : Index := Scalar.indexCast arg17
  let c0_1641 : Index := 0#32
  let c1024 : Index := 1024#32
  ![0, v5164.toNat, 0, 1024]
def k0_off34 (k0_t1 : Fin k0_t1_loop.trips) : Fin 4 → Nat :=
  let c0_1741 : Index := 0#32
  let c0_i32_3 : BitVec 32 := 0#32
  let c1_i32 : BitVec 32 := 1#32
  let arg17 : BitVec 32 := Scf.iv c0_i32_3 c1_i32 k0_t1
  let v5340 : Index := Scalar.indexCast arg17
  let c0_1742 : Index := 0#32
  let c1024_1743 : Index := 1024#32
  ![0, v5340.toNat, 0, 1024]
def k0_off35 (k0_t1 : Fin k0_t1_loop.trips) : Fin 4 → Nat :=
  let c0_1840 : Index := 0#32
  let c0_i32_3 : BitVec 32 := 0#32
  let c1_i32 : BitVec 32 := 1#32
  let arg17 : BitVec 32 := Scf.iv c0_i32_3 c1_i32 k0_t1
  let v5788 : Index := Scalar.indexCast arg17
  let c0_1841 : Index := 0#32
  let c1152 : Index := 1152#32
  ![0, v5788.toNat, 0, 1152]
def k0_off36 (k0_t1 : Fin k0_t1_loop.trips) : Fin 4 → Nat :=
  let c0_1941 : Index := 0#32
  let c0_i32_3 : BitVec 32 := 0#32
  let c1_i32 : BitVec 32 := 1#32
  let arg17 : BitVec 32 := Scf.iv c0_i32_3 c1_i32 k0_t1
  let v5964 : Index := Scalar.indexCast arg17
  let c0_1942 : Index := 0#32
  let c1152_1943 : Index := 1152#32
  ![0, v5964.toNat, 0, 1152]
def k0_off37 (k0_t1 : Fin k0_t1_loop.trips) : Fin 3 → Nat :=
  let c0_2045 : Index := 0#32
  let c0_i32_3 : BitVec 32 := 0#32
  let c1_i32 : BitVec 32 := 1#32
  let arg17 : BitVec 32 := Scf.iv c0_i32_3 c1_i32 k0_t1
  let v6436 : Index := Scalar.indexCast arg17
  let c1024_2046 : Index := 1024#32
  ![0, v6436.toNat, 1024]
def k0_off38 (k0_t1 : Fin k0_t1_loop.trips) : Fin 4 → Nat :=
  let c0_2049 : Index := 0#32
  let c0_i32_3 : BitVec 32 := 0#32
  let c1_i32 : BitVec 32 := 1#32
  let arg17 : BitVec 32 := Scf.iv c0_i32_3 c1_i32 k0_t1
  let v6448 : Index := Scalar.indexCast arg17
  let c0_2050 : Index := 0#32
  let c1280 : Index := 1280#32
  ![0, v6448.toNat, 0, 1280]
def k0_off39 (k0_t1 : Fin k0_t1_loop.trips) : Fin 4 → Nat :=
  let c0_2150 : Index := 0#32
  let c0_i32_3 : BitVec 32 := 0#32
  let c1_i32 : BitVec 32 := 1#32
  let arg17 : BitVec 32 := Scf.iv c0_i32_3 c1_i32 k0_t1
  let v6624 : Index := Scalar.indexCast arg17
  let c0_2151 : Index := 0#32
  let c1280_2152 : Index := 1280#32
  ![0, v6624.toNat, 0, 1280]
def k0_off40 (k0_t1 : Fin k0_t1_loop.trips) : Fin 4 → Nat :=
  let c0_2249 : Index := 0#32
  let c0_i32_3 : BitVec 32 := 0#32
  let c1_i32 : BitVec 32 := 1#32
  let arg17 : BitVec 32 := Scf.iv c0_i32_3 c1_i32 k0_t1
  let v7072 : Index := Scalar.indexCast arg17
  let c0_2250 : Index := 0#32
  let c1408 : Index := 1408#32
  ![0, v7072.toNat, 0, 1408]
def k0_off41 (k0_t1 : Fin k0_t1_loop.trips) : Fin 4 → Nat :=
  let c0_2350 : Index := 0#32
  let c0_i32_3 : BitVec 32 := 0#32
  let c1_i32 : BitVec 32 := 1#32
  let arg17 : BitVec 32 := Scf.iv c0_i32_3 c1_i32 k0_t1
  let v7248 : Index := Scalar.indexCast arg17
  let c0_2351 : Index := 0#32
  let c1408_2352 : Index := 1408#32
  ![0, v7248.toNat, 0, 1408]
def k0_off42 (k0_t1 : Fin k0_t1_loop.trips) : Fin 3 → Nat :=
  let c0_2454 : Index := 0#32
  let c0_i32_3 : BitVec 32 := 0#32
  let c1_i32 : BitVec 32 := 1#32
  let arg17 : BitVec 32 := Scf.iv c0_i32_3 c1_i32 k0_t1
  let v7720 : Index := Scalar.indexCast arg17
  let c1280_2455 : Index := 1280#32
  ![0, v7720.toNat, 1280]
def k0_off43 (k0_t1 : Fin k0_t1_loop.trips) : Fin 4 → Nat :=
  let c0_2458 : Index := 0#32
  let c0_i32_3 : BitVec 32 := 0#32
  let c1_i32 : BitVec 32 := 1#32
  let arg17 : BitVec 32 := Scf.iv c0_i32_3 c1_i32 k0_t1
  let v7732 : Index := Scalar.indexCast arg17
  let c0_2459 : Index := 0#32
  let c1536 : Index := 1536#32
  ![0, v7732.toNat, 0, 1536]
def k0_off44 (k0_t1 : Fin k0_t1_loop.trips) : Fin 4 → Nat :=
  let c0_2559 : Index := 0#32
  let c0_i32_3 : BitVec 32 := 0#32
  let c1_i32 : BitVec 32 := 1#32
  let arg17 : BitVec 32 := Scf.iv c0_i32_3 c1_i32 k0_t1
  let v7908 : Index := Scalar.indexCast arg17
  let c0_2560 : Index := 0#32
  let c1536_2561 : Index := 1536#32
  ![0, v7908.toNat, 0, 1536]
def k0_off45 (k0_t1 : Fin k0_t1_loop.trips) : Fin 4 → Nat :=
  let c0_2658 : Index := 0#32
  let c0_i32_3 : BitVec 32 := 0#32
  let c1_i32 : BitVec 32 := 1#32
  let arg17 : BitVec 32 := Scf.iv c0_i32_3 c1_i32 k0_t1
  let v8356 : Index := Scalar.indexCast arg17
  let c0_2659 : Index := 0#32
  let c1664 : Index := 1664#32
  ![0, v8356.toNat, 0, 1664]
def k0_off46 (k0_t1 : Fin k0_t1_loop.trips) : Fin 4 → Nat :=
  let c0_2759 : Index := 0#32
  let c0_i32_3 : BitVec 32 := 0#32
  let c1_i32 : BitVec 32 := 1#32
  let arg17 : BitVec 32 := Scf.iv c0_i32_3 c1_i32 k0_t1
  let v8532 : Index := Scalar.indexCast arg17
  let c0_2760 : Index := 0#32
  let c1664_2761 : Index := 1664#32
  ![0, v8532.toNat, 0, 1664]
def k0_off47 (k0_t1 : Fin k0_t1_loop.trips) : Fin 3 → Nat :=
  let c0_2863 : Index := 0#32
  let c0_i32_3 : BitVec 32 := 0#32
  let c1_i32 : BitVec 32 := 1#32
  let arg17 : BitVec 32 := Scf.iv c0_i32_3 c1_i32 k0_t1
  let v9004 : Index := Scalar.indexCast arg17
  let c1536_2864 : Index := 1536#32
  ![0, v9004.toNat, 1536]
def k0_off48 (k0_t1 : Fin k0_t1_loop.trips) : Fin 4 → Nat :=
  let c0_2867 : Index := 0#32
  let c0_i32_3 : BitVec 32 := 0#32
  let c1_i32 : BitVec 32 := 1#32
  let arg17 : BitVec 32 := Scf.iv c0_i32_3 c1_i32 k0_t1
  let v9016 : Index := Scalar.indexCast arg17
  let c0_2868 : Index := 0#32
  let c1792 : Index := 1792#32
  ![0, v9016.toNat, 0, 1792]
def k0_off49 (k0_t1 : Fin k0_t1_loop.trips) : Fin 4 → Nat :=
  let c0_2968 : Index := 0#32
  let c0_i32_3 : BitVec 32 := 0#32
  let c1_i32 : BitVec 32 := 1#32
  let arg17 : BitVec 32 := Scf.iv c0_i32_3 c1_i32 k0_t1
  let v9192 : Index := Scalar.indexCast arg17
  let c0_2969 : Index := 0#32
  let c1792_2970 : Index := 1792#32
  ![0, v9192.toNat, 0, 1792]
def k0_off50 (k0_t1 : Fin k0_t1_loop.trips) : Fin 4 → Nat :=
  let c0_3067 : Index := 0#32
  let c0_i32_3 : BitVec 32 := 0#32
  let c1_i32 : BitVec 32 := 1#32
  let arg17 : BitVec 32 := Scf.iv c0_i32_3 c1_i32 k0_t1
  let v9640 : Index := Scalar.indexCast arg17
  let c0_3068 : Index := 0#32
  let c1920 : Index := 1920#32
  ![0, v9640.toNat, 0, 1920]
def k0_off51 (k0_t1 : Fin k0_t1_loop.trips) : Fin 4 → Nat :=
  let c0_3168 : Index := 0#32
  let c0_i32_3 : BitVec 32 := 0#32
  let c1_i32 : BitVec 32 := 1#32
  let arg17 : BitVec 32 := Scf.iv c0_i32_3 c1_i32 k0_t1
  let v9816 : Index := Scalar.indexCast arg17
  let c0_3169 : Index := 0#32
  let c1920_3170 : Index := 1920#32
  ![0, v9816.toNat, 0, 1920]
def k0_off52 (k0_t1 : Fin k0_t1_loop.trips) : Fin 3 → Nat :=
  let c0_3272 : Index := 0#32
  let c0_i32_3 : BitVec 32 := 0#32
  let c1_i32 : BitVec 32 := 1#32
  let arg17 : BitVec 32 := Scf.iv c0_i32_3 c1_i32 k0_t1
  let v10288 : Index := Scalar.indexCast arg17
  let c1792_3273 : Index := 1792#32
  ![0, v10288.toNat, 1792]
def k0_cond3 (i : grid0.Coords) : BitVec 1 :=
  let arg1 : BitVec 32 := BitVec.ofNat 32 (i 1).val
  let c15_i32 : BitVec 32 := 15#32
  let v9 : BitVec 1 := Scalar.cmpi .eq arg1 c15_i32
  let v10 : BitVec 32 := Scalar.extui v9
  let c0_i32_2 : BitVec 32 := 0#32
  let v11 : BitVec 1 := Scalar.cmpi .ne v10 c0_i32_2
  v11

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (k0_off1_inb : ∀ i : grid0.Coords, ∀ a, (k0_off1 i) a + S1.size a ≤ S16.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_4 (k0_off1_inb : ∀ i : grid0.Coords, ∀ a, (k0_off1 i) a + S1.size a ≤ S16.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_5 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc0_transform_6 (k0_off1_inb : ∀ i : grid0.Coords, ∀ a, (k0_off1 i) a + S1.size a ≤ S16.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_7 (k0_off1_inb : ∀ i : grid0.Coords, ∀ a, (k0_off1 i) a + S1.size a ≤ S16.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c2048_i32 : BitVec 32 := 2048#32
  let v4 : BitVec 32 := Scalar.divsi v3 c2048_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2048_i32 c0_i32_2
  let v11 : BitVec 32 := Scalar.extui v10
  let c0_i32_3 : BitVec 32 := 0#32
  let v12 : BitVec 1 := Scalar.cmpi .slt c2048_i32 c0_i32_3
  let v13 : BitVec 32 := Scalar.extui v12
  let v14 : BitVec 32 := Scalar.subi v11 v13
  let v15 : BitVec 1 := Scalar.cmpi .ne v9 v14
  let v16 : BitVec 32 := Scalar.remsi v3 c2048_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, c0_i32_6.toNat, c0_i32_7.toNat, v21.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x64x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x4x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x4x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x32x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x32x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x4x2048 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x4x2048 .i16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x2x4x8x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x2x4x8x128 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x64x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S16x4x8192 : Shape := ⟨3, ![16, 4, 8192]⟩
abbrev S16x4x8x64 : Shape := ⟨4, ![16, 4, 8, 64]⟩
abbrev S16x32768x8x32 : Shape := ⟨4, ![16, 32768, 8, 32]⟩
abbrev S8x64x16 : Shape := ⟨3, ![8, 64, 16]⟩
abbrev S16x32768x8 : Shape := ⟨3, ![16, 32768, 8]⟩
abbrev S16 : Shape := ⟨1, ![16]⟩
abbrev S16x32768x8x4 : Shape := ⟨4, ![16, 32768, 8, 4]⟩
abbrev S32 : Shape := ⟨1, ![32]⟩
abbrev S_ : Shape := ⟨0, ![]⟩
abbrev S64 : Shape := ⟨1, ![64]⟩
abbrev S8x32x16 : Shape := ⟨3, ![8, 32, 16]⟩
abbrev S16x32768x8x64 : Shape := ⟨4, ![16, 32768, 8, 64]⟩
abbrev S8x64x1 : Shape := ⟨3, ![8, 64, 1]⟩
abbrev S8x64 : Shape := ⟨2, ![8, 64]⟩
abbrev S16x32768x8x1 : Shape := ⟨4, ![16, 32768, 8, 1]⟩
abbrev S1x1x1x64 : Shape := ⟨4, ![1, 1, 1, 64]⟩
abbrev S16x4x8x16x64 : Shape := ⟨5, ![16, 4, 8, 16, 64]⟩
abbrev S16x4x8x16x32 : Shape := ⟨5, ![16, 4, 8, 16, 32]⟩
abbrev S16x8x32768x4x16 : Shape := ⟨5, ![16, 8, 32768, 4, 16]⟩
abbrev S16x8x16x4x32768 : Shape := ⟨5, ![16, 8, 16, 4, 32768]⟩
abbrev S32768 : Shape := ⟨1, ![32768]⟩
abbrev S1x32768 : Shape := ⟨2, ![1, 32768]⟩
abbrev S16x1 : Shape := ⟨2, ![16, 1]⟩
abbrev S16x32768 : Shape := ⟨2, ![16, 32768]⟩
abbrev S16x1x1x1x32768 : Shape := ⟨5, ![16, 1, 1, 1, 32768]⟩
abbrev S4 : Shape := ⟨1, ![4]⟩
abbrev S1x4 : Shape := ⟨2, ![1, 4]⟩
abbrev S4x1 : Shape := ⟨2, ![4, 1]⟩
abbrev S4x4 : Shape := ⟨2, ![4, 4]⟩
abbrev S16x8x4x4x16 : Shape := ⟨5, ![16, 8, 4, 4, 16]⟩
abbrev S16x8x16x4x4 : Shape := ⟨5, ![16, 8, 16, 4, 4]⟩
abbrev S16x8x16x4 : Shape := ⟨4, ![16, 8, 16, 4]⟩
abbrev S16x8x16x4x1 : Shape := ⟨5, ![16, 8, 16, 4, 1]⟩
abbrev S16x8x32768 : Shape := ⟨3, ![16, 8, 32768]⟩
abbrev S16x8x1x1x32768 : Shape := ⟨5, ![16, 8, 1, 1, 32768]⟩
abbrev S16x8x64x16x4 : Shape := ⟨5, ![16, 8, 64, 16, 4]⟩
abbrev S16x4x8x16x32x1 : Shape := ⟨6, ![16, 4, 8, 16, 32, 1]⟩
abbrev S16x4x8x16x32x2 : Shape := ⟨6, ![16, 4, 8, 16, 32, 2]⟩

abbrev nBuf : Space → Nat
  | .hbm => 369
  | .vmem => 0
  | .smem => 0
  | _ => 0

abbrev hbmTy0_0 (i : Nat) : BufTy := match i % 128 with
  | 0 => ⟨S16x4x8192, .bf16⟩
  | 1 => ⟨S16x4x8x64, .bf16⟩
  | 2 => ⟨S16x4x8x64, .bf16⟩
  | 3 => ⟨S16x32768x8x32, .i8⟩
  | 4 => ⟨S16x32768x8x32, .i8⟩
  | 5 => ⟨S8x64x16, .i16⟩
  | 6 => ⟨S8x64x16, .i16⟩
  | 7 => ⟨S16x32768x8, .f32⟩
  | 8 => ⟨S16, .i32⟩
  | 9 => ⟨S16x32768x8x4, .i32⟩
  | 10 => ⟨S16x32768x8x4, .i16⟩
  | 11 => ⟨S8x64x16, .bf16⟩
  | 12 => ⟨S8x64x16, .bf16⟩
  | 13 => ⟨S16x32768x8x4, .bf16⟩
  | 14 => ⟨S32, .i32⟩
  | 15 => ⟨S_, .i32⟩
  | 16 => ⟨S32, .i32⟩
  | 17 => ⟨S32, .i32⟩
  | 18 => ⟨S_, .i32⟩
  | 19 => ⟨S32, .i32⟩
  | 20 => ⟨S32, .i32⟩
  | 21 => ⟨S64, .i32⟩
  | 22 => ⟨S8x32x16, .bf16⟩
  | 23 => ⟨S8x32x16, .bf16⟩
  | 24 => ⟨S8x64x16, .bf16⟩
  | 25 => ⟨S8x32x16, .bf16⟩
  | 26 => ⟨S8x32x16, .bf16⟩
  | 27 => ⟨S8x64x16, .bf16⟩
  | 28 => ⟨S16x32768x8x64, .i8⟩
  | 29 => ⟨S16x32768x8x64, .i32⟩
  | 30 => ⟨S64, .i32⟩
  | 31 => ⟨S_, .i32⟩
  | 32 => ⟨S64, .i32⟩
  | 33 => ⟨S64, .i1⟩
  | 34 => ⟨S_, .i32⟩
  | 35 => ⟨S16x32768x8x64, .i32⟩
  | 36 => ⟨S16x32768x8x64, .i32⟩
  | 37 => ⟨S_, .i32⟩
  | 38 => ⟨S16x32768x8x64, .i32⟩
  | 39 => ⟨S16x32768x8x64, .i32⟩
  | 40 => ⟨S16x32768x8x64, .i1⟩
  | 41 => ⟨S16x32768x8x64, .i32⟩
  | 42 => ⟨S8x64x1, .bf16⟩
  | 43 => ⟨S8x64, .bf16⟩
  | 44 => ⟨S8x64x1, .bf16⟩
  | 45 => ⟨S8x64, .bf16⟩
  | 46 => ⟨S8x64x1, .bf16⟩
  | 47 => ⟨S8x64, .bf16⟩
  | 48 => ⟨S8x64x1, .bf16⟩
  | 49 => ⟨S8x64, .bf16⟩
  | 50 => ⟨S8x64x1, .bf16⟩
  | 51 => ⟨S8x64, .bf16⟩
  | 52 => ⟨S8x64x1, .bf16⟩
  | 53 => ⟨S8x64, .bf16⟩
  | 54 => ⟨S8x64x1, .bf16⟩
  | 55 => ⟨S8x64, .bf16⟩
  | 56 => ⟨S8x64x1, .bf16⟩
  | 57 => ⟨S8x64, .bf16⟩
  | 58 => ⟨S8x64x1, .bf16⟩
  | 59 => ⟨S8x64, .bf16⟩
  | 60 => ⟨S8x64x1, .bf16⟩
  | 61 => ⟨S8x64, .bf16⟩
  | 62 => ⟨S8x64x1, .bf16⟩
  | 63 => ⟨S8x64, .bf16⟩
  | 64 => ⟨S8x64x1, .bf16⟩
  | 65 => ⟨S8x64, .bf16⟩
  | 66 => ⟨S8x64x1, .bf16⟩
  | 67 => ⟨S8x64, .bf16⟩
  | 68 => ⟨S8x64x1, .bf16⟩
  | 69 => ⟨S8x64, .bf16⟩
  | 70 => ⟨S8x64x1, .bf16⟩
  | 71 => ⟨S8x64, .bf16⟩
  | 72 => ⟨S8x64x1, .bf16⟩
  | 73 => ⟨S8x64, .bf16⟩
  | 74 => ⟨S_, .i32⟩
  | 75 => ⟨S16x32768x8x64, .i32⟩
  | 76 => ⟨S16x32768x8x64, .i32⟩
  | 77 => ⟨S_, .i32⟩
  | 78 => ⟨S16x32768x8x64, .i32⟩
  | 79 => ⟨S16x32768x8x64, .i32⟩
  | 80 => ⟨S_, .i32⟩
  | 81 => ⟨S16x32768x8x64, .i32⟩
  | 82 => ⟨S16x32768x8x64, .i1⟩
  | 83 => ⟨S16x32768x8x64, .bf16⟩
  | 84 => ⟨S16x32768x8x64, .bf16⟩
  | 85 => ⟨S16x32768x8x64, .bf16⟩
  | 86 => ⟨S16x32768x8x64, .bf16⟩
  | 87 => ⟨S16x32768x8x64, .bf16⟩
  | 88 => ⟨S16x32768x8x64, .bf16⟩
  | 89 => ⟨S16x32768x8x64, .bf16⟩
  | 90 => ⟨S16x32768x8x64, .bf16⟩
  | 91 => ⟨S16x32768x8x64, .bf16⟩
  | 92 => ⟨S16x32768x8x64, .bf16⟩
  | 93 => ⟨S16x32768x8x64, .bf16⟩
  | 94 => ⟨S16x32768x8x64, .bf16⟩
  | 95 => ⟨S16x32768x8x64, .bf16⟩
  | 96 => ⟨S16x32768x8x64, .bf16⟩
  | 97 => ⟨S16x32768x8x64, .bf16⟩
  | 98 => ⟨S16x32768x8x64, .bf16⟩
  | 99 => ⟨S16x32768x8x64, .bf16⟩
  | 100 => ⟨S16x32768x8x64, .bf16⟩
  | 101 => ⟨S16x32768x8x64, .bf16⟩
  | 102 => ⟨S16x32768x8x64, .bf16⟩
  | 103 => ⟨S16x32768x8x64, .bf16⟩
  | 104 => ⟨S16x32768x8x64, .bf16⟩
  | 105 => ⟨S16x32768x8x64, .bf16⟩
  | 106 => ⟨S16x32768x8x64, .bf16⟩
  | 107 => ⟨S_, .i32⟩
  | 108 => ⟨S16x32768x8x64, .i32⟩
  | 109 => ⟨S16x32768x8x64, .i32⟩
  | 110 => ⟨S_, .i32⟩
  | 111 => ⟨S16x32768x8x64, .i32⟩
  | 112 => ⟨S16x32768x8x64, .i32⟩
  | 113 => ⟨S_, .i32⟩
  | 114 => ⟨S16x32768x8x64, .i32⟩
  | 115 => ⟨S16x32768x8x64, .i1⟩
  | 116 => ⟨S16x32768x8x64, .bf16⟩
  | 117 => ⟨S16x32768x8x64, .bf16⟩
  | 118 => ⟨S16x32768x8x64, .bf16⟩
  | 119 => ⟨S16x32768x8x64, .bf16⟩
  | 120 => ⟨S_, .i32⟩
  | 121 => ⟨S16x32768x8x64, .i32⟩
  | 122 => ⟨S16x32768x8x64, .i32⟩
  | 123 => ⟨S_, .i32⟩
  | 124 => ⟨S16x32768x8x64, .i32⟩
  | 125 => ⟨S16x32768x8x64, .i32⟩
  | 126 => ⟨S_, .i32⟩
  | 127 => ⟨S16x32768x8x64, .i32⟩
  | _ => ⟨S16x4x8192, .bf16⟩

abbrev hbmTy0_1 (i : Nat) : BufTy := match i % 128 with
  | 0 => ⟨S16x32768x8x64, .i1⟩
  | 1 => ⟨S16x32768x8x64, .bf16⟩
  | 2 => ⟨S16x32768x8x64, .bf16⟩
  | 3 => ⟨S_, .i32⟩
  | 4 => ⟨S16x32768x8x64, .i32⟩
  | 5 => ⟨S16x32768x8x64, .i32⟩
  | 6 => ⟨S_, .i32⟩
  | 7 => ⟨S16x32768x8x64, .i32⟩
  | 8 => ⟨S16x32768x8x64, .i32⟩
  | 9 => ⟨S_, .i32⟩
  | 10 => ⟨S16x32768x8x64, .i32⟩
  | 11 => ⟨S16x32768x8x64, .i1⟩
  | 12 => ⟨S16x32768x8x64, .bf16⟩
  | 13 => ⟨S16x32768x8x1, .i32⟩
  | 14 => ⟨S1x1x1x64, .i32⟩
  | 15 => ⟨S16x32768x8x64, .i32⟩
  | 16 => ⟨S16x32768x8x64, .i32⟩
  | 17 => ⟨S16x32768x8x64, .i1⟩
  | 18 => ⟨S16x32768x8x1, .bf16⟩
  | 19 => ⟨S16x32768x8x64, .bf16⟩
  | 20 => ⟨S16x32768x8x64, .bf16⟩
  | 21 => ⟨S16x32768x8x1, .i32⟩
  | 22 => ⟨S1x1x1x64, .i32⟩
  | 23 => ⟨S16x32768x8x64, .i32⟩
  | 24 => ⟨S16x32768x8x64, .i32⟩
  | 25 => ⟨S16x32768x8x64, .i1⟩
  | 26 => ⟨S16x32768x8x1, .bf16⟩
  | 27 => ⟨S16x32768x8x64, .bf16⟩
  | 28 => ⟨S16x32768x8x64, .bf16⟩
  | 29 => ⟨S16x32768x8x1, .i32⟩
  | 30 => ⟨S1x1x1x64, .i32⟩
  | 31 => ⟨S16x32768x8x64, .i32⟩
  | 32 => ⟨S16x32768x8x64, .i32⟩
  | 33 => ⟨S16x32768x8x64, .i1⟩
  | 34 => ⟨S16x32768x8x1, .bf16⟩
  | 35 => ⟨S16x32768x8x64, .bf16⟩
  | 36 => ⟨S16x32768x8x64, .bf16⟩
  | 37 => ⟨S16x32768x8x1, .i32⟩
  | 38 => ⟨S1x1x1x64, .i32⟩
  | 39 => ⟨S16x32768x8x64, .i32⟩
  | 40 => ⟨S16x32768x8x64, .i32⟩
  | 41 => ⟨S16x32768x8x64, .i1⟩
  | 42 => ⟨S16x32768x8x1, .bf16⟩
  | 43 => ⟨S16x32768x8x64, .bf16⟩
  | 44 => ⟨S16x32768x8x64, .bf16⟩
  | 45 => ⟨S16x32768x8x64, .i8⟩
  | 46 => ⟨S16x32768x8x64, .i32⟩
  | 47 => ⟨S64, .i32⟩
  | 48 => ⟨S_, .i32⟩
  | 49 => ⟨S64, .i32⟩
  | 50 => ⟨S64, .i1⟩
  | 51 => ⟨S_, .i32⟩
  | 52 => ⟨S16x32768x8x64, .i32⟩
  | 53 => ⟨S16x32768x8x64, .i32⟩
  | 54 => ⟨S_, .i32⟩
  | 55 => ⟨S16x32768x8x64, .i32⟩
  | 56 => ⟨S16x32768x8x64, .i32⟩
  | 57 => ⟨S16x32768x8x64, .i1⟩
  | 58 => ⟨S16x32768x8x64, .i32⟩
  | 59 => ⟨S8x64x1, .bf16⟩
  | 60 => ⟨S8x64, .bf16⟩
  | 61 => ⟨S8x64x1, .bf16⟩
  | 62 => ⟨S8x64, .bf16⟩
  | 63 => ⟨S8x64x1, .bf16⟩
  | 64 => ⟨S8x64, .bf16⟩
  | 65 => ⟨S8x64x1, .bf16⟩
  | 66 => ⟨S8x64, .bf16⟩
  | 67 => ⟨S8x64x1, .bf16⟩
  | 68 => ⟨S8x64, .bf16⟩
  | 69 => ⟨S8x64x1, .bf16⟩
  | 70 => ⟨S8x64, .bf16⟩
  | 71 => ⟨S8x64x1, .bf16⟩
  | 72 => ⟨S8x64, .bf16⟩
  | 73 => ⟨S8x64x1, .bf16⟩
  | 74 => ⟨S8x64, .bf16⟩
  | 75 => ⟨S8x64x1, .bf16⟩
  | 76 => ⟨S8x64, .bf16⟩
  | 77 => ⟨S8x64x1, .bf16⟩
  | 78 => ⟨S8x64, .bf16⟩
  | 79 => ⟨S8x64x1, .bf16⟩
  | 80 => ⟨S8x64, .bf16⟩
  | 81 => ⟨S8x64x1, .bf16⟩
  | 82 => ⟨S8x64, .bf16⟩
  | 83 => ⟨S8x64x1, .bf16⟩
  | 84 => ⟨S8x64, .bf16⟩
  | 85 => ⟨S8x64x1, .bf16⟩
  | 86 => ⟨S8x64, .bf16⟩
  | 87 => ⟨S8x64x1, .bf16⟩
  | 88 => ⟨S8x64, .bf16⟩
  | 89 => ⟨S8x64x1, .bf16⟩
  | 90 => ⟨S8x64, .bf16⟩
  | 91 => ⟨S_, .i32⟩
  | 92 => ⟨S16x32768x8x64, .i32⟩
  | 93 => ⟨S16x32768x8x64, .i32⟩
  | 94 => ⟨S_, .i32⟩
  | 95 => ⟨S16x32768x8x64, .i32⟩
  | 96 => ⟨S16x32768x8x64, .i32⟩
  | 97 => ⟨S_, .i32⟩
  | 98 => ⟨S16x32768x8x64, .i32⟩
  | 99 => ⟨S16x32768x8x64, .i1⟩
  | 100 => ⟨S16x32768x8x64, .bf16⟩
  | 101 => ⟨S16x32768x8x64, .bf16⟩
  | 102 => ⟨S16x32768x8x64, .bf16⟩
  | 103 => ⟨S16x32768x8x64, .bf16⟩
  | 104 => ⟨S16x32768x8x64, .bf16⟩
  | 105 => ⟨S16x32768x8x64, .bf16⟩
  | 106 => ⟨S16x32768x8x64, .bf16⟩
  | 107 => ⟨S16x32768x8x64, .bf16⟩
  | 108 => ⟨S16x32768x8x64, .bf16⟩
  | 109 => ⟨S16x32768x8x64, .bf16⟩
  | 110 => ⟨S16x32768x8x64, .bf16⟩
  | 111 => ⟨S16x32768x8x64, .bf16⟩
  | 112 => ⟨S16x32768x8x64, .bf16⟩
  | 113 => ⟨S16x32768x8x64, .bf16⟩
  | 114 => ⟨S16x32768x8x64, .bf16⟩
  | 115 => ⟨S16x32768x8x64, .bf16⟩
  | 116 => ⟨S16x32768x8x64, .bf16⟩
  | 117 => ⟨S16x32768x8x64, .bf16⟩
  | 118 => ⟨S16x32768x8x64, .bf16⟩
  | 119 => ⟨S16x32768x8x64, .bf16⟩
  | 120 => ⟨S16x32768x8x64, .bf16⟩
  | 121 => ⟨S16x32768x8x64, .bf16⟩
  | 122 => ⟨S16x32768x8x64, .bf16⟩
  | 123 => ⟨S16x32768x8x64, .bf16⟩
  | 124 => ⟨S_, .i32⟩
  | 125 => ⟨S16x32768x8x64, .i32⟩
  | 126 => ⟨S16x32768x8x64, .i32⟩
  | 127 => ⟨S_, .i32⟩
  | _ => ⟨S16x4x8192, .bf16⟩

abbrev hbmTy0_2 (i : Nat) : BufTy := match i % 128 with
  | 0 => ⟨S16x32768x8x64, .i32⟩
  | 1 => ⟨S16x32768x8x64, .i32⟩
  | 2 => ⟨S_, .i32⟩
  | 3 => ⟨S16x32768x8x64, .i32⟩
  | 4 => ⟨S16x32768x8x64, .i1⟩
  | 5 => ⟨S16x32768x8x64, .bf16⟩
  | 6 => ⟨S16x32768x8x64, .bf16⟩
  | 7 => ⟨S16x32768x8x64, .bf16⟩
  | 8 => ⟨S16x32768x8x64, .bf16⟩
  | 9 => ⟨S_, .i32⟩
  | 10 => ⟨S16x32768x8x64, .i32⟩
  | 11 => ⟨S16x32768x8x64, .i32⟩
  | 12 => ⟨S_, .i32⟩
  | 13 => ⟨S16x32768x8x64, .i32⟩
  | 14 => ⟨S16x32768x8x64, .i32⟩
  | 15 => ⟨S_, .i32⟩
  | 16 => ⟨S16x32768x8x64, .i32⟩
  | 17 => ⟨S16x32768x8x64, .i1⟩
  | 18 => ⟨S16x32768x8x64, .bf16⟩
  | 19 => ⟨S16x32768x8x64, .bf16⟩
  | 20 => ⟨S_, .i32⟩
  | 21 => ⟨S16x32768x8x64, .i32⟩
  | 22 => ⟨S16x32768x8x64, .i32⟩
  | 23 => ⟨S_, .i32⟩
  | 24 => ⟨S16x32768x8x64, .i32⟩
  | 25 => ⟨S16x32768x8x64, .i32⟩
  | 26 => ⟨S_, .i32⟩
  | 27 => ⟨S16x32768x8x64, .i32⟩
  | 28 => ⟨S16x32768x8x64, .i1⟩
  | 29 => ⟨S16x32768x8x64, .bf16⟩
  | 30 => ⟨S16x4x8x16x64, .bf16⟩
  | 31 => ⟨S16x4x8x16x32, .bf16⟩
  | 32 => ⟨S16x4x8x16x32, .bf16⟩
  | 33 => ⟨S16x4x8x16x64, .bf16⟩
  | 34 => ⟨S16x8x32768x4x16, .f32⟩
  | 35 => ⟨S16x8x16x4x32768, .f32⟩
  | 36 => ⟨S_, .f32⟩
  | 37 => ⟨S16x8x16x4x32768, .f32⟩
  | 38 => ⟨S16x8x16x4x32768, .f32⟩
  | 39 => ⟨S32768, .i32⟩
  | 40 => ⟨S1x32768, .i32⟩
  | 41 => ⟨S16x1, .i32⟩
  | 42 => ⟨S16x32768, .i32⟩
  | 43 => ⟨S16x32768, .i32⟩
  | 44 => ⟨S16x32768, .i1⟩
  | 45 => ⟨S16x1x1x1x32768, .i1⟩
  | 46 => ⟨S_, .f32⟩
  | 47 => ⟨S_, .f32⟩
  | 48 => ⟨S16x8x16x4x32768, .i1⟩
  | 49 => ⟨S16x8x16x4x32768, .f32⟩
  | 50 => ⟨S16x8x16x4x32768, .f32⟩
  | 51 => ⟨S4, .i32⟩
  | 52 => ⟨S1x4, .i32⟩
  | 53 => ⟨S4, .i32⟩
  | 54 => ⟨S4x1, .i32⟩
  | 55 => ⟨S4x4, .i32⟩
  | 56 => ⟨S4x4, .i32⟩
  | 57 => ⟨S4x4, .i1⟩
  | 58 => ⟨S16x8x4x4x16, .f32⟩
  | 59 => ⟨S16x8x16x4x4, .f32⟩
  | 60 => ⟨S_, .f32⟩
  | 61 => ⟨S16x8x16x4x4, .f32⟩
  | 62 => ⟨S16x8x16x4x4, .f32⟩
  | 63 => ⟨S_, .f32⟩
  | 64 => ⟨S_, .f32⟩
  | 65 => ⟨S16x8x16x4x4, .i1⟩
  | 66 => ⟨S16x8x16x4x4, .f32⟩
  | 67 => ⟨S16x8x16x4x4, .f32⟩
  | 68 => ⟨S_, .f32⟩
  | 69 => ⟨S16x8x16x4, .f32⟩
  | 70 => ⟨S16x8x16x4x1, .f32⟩
  | 71 => ⟨S_, .f32⟩
  | 72 => ⟨S16x8x16x4, .f32⟩
  | 73 => ⟨S16x8x16x4x1, .f32⟩
  | 74 => ⟨S16x8x16x4x1, .f32⟩
  | 75 => ⟨S16x8x16x4x32768, .f32⟩
  | 76 => ⟨S16x8x16x4x32768, .f32⟩
  | 77 => ⟨S16x8x16x4x32768, .f32⟩
  | 78 => ⟨S16x8x16x4x4, .f32⟩
  | 79 => ⟨S16x8x16x4x4, .f32⟩
  | 80 => ⟨S16x8x16x4x4, .f32⟩
  | 81 => ⟨S_, .f32⟩
  | 82 => ⟨S16x8x16x4, .f32⟩
  | 83 => ⟨S16x8x16x4x1, .f32⟩
  | 84 => ⟨S_, .f32⟩
  | 85 => ⟨S16x8x16x4, .f32⟩
  | 86 => ⟨S16x8x16x4x1, .f32⟩
  | 87 => ⟨S16x8x16x4x1, .f32⟩
  | 88 => ⟨S16x8x32768, .f32⟩
  | 89 => ⟨S16x8x1x1x32768, .f32⟩
  | 90 => ⟨S16x8x16x4x32768, .f32⟩
  | 91 => ⟨S16x8x16x4x32768, .f32⟩
  | 92 => ⟨S16x8x16x4x32768, .f32⟩
  | 93 => ⟨S16x8x16x4x32768, .f32⟩
  | 94 => ⟨S16x8x16x4x32768, .bf16⟩
  | 95 => ⟨S16x8x16x4x4, .f32⟩
  | 96 => ⟨S16x8x16x4x4, .f32⟩
  | 97 => ⟨S16x8x16x4x4, .bf16⟩
  | 98 => ⟨S16x8x64x16x4, .f32⟩
  | 99 => ⟨S16x4x8x16x64, .f32⟩
  | 100 => ⟨S16x8x64x16x4, .f32⟩
  | 101 => ⟨S16x4x8x16x64, .f32⟩
  | 102 => ⟨S16x4x8x16x32, .f32⟩
  | 103 => ⟨S16x4x8x16x32, .f32⟩
  | 104 => ⟨S16x4x8x16x32, .f32⟩
  | 105 => ⟨S16x4x8x16x32, .f32⟩
  | 106 => ⟨S16x4x8x16x32, .f32⟩
  | 107 => ⟨S16x4x8x16x32, .f32⟩
  | 108 => ⟨S16x4x8x16x32x1, .f32⟩
  | 109 => ⟨S16x4x8x16x32x1, .f32⟩
  | 110 => ⟨S16x4x8x16x32x2, .f32⟩
  | 111 => ⟨S16x4x8192, .f32⟩
  | 112 => ⟨S16x4x8192, .bf16⟩
  | _ => ⟨S16x4x8192, .bf16⟩

abbrev hbmTy (i : Nat) : BufTy := match i / 128 with
  | 0 => hbmTy0_0 i
  | 1 => hbmTy0_1 i
  | 2 => hbmTy0_2 i
  | _ => ⟨S16x4x8192, .bf16⟩

abbrev bufTy : (tb : Table) → Fin (tcTables nBuf tb) → BufTy
  | .hbm, ⟨i, _⟩ => hbmTy i
  | _, _ => ⟨S16x4x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_4 : Ref sig .tc := ⟨.hbm, 74, rfl⟩
abbrev main_v57 : Ref sig .tc := ⟨.hbm, 75, rfl⟩
abbrev main_v58 : Ref sig .tc := ⟨.hbm, 76, rfl⟩
abbrev main_c_5 : Ref sig .tc := ⟨.hbm, 77, rfl⟩
abbrev main_v59 : Ref sig .tc := ⟨.hbm, 78, rfl⟩
abbrev main_v60 : Ref sig .tc := ⟨.hbm, 79, rfl⟩
abbrev main_c_6 : Ref sig .tc := ⟨.hbm, 80, rfl⟩
abbrev main_v61 : Ref sig .tc := ⟨.hbm, 81, rfl⟩
abbrev main_v62 : Ref sig .tc := ⟨.hbm, 82, rfl⟩
abbrev main_call1_v0 : Ref sig .tc := ⟨.hbm, 83, rfl⟩
abbrev main_call1_v1 : Ref sig .tc := ⟨.hbm, 84, rfl⟩
abbrev main_v63 : Ref sig .tc := ⟨.hbm, 85, rfl⟩
abbrev main_call2_v0 : Ref sig .tc := ⟨.hbm, 86, rfl⟩
abbrev main_call2_v1 : Ref sig .tc := ⟨.hbm, 87, rfl⟩
abbrev main_v64 : Ref sig .tc := ⟨.hbm, 88, rfl⟩
abbrev main_call3_v0 : Ref sig .tc := ⟨.hbm, 89, rfl⟩
abbrev main_call3_v1 : Ref sig .tc := ⟨.hbm, 90, rfl⟩
abbrev main_v65 : Ref sig .tc := ⟨.hbm, 91, rfl⟩
abbrev main_call4_v0 : Ref sig .tc := ⟨.hbm, 92, rfl⟩
abbrev main_call4_v1 : Ref sig .tc := ⟨.hbm, 93, rfl⟩
abbrev main_v66 : Ref sig .tc := ⟨.hbm, 94, rfl⟩
abbrev main_call5_v0 : Ref sig .tc := ⟨.hbm, 95, rfl⟩
abbrev main_call5_v1 : Ref sig .tc := ⟨.hbm, 96, rfl⟩
abbrev main_v67 : Ref sig .tc := ⟨.hbm, 97, rfl⟩
abbrev main_call6_v0 : Ref sig .tc := ⟨.hbm, 98, rfl⟩
abbrev main_call6_v1 : Ref sig .tc := ⟨.hbm, 99, rfl⟩
abbrev main_v68 : Ref sig .tc := ⟨.hbm, 100, rfl⟩
abbrev main_call7_v0 : Ref sig .tc := ⟨.hbm, 101, rfl⟩
abbrev main_call7_v1 : Ref sig .tc := ⟨.hbm, 102, rfl⟩
abbrev main_v69 : Ref sig .tc := ⟨.hbm, 103, rfl⟩
abbrev main_call8_v0 : Ref sig .tc := ⟨.hbm, 104, rfl⟩
abbrev main_call8_v1 : Ref sig .tc := ⟨.hbm, 105, rfl⟩
abbrev main_v70 : Ref sig .tc := ⟨.hbm, 106, rfl⟩
abbrev main_c_7 : Ref sig .tc := ⟨.hbm, 107, rfl⟩
abbrev main_v71 : Ref sig .tc := ⟨.hbm, 108, rfl⟩
abbrev main_v72 : Ref sig .tc := ⟨.hbm, 109, rfl⟩
abbrev main_c_8 : Ref sig .tc := ⟨.hbm, 110, rfl⟩
abbrev main_v73 : Ref sig .tc := ⟨.hbm, 111, rfl⟩
abbrev main_v74 : Ref sig .tc := ⟨.hbm, 112, rfl⟩
abbrev main_c_9 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_10 : Ref sig .tc := ⟨.hbm, 120, rfl⟩
abbrev main_v81 : Ref sig .tc := ⟨.hbm, 121, rfl⟩
abbrev main_v82 : Ref sig .tc := ⟨.hbm, 122, rfl⟩
abbrev main_c_11 : Ref sig .tc := ⟨.hbm, 123, rfl⟩
abbrev main_v83 : Ref sig .tc := ⟨.hbm, 124, rfl⟩
abbrev main_v84 : Ref sig .tc := ⟨.hbm, 125, rfl⟩
abbrev main_c_12 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_13 : Ref sig .tc := ⟨.hbm, 131, rfl⟩
abbrev main_v89 : Ref sig .tc := ⟨.hbm, 132, rfl⟩
abbrev main_v90 : Ref sig .tc := ⟨.hbm, 133, rfl⟩
abbrev main_c_14 : Ref sig .tc := ⟨.hbm, 134, rfl⟩
abbrev main_v91 : Ref sig .tc := ⟨.hbm, 135, rfl⟩
abbrev main_v92 : Ref sig .tc := ⟨.hbm, 136, rfl⟩
abbrev main_c_15 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_call16_v0 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_call17_v0 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_call18_v0 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_call19_v0 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_c_16 : Ref sig .tc := ⟨.hbm, 176, rfl⟩
abbrev main_v127 : Ref sig .tc := ⟨.hbm, 177, rfl⟩
abbrev main_v128 : Ref sig .tc := ⟨.hbm, 178, rfl⟩
abbrev main_c_17 : Ref sig .tc := ⟨.hbm, 179, rfl⟩
abbrev main_v129 : Ref sig .tc := ⟨.hbm, 180, rfl⟩
abbrev main_v130 : Ref sig .tc := ⟨.hbm, 181, rfl⟩
abbrev main_c_18 : Ref sig .tc := ⟨.hbm, 182, rfl⟩
abbrev main_v131 : Ref sig .tc := ⟨.hbm, 183, rfl⟩
abbrev main_v132 : Ref sig .tc := ⟨.hbm, 184, rfl⟩
abbrev main_call20_v0 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_c_19 : Ref sig .tc := ⟨.hbm, 219, rfl⟩
abbrev main_v166 : Ref sig .tc := ⟨.hbm, 220, rfl⟩
abbrev main_v167 : Ref sig .tc := ⟨.hbm, 221, rfl⟩
abbrev main_c_20 : Ref sig .tc := ⟨.hbm, 222, rfl⟩
abbrev main_v168 : Ref sig .tc := ⟨.hbm, 223, rfl⟩
abbrev main_v169 : Ref sig .tc := ⟨.hbm, 224, rfl⟩
abbrev main_c_21 : Ref sig .tc := ⟨.hbm, 225, rfl⟩
abbrev main_v170 : Ref sig .tc := ⟨.hbm, 226, rfl⟩
abbrev main_v171 : Ref sig .tc := ⟨.hbm, 227, rfl⟩
abbrev main_call21_v0 : Ref sig .tc := ⟨.hbm, 228, rfl⟩
abbrev main_call21_v1 : Ref sig .tc := ⟨.hbm, 229, rfl⟩
abbrev main_v172 : Ref sig .tc := ⟨.hbm, 230, rfl⟩
abbrev main_call22_v0 : Ref sig .tc := ⟨.hbm, 231, rfl⟩
abbrev main_call22_v1 : Ref sig .tc := ⟨.hbm, 232, rfl⟩
abbrev main_v173 : Ref sig .tc := ⟨.hbm, 233, rfl⟩
abbrev main_call23_v0 : Ref sig .tc := ⟨.hbm, 234, rfl⟩
abbrev main_call23_v1 : Ref sig .tc := ⟨.hbm, 235, rfl⟩
abbrev main_v174 : Ref sig .tc := ⟨.hbm, 236, rfl⟩
abbrev main_call24_v0 : Ref sig .tc := ⟨.hbm, 237, rfl⟩
abbrev main_call24_v1 : Ref sig .tc := ⟨.hbm, 238, rfl⟩
abbrev main_v175 : Ref sig .tc := ⟨.hbm, 239, rfl⟩
abbrev main_call25_v0 : Ref sig .tc := ⟨.hbm, 240, rfl⟩
abbrev main_call25_v1 : Ref sig .tc := ⟨.hbm, 241, rfl⟩
abbrev main_v176 : Ref sig .tc := ⟨.hbm, 242, rfl⟩
abbrev main_call26_v0 : Ref sig .tc := ⟨.hbm, 243, rfl⟩
abbrev main_call26_v1 : Ref sig .tc := ⟨.hbm, 244, rfl⟩
abbrev main_v177 : Ref sig .tc := ⟨.hbm, 245, rfl⟩
abbrev main_call27_v0 : Ref sig .tc := ⟨.hbm, 246, rfl⟩
abbrev main_call27_v1 : Ref sig .tc := ⟨.hbm, 247, rfl⟩
abbrev main_v178 : Ref sig .tc := ⟨.hbm, 248, rfl⟩
abbrev main_call28_v0 : Ref sig .tc := ⟨.hbm, 249, rfl⟩
abbrev main_call28_v1 : Ref sig .tc := ⟨.hbm, 250, rfl⟩
abbrev main_v179 : Ref sig .tc := ⟨.hbm, 251, rfl⟩
abbrev main_c_22 : Ref sig .tc := ⟨.hbm, 252, rfl⟩
abbrev main_v180 : Ref sig .tc := ⟨.hbm, 253, rfl⟩
abbrev main_v181 : Ref sig .tc := ⟨.hbm, 254, rfl⟩
abbrev main_c_23 : Ref sig .tc := ⟨.hbm, 255, rfl⟩
abbrev main_v182 : Ref sig .tc := ⟨.hbm, 256, rfl⟩
abbrev main_v183 : Ref sig .tc := ⟨.hbm, 257, rfl⟩
abbrev main_c_24 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_c_25 : Ref sig .tc := ⟨.hbm, 265, rfl⟩
abbrev main_v190 : Ref sig .tc := ⟨.hbm, 266, rfl⟩
abbrev main_v191 : Ref sig .tc := ⟨.hbm, 267, rfl⟩
abbrev main_c_26 : Ref sig .tc := ⟨.hbm, 268, rfl⟩
abbrev main_v192 : Ref sig .tc := ⟨.hbm, 269, rfl⟩
abbrev main_v193 : Ref sig .tc := ⟨.hbm, 270, rfl⟩
abbrev main_c_27 : Ref sig .tc := ⟨.hbm, 271, rfl⟩
abbrev main_v194 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_c_28 : Ref sig .tc := ⟨.hbm, 276, rfl⟩
abbrev main_v198 : Ref sig .tc := ⟨.hbm, 277, rfl⟩
abbrev main_v199 : Ref sig .tc := ⟨.hbm, 278, rfl⟩
abbrev main_c_29 : Ref sig .tc := ⟨.hbm, 279, rfl⟩
abbrev main_v200 : Ref sig .tc := ⟨.hbm, 280, rfl⟩
abbrev main_v201 : Ref sig .tc := ⟨.hbm, 281, rfl⟩
abbrev main_c_30 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_cst : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_cst_31 : Ref sig .tc := ⟨.hbm, 302, rfl⟩
abbrev main_call36_v0 : Ref sig .tc := ⟨.hbm, 303, rfl⟩
abbrev main_call36_v1 : Ref sig .tc := ⟨.hbm, 304, rfl⟩
abbrev main_call36_v2 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_cst_32 : Ref sig .tc := ⟨.hbm, 316, rfl⟩
abbrev main_v230 : Ref sig .tc := ⟨.hbm, 317, rfl⟩
abbrev main_v231 : Ref sig .tc := ⟨.hbm, 318, rfl⟩
abbrev main_cst_33 : Ref sig .tc := ⟨.hbm, 319, rfl⟩
abbrev main_call37_v0 : Ref sig .tc := ⟨.hbm, 320, rfl⟩
abbrev main_call37_v1 : Ref sig .tc := ⟨.hbm, 321, rfl⟩
abbrev main_call37_v2 : Ref sig .tc := ⟨.hbm, 322, rfl⟩
abbrev main_v232 : Ref sig .tc := ⟨.hbm, 323, rfl⟩
abbrev main_cst_34 : Ref sig .tc := ⟨.hbm, 324, rfl⟩
abbrev main_v233 : Ref sig .tc := ⟨.hbm, 325, rfl⟩
abbrev main_v234 : Ref sig .tc := ⟨.hbm, 326, rfl⟩
abbrev main_cst_35 : Ref sig .tc := ⟨.hbm, 327, rfl⟩
abbrev main_v235 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev main_cst_36 : Ref sig .tc := ⟨.hbm, 337, rfl⟩
abbrev main_v244 : Ref sig .tc := ⟨.hbm, 338, rfl⟩
abbrev main_v245 : Ref sig .tc := ⟨.hbm, 339, rfl⟩
abbrev main_cst_37 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_v249 : Ref sig .tc := ⟨.hbm, 344, rfl⟩
abbrev main_v250 : Ref sig .tc := ⟨.hbm, 345, rfl⟩
abbrev main_v251 : Ref sig .tc := ⟨.hbm, 346, rfl⟩
abbrev main_v252 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev main_v256 : Ref sig .tc := ⟨.hbm, 351, rfl⟩
abbrev main_v257 : Ref sig .tc := ⟨.hbm, 352, rfl⟩
abbrev main_v258 : Ref sig .tc := ⟨.hbm, 353, rfl⟩
abbrev main_v259 : Ref sig .tc := ⟨.hbm, 354, rfl⟩
abbrev main_v260 : Ref sig .tc := ⟨.hbm, 355, rfl⟩
abbrev main_v261 : Ref sig .tc := ⟨.hbm, 356, rfl⟩
abbrev main_v262 : Ref sig .tc := ⟨.hbm, 357, rfl⟩
abbrev main_v263 : Ref sig .tc := ⟨.hbm, 358, rfl⟩
abbrev main_v264 : Ref sig .tc := ⟨.hbm, 359, rfl⟩
abbrev main_v265 : Ref sig .tc := ⟨.hbm, 360, rfl⟩
abbrev main_v266 : Ref sig .tc := ⟨.hbm, 361, rfl⟩
abbrev main_v267 : Ref sig .tc := ⟨.hbm, 362, rfl⟩
abbrev main_v268 : Ref sig .tc := ⟨.hbm, 363, rfl⟩
abbrev main_v269 : Ref sig .tc := ⟨.hbm, 364, rfl⟩
abbrev main_v270 : Ref sig .tc := ⟨.hbm, 365, rfl⟩
abbrev main_v271 : Ref sig .tc := ⟨.hbm, 366, rfl⟩
abbrev main_v272 : Ref sig .tc := ⟨.hbm, 367, rfl⟩
abbrev main_v273 : Ref sig .tc := ⟨.hbm, 368, rfl⟩

abbrev nD : Nat := 1
abbrev τ : Topo := Topo.v7x

variable {F : FTy → Type} [FloatOps F]
-- ==== Proof.Table.lean ====
/- The block an index map picks from the table of lengths, as arithmetic on words: the floor division by 2048 of
   `max (n - 1) 0`, and its minimum with the grid coordinate, always one of the sixteen blocks. -/
module

public import Idealize.ShloMosaic.Lib.Affine
public import Idealize.ShloMosaic.PureOps

@[expose] public section

noncomputable section

namespace Cert.Table

open Idealize.ShloMosaic

/-- Floor division by 2048 as the index maps spell it. -/
def fdiv (x : BitVec 32) : BitVec 32 :=
  Scalar.select
    (Scalar.andi
      (Scalar.cmpi .ne
        (Scalar.subi (Scalar.extui (Scalar.cmpi .sgt x 0#32)) (Scalar.extui (Scalar.cmpi .slt x 0#32)))
        (Scalar.subi (Scalar.extui (Scalar.cmpi .sgt 2048#32 0#32)) (Scalar.extui (Scalar.cmpi .slt 2048#32 0#32))))
      (Scalar.cmpi .ne (Scalar.remsi x 2048#32) 0#32))
    (Scalar.subi (Scalar.divsi x 2048#32) 1#32) (Scalar.divsi x 2048#32)

theorem isInt_2048 : Affine.IsInt 2048#32 2048 := Affine.ofNat 2048 (by omega)
theorem isInt_0 : Affine.IsInt 0#32 0 := Affine.ofNat 0 (by omega)
theorem isInt_1 : Affine.IsInt 1#32 1 := Affine.ofNat 1 (by omega)

theorem fdiv_isInt {x : BitVec 32} {e : Int} (hx : Affine.IsInt x e) (h : 0 ≤ e) : Affine.IsInt (fdiv x) (e / 2048) := by
  have hd : Affine.IsInt (Scalar.divsi x 2048#32) (e / 2048) := Affine.divsi hx isInt_2048 ⟨rfl, h, by omega⟩
  have hr : Affine.IsInt (Scalar.remsi x 2048#32) (e % 2048) := Affine.remsi hx isInt_2048 ⟨rfl, h, by omega⟩
  unfold fdiv Scalar.select
  rw [if_neg]
  · exact hd
  · intro hc
    rcases Nat.eq_zero_or_pos e.toNat with h0 | h0
    · have he : e = 0 := by omega
      subst he
      exact Affine.andi_fails_right (c := Scalar.cmpi .ne
        (Scalar.subi (Scalar.extui (Scalar.cmpi .sgt x 0#32)) (Scalar.extui (Scalar.cmpi .slt x 0#32)))
        (Scalar.subi (Scalar.extui (Scalar.cmpi .sgt 2048#32 0#32)) (Scalar.extui (Scalar.cmpi .slt 2048#32 0#32)))) trivial
        (Affine.ne_fails hr isInt_0 (by omega)) hc
    · have a1 : Scalar.cmpi .sgt x 0#32 = 1#1 := Affine.sgt_holds hx isInt_0 (by omega)
      have a2 : Scalar.cmpi .slt x 0#32 = 0#1 := by
        have : ¬ Scalar.cmpi .slt x 0#32 = 1#1 := Affine.slt_fails hx isInt_0 (by omega)
        rcases BitVec.eq_zero_or_eq_one (Scalar.cmpi .slt x 0#32) with h' | h'
        · exact h'
        · exact absurd h' this
      rw [a1, a2] at hc
      revert hc
      generalize Scalar.cmpi .ne (Scalar.remsi x 2048#32) 0#32 = d
      revert d; decide

/-- The block of grid coordinate `i` when the table holds `n`. -/
def blkW (n : BitVec 32) (i : ℕ) : BitVec 32 :=
  Scalar.minsi (BitVec.ofNat 32 i) (fdiv (Scalar.maxsi (Scalar.subi n 1#32) 0#32))

theorem blkW_isInt (n : BitVec 32) (i : ℕ) (hi : i < 16) :
    Affine.IsInt (blkW n i) (min (i : Int) (max (Scalar.subi n 1#32).toInt 0 / 2048)) :=
  Affine.minsi (Affine.ofNat i (by omega))
    (fdiv_isInt (Affine.maxsi (Affine.word _) isInt_0 rfl) (by omega)) rfl

/-- It is one of the sixteen blocks. -/
theorem blkW_lt (n : BitVec 32) (i : ℕ) (hi : i < 16) : (blkW n i).toNat < 16 :=
  Affine.nat_lt (blkW_isInt n i hi) 16 (by omega)

/-- A coordinate whose block starts before the length picks its own block. -/
theorem blkW_eq (n : BitVec 32) (i : ℕ) (hi : i < 16) (h : (i : Int) * 2048 < n.toInt) : (blkW n i).toNat = i := by
  refine Affine.nat_eq (blkW_isInt n i hi) i ?_
  have hn := Affine.word_range n
  have : (Scalar.subi n 1#32).toInt = n.toInt - 1 :=
    Affine.unique (Affine.word _) (Affine.subi (Affine.word n) isInt_1 ⟨rfl, by omega, by omega⟩)
  rw [this]; omega

end Cert.Table

end
-- ==== Proof.KernelOk.lean ====
/- `Kernel`: every window whose index map reads the table of lengths stays inside its array, whatever the table holds. -/
module

public import proofs.«01_k».proof.Proof.Gen.Kernel.Frame
public import proofs.«01_k».proof.Proof.Table

@[expose] public section

noncomputable section

namespace Cert.Kernel.Gen

open Idealize.ShloMosaic Idealize.ShloMosaic.TcCoe

variable {F : FTy → Type} [FloatOps F]
variable (m : (ℓ : Loc nD τ sig) → Buf (Elt F) ℓ)

/-- The table's word for the batch of the point `i`. -/
def lenAt (pf : pre0.Contents (Elt F)) (i : grid0.Coords) : BitVec 32 :=
  pf.at 0 (Rect.unit (s := S16) (k0_off1 i) S1.size (k0_off1_inb i)) numel1_S1

theorem batch_toNat (i : grid0.Coords) : (BitVec.ofNat 32 (i 0).val).toNat = (i 0).val := by
  have h : (i 0).val < 16 := (i 0).isLt
  rw [BitVec.toNat_ofNat]; omega

theorem tr3 (pf : pre0.Contents (Elt F)) (i : grid0.Coords) :
    cc0_transform_3 k0_off1_inb numel1_S1 pf i = ![(i 0).val, 0, 0, (Table.blkW (lenAt pf i) (i 1).val).toNat] := by
  rw [← batch_toNat i]; rfl
theorem tr4 (pf : pre0.Contents (Elt F)) (i : grid0.Coords) :
    cc0_transform_4 k0_off1_inb numel1_S1 pf i = ![(i 0).val, 0, 0, (Table.blkW (lenAt pf i) (i 1).val).toNat] := by
  rw [← batch_toNat i]; rfl
theorem tr5 (pf : pre0.Contents (Elt F)) (i : grid0.Coords) :
    cc0_transform_5 k0_off1_inb numel1_S1 pf i = ![(i 0).val, 0, (Table.blkW (lenAt pf i) (i 1).val).toNat] := by
  rw [← batch_toNat i]; rfl
theorem tr6 (pf : pre0.Contents (Elt F)) (i : grid0.Coords) :
    cc0_transform_6 k0_off1_inb numel1_S1 pf i = ![(i 0).val, 0, 0, (Table.blkW (lenAt pf i) (i 1).val).toNat] := by
  rw [← batch_toNat i]; rfl
theorem tr7 (pf : pre0.Contents (Elt F)) (i : grid0.Coords) :
    cc0_transform_7 k0_off1_inb numel1_S1 pf i = ![(i 0).val, 0, 0, (Table.blkW (lenAt pf i) (i 1).val).toNat] := by
  rw [← batch_toNat i]; rfl

/-- Sixteen blocks of `q` along the last of four axes, the first axis the batch. -/
theorem inb4 {p q : ℕ} (i : grid0.Coords) (b : ℕ) (hb : b < 16) :
    ∀ a : Fin 4, ((![(i 0).val, 0, 0, b] : Fin 4 → ℕ) a + 1) * (![1, 8, p, q] : Fin 4 → ℕ) a
      ≤ (![16, 8, p, 16 * q] : Fin 4 → ℕ) a := by
  have h : (i 0).val < 16 := (i 0).isLt
  intro a
  match a with
  | 0 => show ((i 0).val + 1) * 1 ≤ 16; omega
  | 1 => show (0 + 1) * 8 ≤ 8; omega
  | 2 => show (0 + 1) * p ≤ p; omega
  | 3 => show (b + 1) * q ≤ 16 * q; exact Nat.mul_le_mul_right _ hb

theorem ok : Ok m := by
  have hb : ∀ i : grid0.Coords, (Table.blkW (lenAt (tbl m) i) (i 1).val).toNat < 16 :=
    fun i => Table.blkW_lt _ _ (i 1).isLt
  refine ⟨fun i => ⟨?_, .inr (Affine.block_words_dvd (of_decide_eq_true rfl) (by decide))⟩,
    fun i => ⟨?_, .inr (Affine.block_words_dvd (of_decide_eq_true rfl) (by decide))⟩,
    fun i => ⟨?_, .inl rfl⟩, fun i => ⟨?_, .inl rfl⟩,
    fun i => ⟨?_, .inr (Affine.block_words_dvd (of_decide_eq_true rfl) (by decide))⟩⟩
  · rw [tr3]; exact inb4 i _ (hb i)
  · rw [tr4]; exact inb4 i _ (hb i)
  · rw [tr5]
    have h : (i 0).val < 16 := (i 0).isLt
    intro a
    match a with
    | 0 => show ((i 0).val + 1) * 1 ≤ 16; omega
    | 1 => show (0 + 1) * 8 ≤ 8; omega
    | 2 => exact Nat.mul_le_mul_right 2048 (hb i)
  · rw [tr6]; exact inb4 i _ (hb i)
  · rw [tr7]; exact inb4 i _ (hb i)

end Cert.Kernel.Gen

end
-- ==== Proof.KernelIdealOk.lean ====
/- `KernelIdeal`: every window whose index map reads the table of lengths stays inside its array, whatever the table holds. -/
module

public import proofs.«01_k».proof.Proof.Gen.KernelIdeal.Frame
public import proofs.«01_k».proof.Proof.Table

@[expose] public section

noncomputable section

namespace Cert.KernelIdeal.Gen

open Idealize.ShloMosaic Idealize.ShloMosaic.TcCoe

variable {F : FTy → Type} [FloatOps F]
variable (m : (ℓ : Loc nD τ sig) → Buf (Elt F) ℓ)

/-- The table's word for the batch of the point `i`. -/
def lenAt (pf : pre0.Contents (Elt F)) (i : grid0.Coords) : BitVec 32 :=
  pf.at 0 (Rect.unit (s := S16) (k0_off1 i) S1.size (k0_off1_inb i)) numel1_S1

theorem batch_toNat (i : grid0.Coords) : (BitVec.ofNat 32 (i 0).val).toNat = (i 0).val := by
  have h : (i 0).val < 16 := (i 0).isLt
  rw [BitVec.toNat_ofNat]; omega

theorem tr3 (pf : pre0.Contents (Elt F)) (i : grid0.Coords) :
    cc0_transform_3 k0_off1_inb numel1_S1 pf i = ![(i 0).val, 0, 0, (Table.blkW (lenAt pf i) (i 1).val).toNat] := by
  rw [← batch_toNat i]; rfl
theorem tr4 (pf : pre0.Contents (Elt F)) (i : grid0.Coords) :
    cc0_transform_4 k0_off1_inb numel1_S1 pf i = ![(i 0).val, 0, 0, (Table.blkW (lenAt pf i) (i 1).val).toNat] := by
  rw [← batch_toNat i]; rfl
theorem tr5 (pf : pre0.Contents (Elt F)) (i : grid0.Coords) :
    cc0_transform_5 k0_off1_inb numel1_S1 pf i = ![(i 0).val, 0, (Table.blkW (lenAt pf i) (i 1).val).toNat] := by
  rw [← batch_toNat i]; rfl
theorem tr6 (pf : pre0.Contents (Elt F)) (i : grid0.Coords) :
    cc0_transform_6 k0_off1_inb numel1_S1 pf i = ![(i 0).val, 0, 0, (Table.blkW (lenAt pf i) (i 1).val).toNat] := by
  rw [← batch_toNat i]; rfl
theorem tr7 (pf : pre0.Contents (Elt F)) (i : grid0.Coords) :
    cc0_transform_7 k0_off1_inb numel1_S1 pf i = ![(i 0).val, 0, 0, (Table.blkW (lenAt pf i) (i 1).val).toNat] := by
  rw [← batch_toNat i]; rfl

/-- Sixteen blocks of `q` along the last of four axes, the first axis the batch. -/
theorem inTable4 {p q : ℕ} (i : grid0.Coords) (b : ℕ) (hb : b < 16) :
    ∀ a : Fin 4, ((![(i 0).val, 0, 0, b] : Fin 4 → ℕ) a + 1) * (![1, 8, p, q] : Fin 4 → ℕ) a
      ≤ (![16, 8, p, 16 * q] : Fin 4 → ℕ) a := by
  have h : (i 0).val < 16 := (i 0).isLt
  intro a
  match a with
  | 0 => show ((i 0).val + 1) * 1 ≤ 16; omega
  | 1 => show (0 + 1) * 8 ≤ 8; omega
  | 2 => show (0 + 1) * p ≤ p; omega
  | 3 => show (b + 1) * q ≤ 16 * q; exact Nat.mul_le_mul_right _ hb

theorem ok : Ok m := by
  have hb : ∀ i : grid0.Coords, (Table.blkW (lenAt (tbl m) i) (i 1).val).toNat < 16 :=
    fun i => Table.blkW_lt _ _ (i 1).isLt
  refine ⟨fun i => ⟨?_, .inr (Affine.block_words_dvd (of_decide_eq_true rfl) (by decide))⟩,
    fun i => ⟨?_, .inr (Affine.block_words_dvd (of_decide_eq_true rfl) (by decide))⟩,
    fun i => ⟨?_, .inl rfl⟩, fun i => ⟨?_, .inl rfl⟩,
    fun i => ⟨?_, .inr (Affine.block_words_dvd (of_decide_eq_true rfl) (by decide))⟩⟩
  · rw [tr3]; exact inTable4 i _ (hb i)
  · rw [tr4]; exact inTable4 i _ (hb i)
  · rw [tr5]
    have h : (i 0).val < 16 := (i 0).isLt
    intro a
    match a with
    | 0 => show ((i 0).val + 1) * 1 ≤ 16; omega
    | 1 => show (0 + 1) * 8 ≤ 8; omega
    | 2 => exact Nat.mul_le_mul_right 2048 (hb i)
  · rw [tr6]; exact inTable4 i _ (hb i)
  · rw [tr7]; exact inTable4 i _ (hb i)

end Cert.KernelIdeal.Gen

end
-- ==== Proof.Body.lean ====
/- One trip of the loop over the heads, as eight chunks of 256 positions folded into the head's running state. The
   definitions follow the kernel's text; the last theorem says the trip stores that state. -/
module

public import proofs.«01_k».proof.Proof.Gen.KernelIdeal.Loops

@[expose] public section

set_option maxRecDepth 65536
set_option maxHeartbeats 0

noncomputable section

namespace Cert.KernelIdeal.Gen

open Idealize.ShloMosaic Idealize.ShloMosaic.TcCoe Idealize.ShloMosaic.Tactic

variable {F : FTy → Type} [FloatOps F]

/-- The head of trip `k`, as the offsets of the loop's loads spell it. -/
def hN (k : Fin k0_t1_loop.trips) : ℕ := (Scalar.indexCast (Scf.iv 0#32 1#32 k)).toNat

theorem hN_lt (k : Fin k0_t1_loop.trips) : hN k < 8 := by
  have := k0_off2_inb k 1
  have h : hN k + 1 ≤ 8 := this
  omega

theorem inbTab (k : Fin k0_t1_loop.trips) (s t : ℕ) (hs : s < 2) (ht : t < 4) :
    ∀ a, (![hN k, s, t, 0, 0] : Fin 5 → ℕ) a + S1x1x1x8x128.size a ≤ S8x2x4x8x128.size a := by
  have := hN_lt k
  intro a
  match a with
  | 0 => show hN k + 1 ≤ 8; omega
  | 1 => show s + 1 ≤ 2; omega
  | 2 => show t + 1 ≤ 4; omega
  | 3 => show 0 + 8 ≤ 8; omega
  | 4 => show 0 + 128 ≤ 128; omega

theorem inb4 {p q : ℕ} (k : Fin k0_t1_loop.trips) (off : ℕ) (h : off + q ≤ 2048) :
    ∀ a : Fin 4, (![0, hN k, 0, off] : Fin 4 → ℕ) a + (![1, 1, p, q] : Fin 4 → ℕ) a ≤ (![1, 8, p, 2048] : Fin 4 → ℕ) a := by
  have := hN_lt k
  intro a
  match a with
  | 0 => show 0 + 1 ≤ 1; omega
  | 1 => show hN k + 1 ≤ 8; omega
  | 2 => show 0 + p ≤ p; omega
  | 3 => exact h

theorem inb3 (k : Fin k0_t1_loop.trips) (off : ℕ) (h : off + 256 ≤ 2048) :
    ∀ a, (![0, hN k, off] : Fin 3 → ℕ) a + S1x1x256.size a ≤ S1x8x2048.size a := by
  have := hN_lt k
  intro a
  match a with
  | 0 => show 0 + 1 ≤ 1; omega
  | 1 => show hN k + 1 ≤ 8; omega
  | 2 => exact h

/-- A word's lane index as the gather takes it. -/
def lane (v : IVec S8x128 32) : IVec S8x128 32 :=
  shapeCast S8x128 (shapeCast S8x128x1 v shapeCasts_S8x128_S8x128x1) shapeCasts_S8x128x1_S8x128

/-- One byte of every word looked up: the table of the byte's top bit, at its low seven bits. -/
def decB (w tHi tLo : IVec S8x128 32) (sr sl : BitVec 32) : IVec S8x128 32 :=
  select (cmpi .slt (shli w (broadcast S8x128 sl)) (broadcast S8x128 0#32))
    (dynamicGather 1 tHi (lane (andi (shrsi w (broadcast S8x128 sr)) (broadcast S8x128 127#32))))
    (dynamicGather 1 tLo (lane (andi (shrsi w (broadcast S8x128 sr)) (broadcast S8x128 127#32))))

/-- The channels of the rows of byte `t`'s tile (`t2` is `2 t`), as 16-bit words. -/
def chanV (v12 : IVec S16x128 32) (t2 : BitVec 32) : IVec S16x128 16 :=
  trunci 16
    (addi
      (addi (muli (broadcast S16x128 8#32)
        (select
          (andi
            (cmpi .ne
              (subi (extui 32 (cmpi .sgt v12 (broadcast S16x128 0#32)) natLt_1_32) (extui 32 (cmpi .slt v12 (broadcast S16x128 0#32)) natLt_1_32))
              (broadcast S16x128 (Scalar.subi (Scalar.extui (Scalar.cmpi .sgt 2#32 0#32)) (Scalar.extui (Scalar.cmpi .slt 2#32 0#32)))))
            (cmpi .ne (remsi v12 (broadcast S16x128 2#32)) (broadcast S16x128 0#32)))
          (subi (divsi v12 (broadcast S16x128 2#32)) (broadcast S16x128 1#32))
          (divsi v12 (broadcast S16x128 2#32))))
        (broadcast S16x128 t2))
      (select
        (andi
          (xori
            (cmpi .slt (remsi v12 (broadcast S16x128 (Scalar.select (Scalar.cmpi .eq 2#32 0#32) 1#32 2#32))) (broadcast S16x128 0#32))
            (broadcastTo S16x128 (broadcast S16x128 (Scalar.cmpi .slt (Scalar.select (Scalar.cmpi .eq 2#32 0#32) 1#32 2#32) 0#32)) broadcasts_S16x128_S16x128))
          (cmpi .ne (remsi v12 (broadcast S16x128 (Scalar.select (Scalar.cmpi .eq 2#32 0#32) 1#32 2#32))) (broadcast S16x128 0#32)))
        (addi (remsi v12 (broadcast S16x128 (Scalar.select (Scalar.cmpi .eq 2#32 0#32) 1#32 2#32)))
          (broadcast S16x128 (Scalar.select (Scalar.cmpi .eq 2#32 0#32) 1#32 2#32)))
        (remsi v12 (broadcast S16x128 (Scalar.select (Scalar.cmpi .eq 2#32 0#32) 1#32 2#32)))))
    natLt_16_32

/-- Row `o` of the four rows of outlier indices, repeated down the tile. -/
def idxRow (ix : IVec S4x128 32) (o : ℕ) (h : S4x128.Slices ![o, 0] S1x128) : IVec S8x128 32 :=
  broadcastTo S8x128 (shapeCast S1x128 (extractStridedSlice S1x128 ![o, 0] ix h) shapeCasts_S1x128_S1x128) broadcasts_S1x128_S8x128

/-- The low half of a row of value words in both halves, repeated down the tile. -/
def valEven (vw : IVec S2x128 32) (r : ℕ) (h : S2x128.Slices ![r, 0] S1x128) : IVec S8x128 32 :=
  broadcastTo S8x128 (shapeCast S1x128
    (ori (andi (extractStridedSlice S1x128 ![r, 0] vw h) (broadcast S1x128 65535#32))
      (shli (extractStridedSlice S1x128 ![r, 0] vw h) (broadcast S1x128 16#32))) shapeCasts_S1x128_S1x128) broadcasts_S1x128_S8x128

/-- The high half of a row of value words in both halves, repeated down the tile. -/
def valOdd (vw : IVec S2x128 32) (r : ℕ) (h : S2x128.Slices ![r, 0] S1x128) : IVec S8x128 32 :=
  broadcastTo S8x128 (shapeCast S1x128
    (ori (andi (extractStridedSlice S1x128 ![r, 0] vw h) (broadcast S1x128 4294901760#32))
      (shrui (extractStridedSlice S1x128 ![r, 0] vw h) (broadcast S1x128 16#32))) shapeCasts_S1x128_S1x128) broadcasts_S1x128_S8x128

/-- One outlier put where its channel is. -/
def putOut (io vo : IVec S8x128 32) (ch kk : IVec S16x128 16) : IVec S16x128 16 :=
  select (cmpi .eq (bitcast S16x128 16 io bitcasts_S8x128_w32_S16x128_w16) ch)
    (bitcast S16x128 16 vo bitcasts_S8x128_w32_S16x128_w16) kk

/-- The sixteen rows of one byte of the keys: looked up, the four outliers put in. -/
def kRows (ix : IVec S4x128 32) (vw : IVec S2x128 32) (ch : IVec S16x128 16) (w : IVec S8x128 32) : FVec F S16x128 .bf16 :=
  bitcastToFloat .bf16
    (putOut (idxRow ix 3 slices_S4x128_o3_0_S1x128) (valOdd vw 1 slices_S2x128_o1_0_S1x128) ch
      (putOut (idxRow ix 2 slices_S4x128_o2_0_S1x128) (valEven vw 1 slices_S2x128_o1_0_S1x128) ch
        (putOut (idxRow ix 1 slices_S4x128_o1_0_S1x128) (valOdd vw 0 slices_S2x128_o0_0_S1x128) ch
          (putOut (idxRow ix 0 slices_S4x128_o0_0_S1x128) (valEven vw 0 slices_S2x128_o0_0_S1x128) ch
            (bitcast S16x128 16 w bitcasts_S8x128_w32_S16x128_w16)))))

/-- The sixteen rows of one byte of the values. -/
def vRows (w : IVec S8x128 32) : FVec F S16x128 .bf16 :=
  bitcastToFloat .bf16 (bitcast S16x128 16 w bitcasts_S8x128_w32_S16x128_w16)

/-- Four tiles of sixteen rows, one over the other. -/
def stack4 (a b c d : FVec F S16x128 .bf16) : FVec F S64x128 .bf16 :=
  concatenate S64x128 0 [⟨S16x128, a⟩, ⟨S16x128, b⟩, ⟨S16x128, c⟩, ⟨S16x128, d⟩] concatenates_S16x128_S16x128_S16x128_S16x128_S64x128_d0

/-- The table of head `k`, half `s`, byte `t`. -/
def tab (arg11 : Memref sig .tc .vmem S8x2x4x8x128 .i32) (X11 : BufTy.Contents (Elt F) arg11.view.ty) (k : Fin k0_t1_loop.trips)
    (s t : ℕ) (hs : s < 2) (ht : t < 4) : IVec S8x128 32 :=
  shapeCast S8x128 (View.readAt (Elt F) arg11.view (Rect.unit (s := S8x2x4x8x128) ![hN k, s, t, 0, 0] S1x1x1x8x128.size (inbTab k s t hs ht)).toLoadRect X11)
    shapeCasts_S1x1x1x8x128_S8x128

/-- The words of 128 positions' codes, from position `off` of the block. -/
def words (arg6 : Memref sig .tc .vmem S1x8x32x2048 .i8) (X6 : BufTy.Contents (Elt F) arg6.view.ty) (k : Fin k0_t1_loop.trips)
    (off : ℕ) (h : off + 128 ≤ 2048) : IVec S8x128 32 :=
  bitcast S8x128 32 (shapeCast S32x128
    (View.readAt (Elt F) arg6.view (Rect.unit (s := S1x8x32x2048) ![0, hN k, 0, off] S1x1x32x128.size (inb4 k off h)).toLoadRect X6)
    shapeCasts_S1x1x32x128_S32x128) bitcasts_S32x128_w8_S8x128_w32

/-- Byte `t` of those words looked up. -/
def dec (arg11 : Memref sig .tc .vmem S8x2x4x8x128 .i32) (X11 : BufTy.Contents (Elt F) arg11.view.ty) (k : Fin k0_t1_loop.trips)
    (w : IVec S8x128 32) (t : ℕ) (ht : t < 4) (sr sl : BitVec 32) : IVec S8x128 32 :=
  decB w (tab (F := F) arg11 X11 k 1 t (by omega) ht) (tab (F := F) arg11 X11 k 0 t (by omega) ht) sr sl

/-- The indices of the outliers of 128 positions, in both halves of a word. -/
def idxW (arg9 : Memref sig .tc .vmem S1x8x4x2048 .i32) (X9 : BufTy.Contents (Elt F) arg9.view.ty) (k : Fin k0_t1_loop.trips)
    (off : ℕ) (h : off + 128 ≤ 2048) : IVec S4x128 32 :=
  ori (shapeCast S4x128 (View.readAt (Elt F) arg9.view (Rect.unit (s := S1x8x4x2048) ![0, hN k, 0, off] S1x1x4x128.size (inb4 k off h)).toLoadRect X9) shapeCasts_S1x1x4x128_S4x128)
    (shli (shapeCast S4x128 (View.readAt (Elt F) arg9.view (Rect.unit (s := S1x8x4x2048) ![0, hN k, 0, off] S1x1x4x128.size (inb4 k off h)).toLoadRect X9) shapeCasts_S1x1x4x128_S4x128)
      (broadcast S4x128 16#32))

/-- The values of the outliers of 128 positions, two to a word. -/
def valW (arg10 : Memref sig .tc .vmem S1x8x4x2048 .i16) (X10 : BufTy.Contents (Elt F) arg10.view.ty) (k : Fin k0_t1_loop.trips)
    (off : ℕ) (h : off + 128 ≤ 2048) : IVec S2x128 32 :=
  bitcast S2x128 32 (shapeCast S4x128 (View.readAt (Elt F) arg10.view (Rect.unit (s := S1x8x4x2048) ![0, hN k, 0, off] S1x1x4x128.size (inb4 k off h)).toLoadRect X10) shapeCasts_S1x1x4x128_S4x128)
    bitcasts_S4x128_w16_S2x128_w32

/-- The keys of 128 positions, a column each. -/
def kTile (arg6 : Memref sig .tc .vmem S1x8x32x2048 .i8) (arg9 : Memref sig .tc .vmem S1x8x4x2048 .i32)
    (arg10 : Memref sig .tc .vmem S1x8x4x2048 .i16) (arg11 : Memref sig .tc .vmem S8x2x4x8x128 .i32) (v12 : IVec S16x128 32)
    (X6 : BufTy.Contents (Elt F) arg6.view.ty) (X9 : BufTy.Contents (Elt F) arg9.view.ty) (X10 : BufTy.Contents (Elt F) arg10.view.ty)
    (X11 : BufTy.Contents (Elt F) arg11.view.ty) (k : Fin k0_t1_loop.trips) (off : ℕ) (h : off + 128 ≤ 2048) : FVec F S64x128 .bf16 :=
  stack4
    (kRows (idxW arg9 X9 k off h) (valW arg10 X10 k off h) (chanV v12 0#32) (dec arg11 X11 k (words arg6 X6 k off h) 0 (by omega) 0#32 24#32))
    (kRows (idxW arg9 X9 k off h) (valW arg10 X10 k off h) (chanV v12 2#32) (dec arg11 X11 k (words arg6 X6 k off h) 1 (by omega) 8#32 16#32))
    (kRows (idxW arg9 X9 k off h) (valW arg10 X10 k off h) (chanV v12 4#32) (dec arg11 X11 k (words arg6 X6 k off h) 2 (by omega) 16#32 8#32))
    (kRows (idxW arg9 X9 k off h) (valW arg10 X10 k off h) (chanV v12 6#32) (dec arg11 X11 k (words arg6 X6 k off h) 3 (by omega) 24#32 0#32))

/-- The values of 128 positions, a column each. -/
def vTile (arg7 : Memref sig .tc .vmem S1x8x32x2048 .i8) (arg12 : Memref sig .tc .vmem S8x2x4x8x128 .i32)
    (X7 : BufTy.Contents (Elt F) arg7.view.ty) (X12 : BufTy.Contents (Elt F) arg12.view.ty) (k : Fin k0_t1_loop.trips)
    (off : ℕ) (h : off + 128 ≤ 2048) : FVec F S64x128 .bf16 :=
  stack4
    (vRows (dec arg12 X12 k (words arg7 X7 k off h) 0 (by omega) 0#32 24#32))
    (vRows (dec arg12 X12 k (words arg7 X7 k off h) 1 (by omega) 8#32 16#32))
    (vRows (dec arg12 X12 k (words arg7 X7 k off h) 2 (by omega) 16#32 8#32))
    (vRows (dec arg12 X12 k (words arg7 X7 k off h) 3 (by omega) 24#32 0#32))

/-- Two tiles side by side. -/
def pair (a b : FVec F S64x128 .bf16) : FVec F S64x256 .bf16 :=
  concatenate S64x256 1 [⟨S64x128, a⟩, ⟨S64x128, b⟩] concatenates_S64x128_S64x128_S64x256_d1

/-- The scores of 256 positions from position `pos`, those from `n` on at minus infinity. -/
def scores (q : FVec F S64x64 .bf16) (kt : FVec F S64x256 .bf16) (pos n : BitVec 32) : FVec F S64x256 .f32 :=
  select (cmpi .slt (addi (broadcast S64x256 pos) (iota .tc S64x256 32 [1] iota_S64x256_d1_w32)) (broadcast S64x256 n))
    (mulf (matmul dot_S64x64_S64x256_S64x256_1_0_0_1_n_n none q kt (constant S64x256 .f32 0x00000000#32))
      (broadcast S64x256 (Scalar.ofBits .f32 0x3E000000#32)))
    (broadcast S64x256 (Scalar.ofBits .f32 0xFF800000#32))

/-- The running maximum after 256 more scores. -/
def newM (m : FVec F S64x1 .f32) (s : FVec F S64x256 .f32) : FVec F S64x1 .f32 :=
  maximumf m (shapeCast S64x1 (multiReduction .maximumf [1] S64 s 0xFF800000#32 reduces_S64x256_S64 (.inl rfl) rfl) shapeCasts_S64_S64x1)

/-- The weights of 256 scores against a maximum. -/
def wts (m : FVec F S64x1 .f32) (s : FVec F S64x256 .f32) : FVec F S64x256 .f32 :=
  exp (subf s (broadcastTo S64x256 m broadcasts_S64x1_S64x256))

/-- The running sum after 256 more weights. -/
def newL (l alpha : FVec F S64x1 .f32) (e : FVec F S64x256 .f32) : FVec F S64x1 .f32 :=
  addf (mulf l alpha) (shapeCast S64x1 (multiReduction .add [1] S64 e 0x00000000#32 reduces_S64x256_S64 (.inl rfl) rfl) shapeCasts_S64_S64x1)

/-- The running weighted values after 256 more. -/
def newA (acc : FVec F S64x64 .f32) (alpha : FVec F S64x1 .f32) (e : FVec F S64x256 .f32) (sc : Vec F S1x1x256 .f32)
    (vt : FVec F S64x256 .bf16) : FVec F S64x64 .f32 :=
  addf (mulf acc (broadcastTo S64x64 alpha broadcasts_S64x1_S64x64))
    (matmul dot_S64x256_S64x256_S64x64_1_1_0_0_n_n none
      (truncf .bf16 (mulf e (broadcastTo S64x256 (shapeCast S1x256 sc shapeCasts_S1x1x256_S1x256) broadcasts_S1x256_S64x256)) bitsLt_bf16_f32)
      vt (constant S64x64 .f32 0x00000000#32))

/-- A head's running state: maxima, sums, weighted values. -/
structure St (F : FTy → Type) where
  m : FVec F S64x1 .f32
  l : FVec F S64x1 .f32
  acc : FVec F S64x64 .f32

/-- One chunk of 256 positions folded into a head's state. -/
def chunk (q : FVec F S64x64 .bf16) (kt vt : FVec F S64x256 .bf16) (sc : Vec F S1x1x256 .f32) (pos n : BitVec 32) (st : St F) : St F where
  m := newM st.m (scores q kt pos n)
  l := newL st.l (exp (subf st.m (newM st.m (scores q kt pos n)))) (wts (newM st.m (scores q kt pos n)) (scores q kt pos n))
  acc := newA st.acc (exp (subf st.m (newM st.m (scores q kt pos n)))) (wts (newM st.m (scores q kt pos n)) (scores q kt pos n)) sc vt

section

variable (arg3 : Memref sig .tc .vmem S1x8x64x64 .bf16) (arg6 : Memref sig .tc .vmem S1x8x32x2048 .i8)
  (arg7 : Memref sig .tc .vmem S1x8x32x2048 .i8) (arg8 : Memref sig .tc .vmem S1x8x2048 .f32)
  (arg9 : Memref sig .tc .vmem S1x8x4x2048 .i32) (arg10 : Memref sig .tc .vmem S1x8x4x2048 .i16)
  (arg11 arg12 : Memref sig .tc .vmem S8x2x4x8x128 .i32) (arg14 : Memref sig .tc .vmem S8x64x64 .f32)
  (arg15 arg16 : Memref sig .tc .vmem S8x64x1 .f32) (arg1 : BitVec 32) (v1 : BitVec 32) (v12 : IVec S16x128 32)
  (X3 : BufTy.Contents (Elt F) arg3.view.ty) (X6 : BufTy.Contents (Elt F) arg6.view.ty)
  (X7 : BufTy.Contents (Elt F) arg7.view.ty) (X8 : BufTy.Contents (Elt F) arg8.view.ty)
  (X9 : BufTy.Contents (Elt F) arg9.view.ty) (X10 : BufTy.Contents (Elt F) arg10.view.ty)
  (X11 : BufTy.Contents (Elt F) arg11.view.ty) (X12 : BufTy.Contents (Elt F) arg12.view.ty)
  (k : Fin k0_t1_loop.trips) (f14 : BufTy.Contents (Elt F) arg14.view.ty) (f15 : BufTy.Contents (Elt F) arg15.view.ty)
  (f16 : BufTy.Contents (Elt F) arg16.view.ty)

/-- Chunk `n` of a head folded into its state. -/
def step (n : ℕ) (hn : n < 8) (st : St F) : St F :=
  chunk (shapeCast S64x64 (View.readAt (Elt F) arg3.view (Rect.unit (s := S1x8x64x64) (k0_off2 k) S1x1x64x64.size (k0_off2_inb k)).toLoadRect X3) shapeCasts_S1x1x64x64_S64x64)
    (pair (kTile arg6 arg9 arg10 arg11 v12 X6 X9 X10 X11 k (n * 256) (by omega))
      (kTile arg6 arg9 arg10 arg11 v12 X6 X9 X10 X11 k (n * 256 + 128) (by omega)))
    (pair (vTile arg7 arg12 X7 X12 k (n * 256) (by omega)) (vTile arg7 arg12 X7 X12 k (n * 256 + 128) (by omega)))
    (View.readAt (Elt F) arg8.view (Rect.unit (s := S1x8x2048) ![0, hN k, n * 256] S1x1x256.size (inb3 k (n * 256) (by omega))).toLoadRect X8)
    (Scalar.addi (Scalar.muli arg1 2048#32) (BitVec.ofNat 32 (n * 256))) v1 st

/-- The first `n` chunks of a head, from the state `st`. -/
def steps (st : St F) : (n : ℕ) → n ≤ 8 → St F
  | 0, _ => st
  | n + 1, h => step arg3 arg6 arg7 arg8 arg9 arg10 arg11 arg12 arg1 v1 v12 X3 X6 X7 X8 X9 X10 X11 X12 k n h (steps st n (by omega))

/-- A head's state as the scratch arrays hold it. -/
def load : St F where
  m := shapeCast S64x1 (View.readAt (Elt F) arg15.view (Rect.unit (s := S8x64x1) (k0_off3 k) S1x64x1.size (k0_off3_inb k)).toLoadRect f15) shapeCasts_S1x64x1_S64x1
  l := shapeCast S64x1 (View.readAt (Elt F) arg16.view (Rect.unit (s := S8x64x1) (k0_off3 k) S1x64x1.size (k0_off3_inb k)).toLoadRect f16) shapeCasts_S1x64x1_S64x1
  acc := shapeCast S64x64 (View.readAt (Elt F) arg14.view (Rect.unit (s := S8x64x64) (k0_off4 k) S1x64x64.size (k0_off4_inb k)).toLoadRect f14) shapeCasts_S1x64x64_S64x64

/-- A head's state after the block. -/
def headSt : St F :=
  steps arg3 arg6 arg7 arg8 arg9 arg10 arg11 arg12 arg1 v1 v12 X3 X6 X7 X8 X9 X10 X11 X12 k (load arg14 arg15 arg16 k f14 f15 f16) 8 le_rfl

end

section

variable (𝒱 : Variants) (c : Dev nD) (bd : Option 𝒱.V) (i : grid0.Coords)
  (arg2 : Memref sig .tc .smem S16 .i32) (harg2 : arg2.IsWhole)
  (arg3 : Memref sig .tc .vmem S1x8x64x64 .bf16) (harg3 : arg3.IsWhole)
  (arg4 : Memref sig .tc .vmem S1x8x4x64 .bf16) (harg4 : arg4.IsWhole)
  (arg5 : Memref sig .tc .vmem S1x8x4x64 .bf16) (harg5 : arg5.IsWhole)
  (arg6 : Memref sig .tc .vmem S1x8x32x2048 .i8) (harg6 : arg6.IsWhole)
  (arg7 : Memref sig .tc .vmem S1x8x32x2048 .i8) (harg7 : arg7.IsWhole)
  (arg8 : Memref sig .tc .vmem S1x8x2048 .f32) (harg8 : arg8.IsWhole)
  (arg9 : Memref sig .tc .vmem S1x8x4x2048 .i32) (harg9 : arg9.IsWhole)
  (arg10 : Memref sig .tc .vmem S1x8x4x2048 .i16) (harg10 : arg10.IsWhole)
  (arg11 : Memref sig .tc .vmem S8x2x4x8x128 .i32) (harg11 : arg11.IsWhole)
  (arg12 : Memref sig .tc .vmem S8x2x4x8x128 .i32) (harg12 : arg12.IsWhole)
  (arg13 : Memref sig .tc .vmem S1x8x64x64 .bf16) (harg13 : arg13.IsWhole)
  (arg14 : Memref sig .tc .vmem S8x64x64 .f32) (harg14 : arg14.IsWhole)
  (arg15 : Memref sig .tc .vmem S8x64x1 .f32) (harg15 : arg15.IsWhole)
  (arg16 : Memref sig .tc .vmem S8x64x1 .f32) (harg16 : arg16.IsWhole)
  (arg1 : BitVec 32) (v1 : Elt F .i32) (v12 : IVec S16x128 32)
  (X3 : BufTy.Contents (Elt F) arg3.view.ty) (X6 : BufTy.Contents (Elt F) arg6.view.ty)
  (X7 : BufTy.Contents (Elt F) arg7.view.ty) (X8 : BufTy.Contents (Elt F) arg8.view.ty)
  (X9 : BufTy.Contents (Elt F) arg9.view.ty) (X10 : BufTy.Contents (Elt F) arg10.view.ty)
  (X11 : BufTy.Contents (Elt F) arg11.view.ty) (X12 : BufTy.Contents (Elt F) arg12.view.ty)
  (k : Fin k0_t1_loop.trips)
  (f14 : BufTy.Contents (Elt F) arg14.view.ty) (f15 : BufTy.Contents (Elt F) arg15.view.ty)
  (f16 : BufTy.Contents (Elt F) arg16.view.ty)

/-- A trip stores the head's state after its eight chunks, each part at the head's rows. -/
theorem tripL_eq : tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 v12 X3 X6 X7 X8 X9 X10 X11 X12 k f14 f15 f16
    = ([⟨Rect.unit (k0_off4 k) S1x64x64.size (k0_off4_inb k), shapeCast S1x64x64 (headSt arg3 arg6 arg7 arg8 arg9 arg10 arg11 arg12 arg14 arg15 arg16 arg1 v1 v12 X3 X6 X7 X8 X9 X10 X11 X12 k f14 f15 f16).acc shapeCasts_S64x64_S1x64x64⟩],
      [⟨Rect.unit (k0_off3 k) S1x64x1.size (k0_off3_inb k), shapeCast S1x64x1 (headSt arg3 arg6 arg7 arg8 arg9 arg10 arg11 arg12 arg14 arg15 arg16 arg1 v1 v12 X3 X6 X7 X8 X9 X10 X11 X12 k f14 f15 f16).m shapeCasts_S64x1_S1x64x1⟩],
      [⟨Rect.unit (k0_off3 k) S1x64x1.size (k0_off3_inb k), shapeCast S1x64x1 (headSt arg3 arg6 arg7 arg8 arg9 arg10 arg11 arg12 arg14 arg15 arg16 arg1 v1 v12 X3 X6 X7 X8 X9 X10 X11 X12 k f14 f15 f16).l shapeCasts_S64x1_S1x64x1⟩]) := by
  unfold tripL_k0_t1 trip_k0_t1
  rfl

end

end Cert.KernelIdeal.Gen

end
-- ==== Proof.Tile.lean ====
/- The decoded keys and values of a block, element by element: which bits of which arrays an element's bits are. -/
module

public import proofs.«01_k».proof.Proof.Body
public import Idealize.ShloMosaic.Lib.Pointwise
public import Idealize.ShloMosaic.Lib.BitcastFour
public import Idealize.ShloMosaic.Lib.WholeRead
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

/-- The channel of row `r` of byte `t`'s sixteen. -/
def chan (t r : ℕ) : ℕ := 8 * (r / 2) + 2 * t + r % 2

/-- Half `p` of the table word of byte value `b`: the level of one of the byte's two codes. -/
def level (T : IVec S8x2x4x8x128 32) (h : Fin 8) (t : Fin 4) (r : Fin 8) (p : ℕ) (b : BitVec 8) : BitVec 16 :=
  (T (ix5 h (if 128 ≤ b.toNat then 1 else 0) t r ⟨b.toNat % 128, Nat.mod_lt _ (by decide)⟩)).extractLsb' (16 * p) 16

/-- A level, unless one of the four outliers has the channel: then the last such. -/
def overlay (oi : Fin 4 → BitVec 32) (ov : Fin 4 → BitVec 16) (ch : ℕ) (base : BitVec 16) : BitVec 16 :=
  if (oi 3).toNat = ch then ov 3 else if (oi 2).toNat = ch then ov 2 else if (oi 1).toNat = ch then ov 1
  else if (oi 0).toNat = ch then ov 0 else base

/-! ## Words -/

theorem bitcast_half (x : IVec S8x128 32) (h : S8x128.Bitcasts 32 S16x128 16) (r : Fin 16) (c : Fin 128) :
    bitcast S16x128 16 x h (ix2 r c) = (x (ix2 ⟨r.val / 2, by omega⟩ c)).extractLsb' (16 * (r.val % 2)) 16 := by
  rw [bitcast_32_16]
  congr 2
  funext a
  apply Fin.ext
  match a with
  | ⟨0, _⟩ => rfl
  | ⟨1, _⟩ => rfl

theorem bitcast_two (x : IVec S4x128 16) (h : S4x128.Bitcasts 16 S2x128 32) (r : Fin 2) (c : Fin 128) :
    bitcast S2x128 32 x h (ix2 r c) = x (ix2 ⟨2 * r.val + 1, by omega⟩ c) ++ x (ix2 ⟨2 * r.val, by omega⟩ c) := by
  rw [bitcast_16_32]
  congr 1 <;> congr 1 <;> funext a <;> apply Fin.ext <;> match a with | ⟨0, _⟩ => rfl | ⟨1, _⟩ => rfl

theorem dup_half (x : BitVec 32) (hx : x.toNat < 64) (p : ℕ) (hp : p < 2) :
    (x ||| x <<< 16).extractLsb' (16 * p) 16 = x.setWidth 16 := by
  apply BitVec.eq_of_getLsbD_eq
  intro i hi
  have h16 : x.getLsbD (16 + i) = false := by
    rw [BitVec.getLsbD]
    apply Nat.testBit_lt_two_pow
    calc x.toNat < 2 ^ 6 := hx
      _ ≤ 2 ^ (16 + i) := Nat.pow_le_pow_right (by decide) (by omega)
  have hp' : p = 0 ∨ p = 1 := by omega
  rcases hp' with rfl | rfl <;> simp [hi, h16, BitVec.getLsbD_setWidth] <;> omega

theorem even_half (a b : BitVec 16) (p : ℕ) (hp : p < 2) :
    (((a ++ b) &&& 65535#32) ||| (a ++ b) <<< 16).extractLsb' (16 * p) 16 = b := by
  apply BitVec.eq_of_getLsbD_eq
  intro i hi
  have hm : ∀ j, (65535#32).getLsbD j = decide (j < 16) := fun j => by
    rw [show (65535#32) = BitVec.ofNat 32 (2 ^ 16 - 1) from rfl, BitVec.getLsbD_ofNat, Nat.testBit_two_pow_sub_one]
    by_cases h : j < 16 <;> simp [h]; omega
  have hp' : p = 0 ∨ p = 1 := by omega
  rw [BitVec.getLsbD_extractLsb', BitVec.getLsbD_or, BitVec.getLsbD_and, BitVec.getLsbD_shiftLeft, hm, BitVec.getLsbD_append,
    BitVec.getLsbD_append]
  rcases hp' with rfl | rfl
  · simp [hi]
  · simp [hi, show 16 + i < 32 by omega]

theorem odd_half (a b : BitVec 16) (p : ℕ) (hp : p < 2) :
    (((a ++ b) &&& 4294901760#32) ||| (a ++ b) >>> 16).extractLsb' (16 * p) 16 = a := by
  apply BitVec.eq_of_getLsbD_eq
  intro i hi
  have hm : ∀ j, (4294901760#32).getLsbD j = decide (16 ≤ j ∧ j < 32) := fun j => by
    by_cases h : j < 32
    · interval_cases j <;> rfl
    · rw [BitVec.getLsbD_of_ge _ _ (by omega)]; simp; omega
  have hp' : p = 0 ∨ p = 1 := by omega
  rw [BitVec.getLsbD_extractLsb', BitVec.getLsbD_or, BitVec.getLsbD_and, BitVec.getLsbD_ushiftRight, hm, BitVec.getLsbD_append,
    BitVec.getLsbD_append]
  rcases hp' with rfl | rfl
  · simp [hi, show ¬ 16 ≤ i by omega]
  · simp [hi, show 16 + i < 32 by omega, show ¬ (16 + (16 + i) < 16) by omega, BitVec.getLsbD_of_ge]

theorem bitcast_four (x : IVec S32x128 8) (h : S32x128.Bitcasts 8 S8x128 32) (r : Fin 8) (c : Fin 128) (q : ℕ) (hq : q < 32)
    (p : Fin 32) (hp : p.val = 4 * r.val + q / 8) :
    (bitcast S8x128 32 x h (ix2 r c)).getLsbD q = (x (ix2 p c)).getLsbD (q % 8) := by
  have e {n : ℕ} (a : Fin n) : (ix2 a c : (⟨2, ![n, 128]⟩ : Shape).Idx) = ValueIdx.ix2 a c := by
    funext z; match z with | 0 => rfl | 1 => rfl
  rw [e, e]
  exact bitcast_8_32_getLsbD_ix2 x h r c q hq p hp

/-! ## One byte looked up -/

theorem decB_at (w tHi tLo : IVec S8x128 32) (b : BitVec 8) (t : ℕ) (ht : t < 4) (sr sl : BitVec 32)
    (hsr : sr = BitVec.ofNat 32 (8 * t)) (hsl : sl = BitVec.ofNat 32 (24 - 8 * t)) (r : Fin 8) (c : Fin 128)
    (hw : ∀ i < 8, (w (ix2 r c)).getLsbD (8 * t + i) = b.getLsbD i) :
    decB w tHi tLo sr sl (ix2 r c)
      = (if 128 ≤ b.toNat then tHi else tLo) (ix2 r ⟨b.toNat % 128, Nat.mod_lt _ (by decide)⟩) := by
  have hl : sr.toNat = 8 * t := by rw [hsr, BitVec.toNat_ofNat]; omega
  have hl' : sl.toNat = 24 - 8 * t := by rw [hsl, BitVec.toNat_ofNat]; omega
  have h127 : ∀ i, (127#32).getLsbD i = decide (i < 7) := fun j => by
    rw [show (127#32) = BitVec.ofNat 32 (2 ^ 7 - 1) from rfl, BitVec.getLsbD_ofNat, Nat.testBit_two_pow_sub_one]
    by_cases h : j < 7 <;> simp [h]; omega
  have e1 : IntOp.andi (IntOp.shrsi .vector (w (ix2 r c)) sr) 127#32 = b.setWidth 32 &&& 127#32 := by
    unfold IntOp.andi IntOp.shrsi
    rw [if_pos (by omega)]
    apply BitVec.eq_of_getLsbD_eq
    intro i hi
    rw [BitVec.getLsbD_and, BitVec.getLsbD_and, h127]
    by_cases h7 : i < 7
    · rw [BitVec.sshiftRight_eq', BitVec.getLsbD_sshiftRight, hl, if_pos (by omega), hw i (by omega), BitVec.getLsbD_setWidth]
      simp [h7, hi]
    · simp [h7]
  have e2 : IntOp.cmpi .slt (IntOp.shli .vector (w (ix2 r c)) sl) 0#32 = BitVec.ofBool (decide (128 ≤ b.toNat)) := by
    unfold IntOp.cmpi IntOp.shli
    rw [if_pos (by omega)]
    congr 1
    show BitVec.slt _ _ = _
    rw [BitVec.slt_zero_eq_msb, BitVec.msb_eq_getLsbD_last, BitVec.shiftLeft_eq', BitVec.getLsbD_shiftLeft, hl']
    have h1 : (w (ix2 r c)).getLsbD (32 - 1 - (24 - 8 * t)) = b.getLsbD 7 := by
      rw [← hw 7 (by decide)]; congr 1; omega
    rw [h1, ← BitVec.msb_eq_getLsbD_last b, BitVec.msb_eq_decide]
    simp
    omega
  have e3 : (b.setWidth 32 &&& 127#32).toNat % 128 = b.toNat % 128 := by
    rw [BitVec.toNat_and]
    show (_ &&& (2 ^ 7 - 1)) % 128 = _
    rw [Nat.and_two_pow_sub_one_eq_mod]
    simp
  pointwise [decB, lane]
  simp only [e1, e2, e3]
  by_cases h : 128 ≤ b.toNat
  · simp [h, Scalar.select]
  · simp [h, Scalar.select]

theorem chanV_at (t : Fin 4) (r : Fin 16) (c : Fin 128) :
    chanV (iota .tc S16x128 32 [0] iota_S16x128_d0_w32) (BitVec.ofNat 32 (2 * t.val)) (ix2 r c)
      = BitVec.ofNat 16 (chan t.val r.val) := by
  pointwise [chanV]
  fin_cases t <;> fin_cases r <;> rfl

/-! ## Sixteen rows, and a tile -/

theorem putOut_at (io vo : IVec S8x128 32) (ch kk : IVec S16x128 16) (oi : BitVec 32) (hoi : oi.toNat < 64) (ov : BitVec 16)
    (n : ℕ) (hn : n < 64) (r : Fin 16) (c : Fin 128) (hio : io (ix2 ⟨r.val / 2, by omega⟩ c) = oi ||| oi <<< 16)
    (hvo : (vo (ix2 ⟨r.val / 2, by omega⟩ c)).extractLsb' (16 * (r.val % 2)) 16 = ov) (hch : ch (ix2 r c) = BitVec.ofNat 16 n) :
    putOut io vo ch kk (ix2 r c) = if oi.toNat = n then ov else kk (ix2 r c) := by
  unfold putOut select cmpi
  rw [bitcast_half, bitcast_half, hio, hvo, hch, dup_half oi hoi _ (Nat.mod_lt _ (by decide))]
  have e : (oi.setWidth 16 == BitVec.ofNat 16 n) = decide (oi.toNat = n) := by
    rw [Bool.eq_iff_iff, beq_iff_eq, decide_eq_true_iff]
    constructor
    · intro h
      have := congrArg BitVec.toNat h
      rw [BitVec.toNat_setWidth, BitVec.toNat_ofNat] at this
      omega
    · intro h
      apply BitVec.eq_of_toNat_eq
      rw [BitVec.toNat_setWidth, BitVec.toNat_ofNat, h]
  show Scalar.select (BitVec.ofBool (oi.setWidth 16 == BitVec.ofNat 16 n)) ov _ = _
  rw [e]
  by_cases h : oi.toNat = n <;> simp [h, Scalar.select]

theorem kRows_at (ix : IVec S4x128 32) (vw : IVec S2x128 32) (ch : IVec S16x128 16) (w : IVec S8x128 32)
    (oi : Fin 4 → BitVec 32) (ov : Fin 4 → BitVec 16) (n : ℕ) (hn : n < 64) (r : Fin 16) (c : Fin 128)
    (hoi : ∀ o, (oi o).toNat < 64) (hix : ∀ o, ix (ix2 o c) = oi o ||| oi o <<< 16)
    (hv0 : vw (ix2 0 c) = ov 1 ++ ov 0) (hv1 : vw (ix2 1 c) = ov 3 ++ ov 2) (hch : ch (ix2 r c) = BitVec.ofNat 16 n) :
    kRows (F := Ideal) ix vw ch w (ix2 r c)
      = Ideal.ofBits .bf16 (overlay oi ov n ((w (ix2 ⟨r.val / 2, by omega⟩ c)).extractLsb' (16 * (r.val % 2)) 16)) := by
  have hp : r.val % 2 < 2 := Nat.mod_lt _ (by decide)
  show Ideal.ofBits .bf16 _ = _
  congr 1
  unfold overlay
  rw [putOut_at _ _ _ _ (oi 3) (hoi 3) (ov 3) n hn r c (by pointwise [idxRow, hix]) ?_ hch,
    putOut_at _ _ _ _ (oi 2) (hoi 2) (ov 2) n hn r c (by pointwise [idxRow, hix]) ?_ hch,
    putOut_at _ _ _ _ (oi 1) (hoi 1) (ov 1) n hn r c (by pointwise [idxRow, hix]) ?_ hch,
    putOut_at _ _ _ _ (oi 0) (hoi 0) (ov 0) n hn r c (by pointwise [idxRow, hix]) ?_ hch, bitcast_half]
  · pointwise [valEven, hv0]; exact even_half _ _ _ hp
  · pointwise [valOdd, hv0]; exact odd_half _ _ _ hp
  · pointwise [valEven, hv1]; exact even_half _ _ _ hp
  · pointwise [valOdd, hv1]; exact odd_half _ _ _ hp

theorem stack4_at (a : Fin 4 → FVec Ideal S16x128 .bf16) (t : Fin 4) (r : Fin 16) (c : Fin 128) :
    stack4 (a 0) (a 1) (a 2) (a 3) (ix2 ⟨16 * t.val + r.val, by omega⟩ c) = a t (ix2 r c) := by
  pointwise [stack4]
  match t with
  | 0 => simp
  | 1 => simp
  | 2 =>
    show dite (16 * 2 + r.val < 16) _ _ = _
    rw [dif_neg (by omega), dif_neg (by omega), dif_pos (by omega)]
    exact congrArg (a 2) ((ix2_inj ..).2 ⟨Fin.ext (by show 16 * 2 + r.val - 16 - 16 = r.val; omega), rfl⟩)
  | 3 =>
    show dite (16 * 3 + r.val < 16) _ _ = _
    rw [dif_neg (by omega), dif_neg (by omega), dif_neg (by omega)]
    exact congrArg (a 3) ((ix2_inj ..).2 ⟨Fin.ext (by show 16 * 3 + r.val - 16 - 16 - 16 = r.val; omega), rfl⟩)

theorem cast5 (v : IVec S1x1x1x8x128 32) (r : Fin 8) (c : Fin 128) :
    shapeCast S8x128 v shapeCasts_S1x1x1x8x128_S8x128 (ix2 r c) = v (ix5 0 0 0 r c) := by pointwise

theorem cast4_8 (v : IVec S1x1x32x128 8) (r : Fin 32) (c : Fin 128) :
    shapeCast S32x128 v shapeCasts_S1x1x32x128_S32x128 (ix2 r c) = v (ix4 0 0 r c) := by pointwise

theorem cast4_32 (v : IVec S1x1x4x128 32) (r : Fin 4) (c : Fin 128) :
    shapeCast S4x128 v shapeCasts_S1x1x4x128_S4x128 (ix2 r c) = v (ix4 0 0 r c) := by pointwise

theorem cast4_16 (v : IVec S1x1x4x128 16) (r : Fin 4) (c : Fin 128) :
    shapeCast S4x128 v shapeCasts_S1x1x4x128_S4x128 (ix2 r c) = v (ix4 0 0 r c) := by pointwise

section

variable (arg6 : Memref sig .tc .vmem S1x8x32x2048 .i8) (harg6 : arg6.IsWhole)
  (arg9 : Memref sig .tc .vmem S1x8x4x2048 .i32) (harg9 : arg9.IsWhole)
  (arg10 : Memref sig .tc .vmem S1x8x4x2048 .i16) (harg10 : arg10.IsWhole)
  (arg11 : Memref sig .tc .vmem S8x2x4x8x128 .i32) (harg11 : arg11.IsWhole)
  (xc : Vec Ideal S1x8x32x2048 .i8) (xi : Vec Ideal S1x8x4x2048 .i32) (xo : Vec Ideal S1x8x4x2048 .i16)
  (xt : Vec Ideal S8x2x4x8x128 .i32) (k : Fin k0_t1_loop.trips) (off : ℕ) (h : off + 128 ≤ 2048)

theorem words_at (t : ℕ) (ht : t < 4) (r : Fin 8) (c : Fin 128) (b : BitVec 8)
    (hb : xc (ix4 0 ⟨hN k, hN_lt k⟩ ⟨4 * r.val + t, by omega⟩ ⟨off + c.val, by omega⟩) = b) (i : ℕ) (hi : i < 8) :
    (words (F := Ideal) arg6 (harg6.unread xc) k off h (ix2 r c)).getLsbD (8 * t + i) = b.getLsbD i := by
  unfold words
  rw [bitcast_four _ _ r c _ (by omega) ⟨4 * r.val + t, by omega⟩ (by show 4 * r.val + t = _; omega), cast4_8,
    show (8 * t + i) % 8 = i by omega]
  refine congrArg (fun b : BitVec 8 => b.getLsbD i) ((harg6.readAt_unread xc _ _).trans ((congrArg xc ?_).trans hb))
  funext a
  apply Fin.ext
  match a with
  | 0 => rfl
  | 1 => rfl
  | 2 => exact (Rect.idx_unit_val _ _ _ _ _).trans (Nat.zero_add _)
  | 3 => exact Rect.idx_unit_val _ _ _ _ _

theorem tab_at (s : ℕ) (hs : s < 2) (t : ℕ) (ht : t < 4) (r : Fin 8) (c : Fin 128) :
    tab (F := Ideal) arg11 (harg11.unread xt) k s t hs ht (ix2 r c) = xt (ix5 ⟨hN k, hN_lt k⟩ ⟨s, hs⟩ ⟨t, ht⟩ r c) := by
  unfold tab
  rw [cast5]
  refine (harg11.readAt_unread xt _ _).trans (congrArg xt ?_)
  funext a
  apply Fin.ext
  match a with
  | 0 => rfl
  | 1 => rfl
  | 2 => rfl
  | 3 => exact (Rect.idx_unit_val _ _ _ _ _).trans (Nat.zero_add _)
  | 4 => exact (Rect.idx_unit_val _ _ _ _ _).trans (Nat.zero_add _)

theorem idxW_at (o : Fin 4) (c : Fin 128) :
    idxW (F := Ideal) arg9 (harg9.unread xi) k off h (ix2 o c)
      = (show BitVec 32 from xi (ix4 0 ⟨hN k, hN_lt k⟩ o ⟨off + c.val, by omega⟩))
        ||| (show BitVec 32 from xi (ix4 0 ⟨hN k, hN_lt k⟩ o ⟨off + c.val, by omega⟩)) <<< 16 := by
  have e : shapeCast S4x128 (View.readAt (Elt Ideal) arg9.view (Rect.unit (s := S1x8x4x2048) ![0, hN k, 0, off] S1x1x4x128.size (inb4 k off h)).toLoadRect (harg9.unread xi)) shapeCasts_S1x1x4x128_S4x128 (ix2 o c)
      = xi (ix4 0 ⟨hN k, hN_lt k⟩ o ⟨off + c.val, by omega⟩) := by
    rw [cast4_32]
    refine (harg9.readAt_unread xi _ _).trans (congrArg xi ?_)
    funext a
    apply Fin.ext
    match a with
    | 0 => rfl
    | 1 => rfl
    | 2 => exact (Rect.idx_unit_val _ _ _ _ _).trans (Nat.zero_add _)
    | 3 => exact Rect.idx_unit_val _ _ _ _ _
  show IntOp.ori _ (IntOp.shli .vector _ 16#32) = _
  rw [e]
  rfl

theorem valW_at (o : Fin 2) (c : Fin 128) :
    valW (F := Ideal) arg10 (harg10.unread xo) k off h (ix2 o c)
      = (show BitVec 16 from xo (ix4 0 ⟨hN k, hN_lt k⟩ ⟨2 * o.val + 1, by omega⟩ ⟨off + c.val, by omega⟩))
        ++ (show BitVec 16 from xo (ix4 0 ⟨hN k, hN_lt k⟩ ⟨2 * o.val, by omega⟩ ⟨off + c.val, by omega⟩)) := by
  have e (o : Fin 4) : shapeCast S4x128 (View.readAt (Elt Ideal) arg10.view (Rect.unit (s := S1x8x4x2048) ![0, hN k, 0, off] S1x1x4x128.size (inb4 k off h)).toLoadRect (harg10.unread xo)) shapeCasts_S1x1x4x128_S4x128 (ix2 o c)
      = xo (ix4 0 ⟨hN k, hN_lt k⟩ o ⟨off + c.val, by omega⟩) := by
    rw [cast4_16]
    refine (harg10.readAt_unread xo _ _).trans (congrArg xo ?_)
    funext a
    apply Fin.ext
    match a with
    | 0 => rfl
    | 1 => rfl
    | 2 => exact (Rect.idx_unit_val _ _ _ _ _).trans (Nat.zero_add _)
    | 3 => exact Rect.idx_unit_val _ _ _ _ _
  unfold valW
  rw [bitcast_two, e, e]

theorem dec_at (t : Fin 4) (sr sl : BitVec 32) (hsr : sr = BitVec.ofNat 32 (8 * t.val)) (hsl : sl = BitVec.ofNat 32 (24 - 8 * t.val))
    (r : Fin 16) (c : Fin 128) :
    (dec (F := Ideal) arg11 (harg11.unread xt) k (words (F := Ideal) arg6 (harg6.unread xc) k off h) t.val t.isLt sr sl
        (ix2 ⟨r.val / 2, by omega⟩ c)).extractLsb' (16 * (r.val % 2)) 16
      = level xt ⟨hN k, hN_lt k⟩ t ⟨r.val / 2, by omega⟩ (r.val % 2)
          (xc (ix4 0 ⟨hN k, hN_lt k⟩ ⟨4 * (r.val / 2) + t.val, by omega⟩ ⟨off + c.val, by omega⟩)) := by
  have hw := words_at arg6 harg6 xc k off h t.val t.isLt ⟨r.val / 2, by omega⟩ c _ rfl
  generalize xc (ix4 0 ⟨hN k, hN_lt k⟩ ⟨4 * (r.val / 2) + t.val, by omega⟩ ⟨off + c.val, by omega⟩) = b at hw ⊢
  change BitVec 8 at b
  unfold dec level
  rw [decB_at _ _ _ b t.val t.isLt sr sl hsr hsl _ c hw]
  congr 1
  by_cases hb : 128 ≤ b.toNat
  · rw [if_pos hb, if_pos hb, tab_at]; rfl
  · rw [if_neg hb, if_neg hb, tab_at]; rfl

variable (hxi : ∀ o p, (show BitVec 32 from xi (ix4 0 ⟨hN k, hN_lt k⟩ o p)).toNat < 64)

include hxi in
theorem kTile_at (t : Fin 4) (r : Fin 16) (c : Fin 128) :
    kTile (F := Ideal) arg6 arg9 arg10 arg11 (iota .tc S16x128 32 [0] iota_S16x128_d0_w32) (harg6.unread xc) (harg9.unread xi)
        (harg10.unread xo) (harg11.unread xt) k off h (ix2 ⟨16 * t.val + r.val, by omega⟩ c)
      = Ideal.ofBits .bf16 (overlay (fun o => xi (ix4 0 ⟨hN k, hN_lt k⟩ o ⟨off + c.val, by omega⟩))
          (fun o => xo (ix4 0 ⟨hN k, hN_lt k⟩ o ⟨off + c.val, by omega⟩)) (chan t r)
          (level xt ⟨hN k, hN_lt k⟩ t ⟨r.val / 2, by omega⟩ (r.val % 2)
            (xc (ix4 0 ⟨hN k, hN_lt k⟩ ⟨4 * (r.val / 2) + t.val, by omega⟩ ⟨off + c.val, by omega⟩)))) := by
  have hch : chan t r < 64 := by unfold chan; omega
  have key : ∀ (t : Fin 4) (sr sl : BitVec 32) (hsr : sr = BitVec.ofNat 32 (8 * t.val)) (hsl : sl = BitVec.ofNat 32 (24 - 8 * t.val))
      (ch : IVec S16x128 16) (hc : ch (ix2 r c) = BitVec.ofNat 16 (chan t r)),
      kRows (F := Ideal) (idxW arg9 (harg9.unread xi) k off h) (valW arg10 (harg10.unread xo) k off h) ch
        (dec arg11 (harg11.unread xt) k (words arg6 (harg6.unread xc) k off h) t.val t.isLt sr sl) (ix2 r c) = _ :=
    fun t sr sl hsr hsl ch hc =>
      (kRows_at _ _ _ _ (fun o => xi (ix4 0 ⟨hN k, hN_lt k⟩ o ⟨off + c.val, by omega⟩))
        (fun o => xo (ix4 0 ⟨hN k, hN_lt k⟩ o ⟨off + c.val, by omega⟩)) (chan t r) (by unfold chan; omega) r c
        (fun o => hxi o _) (fun o => idxW_at arg9 harg9 xi k off h o c) (valW_at arg10 harg10 xo k off h 0 c)
        (valW_at arg10 harg10 xo k off h 1 c) hc).trans
      (congrArg (fun b => Ideal.ofBits .bf16 (overlay _ _ _ b))
        (dec_at arg6 harg6 arg11 harg11 xc xt k off h t sr sl hsr hsl r c))
  refine (stack4_at ![_, _, _, _] t r c).trans ?_
  match t with
  | 0 => exact key 0 0#32 24#32 rfl rfl _ (chanV_at 0 r c)
  | 1 => exact key 1 8#32 16#32 rfl rfl _ (chanV_at 1 r c)
  | 2 => exact key 2 16#32 8#32 rfl rfl _ (chanV_at 2 r c)
  | 3 => exact key 3 24#32 0#32 rfl rfl _ (chanV_at 3 r c)

theorem vTile_at (t : Fin 4) (r : Fin 16) (c : Fin 128) :
    vTile (F := Ideal) arg6 arg11 (harg6.unread xc) (harg11.unread xt) k off h (ix2 ⟨16 * t.val + r.val, by omega⟩ c)
      = Ideal.ofBits .bf16 (level xt ⟨hN k, hN_lt k⟩ t ⟨r.val / 2, by omega⟩ (r.val % 2)
            (xc (ix4 0 ⟨hN k, hN_lt k⟩ ⟨4 * (r.val / 2) + t.val, by omega⟩ ⟨off + c.val, by omega⟩))) := by
  have key : ∀ (t : Fin 4) (sr sl : BitVec 32) (hsr : sr = BitVec.ofNat 32 (8 * t.val)) (hsl : sl = BitVec.ofNat 32 (24 - 8 * t.val)),
      vRows (F := Ideal) (dec arg11 (harg11.unread xt) k (words arg6 (harg6.unread xc) k off h) t.val t.isLt sr sl) (ix2 r c) = _ :=
    fun t sr sl hsr hsl =>
      (congrArg (Ideal.ofBits .bf16) (bitcast_half _ _ r c)).trans
        (congrArg (Ideal.ofBits .bf16) (dec_at arg6 harg6 arg11 harg11 xc xt k off h t sr sl hsr hsl r c))
  refine (stack4_at ![_, _, _, _] t r c).trans ?_
  match t with
  | 0 => exact key 0 0#32 24#32 rfl rfl
  | 1 => exact key 1 8#32 16#32 rfl rfl
  | 2 => exact key 2 16#32 8#32 rfl rfl
  | 3 => exact key 3 24#32 0#32 rfl rfl

end

end Cert.KernelIdeal.Gen

end
-- ==== Proof.Soft.lean ====
/- The softmax of a row of scores taken a stretch at a time, in the extended reals: the running maximum, the running sum
   of weights, and the running weighted sum, and the quotient of the last two as the plain softmax has it. -/
module

public import Idealize.ShloMosaic.PureOps.Ideal.Laws
public import Mathlib.Data.EReal.Operations
public import Mathlib.Data.EReal.Inv

@[expose] public section

noncomputable section

namespace Cert.Soft

open Idealize.ShloMosaic

theorem exp_nonneg (x : EReal) : 0 ≤ Ideal.exp x := by
  induction x using EReal.rec with
  | bot => exact le_rfl
  | top => exact le_top
  | coe r => rw [Ideal.exp_coe]; exact_mod_cast (Real.exp_pos r).le

theorem exp_sub_ne_top {x m : EReal} (hx : x ≠ ⊤) (hm : m ≠ ⊥) (hm' : m ≠ ⊤) : Ideal.exp (x - m) ≠ ⊤ := by
  lift m to ℝ using ⟨hm', hm⟩
  induction x using EReal.rec with
  | bot => rw [EReal.bot_sub]; exact EReal.zero_ne_top
  | top => exact absurd rfl hx
  | coe r => rw [← EReal.coe_sub, Ideal.exp_coe]; exact EReal.coe_ne_top _

/-- A weight against one maximum, rescaled to another. -/
theorem exp_mul {x m m' : EReal} (hx : x ≠ ⊤) (hm : m ≠ ⊥) (hm' : m ≠ ⊤) (h : m' ≠ ⊥) (h' : m' ≠ ⊤) :
    Ideal.exp (x - m) * Ideal.exp (m - m') = Ideal.exp (x - m') := by
  lift m to ℝ using ⟨hm', hm⟩
  lift m' to ℝ using ⟨h', h⟩
  induction x using EReal.rec with
  | bot => rw [EReal.bot_sub, EReal.bot_sub, Ideal.exp_bot, zero_mul]
  | top => exact absurd rfl hx
  | coe r =>
    rw [← EReal.coe_sub, ← EReal.coe_sub, ← EReal.coe_sub, Ideal.exp_coe, Ideal.exp_coe, Ideal.exp_coe, ← EReal.coe_mul,
      ← Real.exp_add]
    congr 2; ring

/-- A finite nonnegative factor goes into a sum. -/
theorem sum_mul {ι : Type} (s : Finset ι) (f : ι → EReal) {c : EReal} (hc : 0 ≤ c) (hc' : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top hc hc', ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section

variable (N vn : Fin 4 → EReal) (S sc v : ℕ → EReal)

/-- The maximum of the new scores and the first `k` of the others. -/
def MX (k : ℕ) : EReal := max (Finset.univ.sup N) ((Finset.range k).sup S)

/-- The weights of the new scores and of the first `k` of the others, added up. -/
def LX (k : ℕ) : EReal := ∑ t, Ideal.exp (N t - MX N S k) + ∑ j ∈ Finset.range k, Ideal.exp (S j - MX N S k)

/-- The values under those weights, added up. -/
def AX (k : ℕ) : EReal :=
  ∑ t, Ideal.exp (N t - MX N S k) * vn t + ∑ j ∈ Finset.range k, (Ideal.exp (S j - MX N S k) * sc j) * v j

theorem MX_add (k w : ℕ) :
    MX N S (k + w) = max (MX N S k) (Finset.univ.sup fun c : Fin w => S (k + c.val)) := by
  unfold MX
  rw [max_assoc]
  congr 1
  apply le_antisymm
  · refine Finset.sup_le fun j hj => ?_
    rw [Finset.mem_range] at hj
    rcases Nat.lt_or_ge j k with h | h
    · exact le_max_of_le_left (Finset.le_sup (f := S) (Finset.mem_range.2 h))
    · refine le_max_of_le_right ?_
      have := Finset.le_sup (f := fun c : Fin w => S (k + c.val)) (Finset.mem_univ (⟨j - k, by omega⟩ : Fin w))
      simpa [Nat.add_sub_cancel' h] using this
  · refine max_le (Finset.sup_mono fun j hj => ?_) (Finset.sup_le fun c _ => ?_)
    · rw [Finset.mem_range] at hj ⊢; omega
    · exact Finset.le_sup (f := S) (Finset.mem_range.2 (by omega))

theorem sum_range_add (f : ℕ → EReal) (k w : ℕ) :
    ∑ j ∈ Finset.range (k + w), f j = ∑ j ∈ Finset.range k, f j + ∑ c : Fin w, f (k + c.val) := by
  rw [Finset.sum_range_add, Finset.sum_range (f := fun x => f (k + x))]

variable {N vn S sc v} (hN : ∀ t, N t ≠ ⊤) (hN0 : N 0 ≠ ⊥) (hS : ∀ j, S j ≠ ⊤)

include hN0 in
theorem MX_ne_bot (k : ℕ) : MX N S k ≠ ⊥ := by
  intro h
  have : N 0 ≤ MX N S k := le_max_of_le_left (Finset.le_sup (Finset.mem_univ 0))
  rw [h, le_bot_iff] at this
  exact hN0 this

include hN hS in
theorem MX_ne_top (k : ℕ) : MX N S k ≠ ⊤ := by
  have h : MX N S k < ⊤ :=
    max_lt ((Finset.sup_lt_iff (by exact bot_lt_top)).2 fun t _ => lt_top_iff_ne_top.2 (hN t))
      ((Finset.sup_lt_iff (by exact bot_lt_top)).2 fun j _ => lt_top_iff_ne_top.2 (hS j))
  exact h.ne

include hN hN0 hS in
theorem LX_add (k w : ℕ) :
    LX N S (k + w) = LX N S k * Ideal.exp (MX N S k - MX N S (k + w))
      + ∑ c : Fin w, Ideal.exp (S (k + c.val) - MX N S (k + w)) := by
  have a := MX_ne_bot (S := S) hN0 k
  have a' := MX_ne_top hN hS k
  have b := MX_ne_bot (S := S) hN0 (k + w)
  have b' := MX_ne_top hN hS (k + w)
  have c := exp_nonneg (MX N S k - MX N S (k + w))
  have c' := exp_sub_ne_top a' b b'
  unfold LX
  rw [sum_range_add, ← add_assoc, EReal.right_distrib_of_nonneg_of_ne_top c c', sum_mul _ _ c c', sum_mul _ _ c c']
  congr 2
  · exact Finset.sum_congr rfl fun t _ => (exp_mul (hN t) a a' b b').symm
  · exact Finset.sum_congr rfl fun j _ => (exp_mul (hS j) a a' b b').symm

include hN hN0 hS in
theorem AX_add (k w : ℕ) :
    AX N vn S sc v (k + w) = AX N vn S sc v k * Ideal.exp (MX N S k - MX N S (k + w))
      + ∑ c : Fin w, (Ideal.exp (S (k + c.val) - MX N S (k + w)) * sc (k + c.val)) * v (k + c.val) := by
  have a := MX_ne_bot (S := S) hN0 k
  have a' := MX_ne_top hN hS k
  have b := MX_ne_bot (S := S) hN0 (k + w)
  have b' := MX_ne_top hN hS (k + w)
  have c := exp_nonneg (MX N S k - MX N S (k + w))
  have c' := exp_sub_ne_top a' b b'
  unfold AX
  rw [sum_range_add, ← add_assoc, EReal.right_distrib_of_nonneg_of_ne_top c c', sum_mul _ _ c c', sum_mul _ _ c c']
  congr 2
  · refine Finset.sum_congr rfl fun t _ => ?_
    rw [← exp_mul (hN t) a a' b b', mul_right_comm]
  · refine Finset.sum_congr rfl fun j _ => ?_
    rw [← exp_mul (hS j) a a' b b', mul_right_comm _ _ (sc j), mul_right_comm _ _ (v j)]

/-- A stretch of scores all at minus infinity leaves the maximum. -/
theorem MX_skip {k w : ℕ} (h : ∀ c : Fin w, S (k + c.val) = ⊥) : MX N S (k + w) = MX N S k := by
  rw [MX_add]
  refine max_eq_left ?_
  refine le_trans (Finset.sup_le fun c _ => ?_) bot_le
  rw [h c]

theorem LX_skip {k w : ℕ} (h : ∀ c : Fin w, S (k + c.val) = ⊥) : LX N S (k + w) = LX N S k := by
  unfold LX
  rw [MX_skip h, sum_range_add]
  have : ∑ c : Fin w, Ideal.exp (S (k + c.val) - MX N S k) = 0 :=
    Finset.sum_eq_zero fun c _ => by rw [h c, EReal.bot_sub, Ideal.exp_bot]
  rw [this, add_zero]

theorem AX_skip {k w : ℕ} (h : ∀ c : Fin w, S (k + c.val) = ⊥) : AX N vn S sc v (k + w) = AX N vn S sc v k := by
  unfold AX
  rw [MX_skip h, sum_range_add]
  have : ∑ c : Fin w, (Ideal.exp (S (k + c.val) - MX N S k) * sc (k + c.val)) * v (k + c.val) = 0 :=
    Finset.sum_eq_zero fun c _ => by rw [h c, EReal.bot_sub, Ideal.exp_bot, zero_mul, zero_mul]
  rw [this, add_zero]

include hN hN0 hS in
/-- The sum of the weights is a positive real. -/
theorem LX_pos (k : ℕ) : ∃ r : ℝ, 0 < r ∧ LX N S k = (r : EReal) := by
  have a := MX_ne_bot (S := S) hN0 k
  have a' := MX_ne_top hN hS k
  have h0 : ∀ x : EReal, x ≠ ⊤ → ∃ r : ℝ, 0 ≤ r ∧ Ideal.exp (x - MX N S k) = (r : EReal) := fun x hx => by
    have h1 := exp_nonneg (x - MX N S k)
    have h2 := exp_sub_ne_top hx a a'
    refine ⟨(Ideal.exp (x - MX N S k)).toReal, EReal.toReal_nonneg h1, (EReal.coe_toReal h2 ?_).symm⟩
    intro hb; rw [hb] at h1; exact absurd h1 (by simp)
  choose f hf hf' using fun t => h0 (N t) (hN t)
  choose g hg hg' using fun j => h0 (S j) (hS j)
  have hpos : 0 < f 0 := by
    have h1 : N 0 ≠ ⊤ := hN 0
    refine lt_of_le_of_ne (hf 0) fun h => ?_
    have h2 := hf' 0
    rw [← h] at h2
    obtain ⟨m, hm⟩ : ∃ m : ℝ, MX N S k = (m : EReal) := ⟨_, (EReal.coe_toReal a' a).symm⟩
    obtain ⟨x, hx⟩ : ∃ x : ℝ, N 0 = (x : EReal) := ⟨_, (EReal.coe_toReal h1 hN0).symm⟩
    rw [hm, hx, ← EReal.coe_sub, Ideal.exp_coe] at h2
    have := Real.exp_pos (x - m)
    have h3 : Real.exp (x - m) = 0 := by exact_mod_cast h2
    linarith
  refine ⟨∑ t, f t + ∑ j ∈ Finset.range k, g j, ?_, ?_⟩
  · have h1 : f 0 ≤ ∑ t, f t := Finset.single_le_sum (fun t _ => hf t) (Finset.mem_univ 0)
    have h2 : 0 ≤ ∑ j ∈ Finset.range k, g j := Finset.sum_nonneg fun j _ => hg j
    linarith
  · unfold LX
    rw [EReal.coe_add, coe_sum, coe_sum]
    congr 1
    · exact Finset.sum_congr rfl fun t _ => hf' t
    · exact Finset.sum_congr rfl fun j _ => hg' j

include hN hN0 hS in
/-- The quotient of the two sums is the sum of the quotients, the cached positions first. -/
theorem AX_div (k : ℕ) :
    Ideal.div (AX N vn S sc v k) (LX N S k)
      = ∑ j ∈ Finset.range k, (Ideal.div (Ideal.exp (S j - MX N S k)) (LX N S k) * sc j) * v j
        + ∑ t, Ideal.div (Ideal.exp (N t - MX N S k)) (LX N S k) * vn t := by
  obtain ⟨r, hr, hL⟩ := LX_pos hN hN0 hS k
  have hd : ∀ x : EReal, Ideal.div x (LX N S k) = x * ((r⁻¹ : ℝ) : EReal) := fun x => by
    unfold Ideal.div
    rw [hL, if_neg (by exact_mod_cast hr.ne'), EReal.coe_inv]
  have c : (0 : EReal) ≤ ((r⁻¹ : ℝ) : EReal) := by exact_mod_cast (inv_pos.2 hr).le
  have c' : ((r⁻¹ : ℝ) : EReal) ≠ ⊤ := EReal.coe_ne_top _
  rw [hd]
  simp only [hd]
  unfold AX
  rw [EReal.right_distrib_of_nonneg_of_ne_top c c', sum_mul _ _ c c', sum_mul _ _ c c', add_comm]
  congr 1
  · refine Finset.sum_congr rfl fun j _ => ?_
    rw [mul_right_comm _ (v j), mul_right_comm _ (sc j)]
  · refine Finset.sum_congr rfl fun t _ => ?_
    rw [mul_right_comm]

end

end Cert.Soft

end
-- ==== Proof.Chunk.lean ====
/- One chunk of 256 positions folded into a head's state, row by row, and a block of eight of them: the running maximum, sum
   and weighted sum of `Soft` one stretch further. -/
module

public import proofs.«01_k».proof.Proof.Tile
public import proofs.«01_k».proof.Proof.Soft

@[expose] public section

set_option maxRecDepth 16384

noncomputable section

namespace Cert.KernelIdeal.Gen

open Idealize.ShloMosaic Idealize.ShloMosaic.TcCoe Idealize.ShloMosaic.Tactic

/-- The factor of the scores. -/
abbrev scale : EReal := Ideal.ofBits .f32 0x3E000000#32

theorem ofBits_bot : Ideal.ofBits .f32 0xFF800000#32 = ⊥ := by
  simp [Ideal.ofBits, Ideal.ieee]

theorem fold_max (n : ℕ) (f : Fin n → EReal) : Finset.univ.fold max (Ideal.ofBits .f32 0xFF800000#32) f = Finset.univ.sup f := by
  rw [ofBits_bot]; rfl

theorem newM_at (m : FVec Ideal S64x1 .f32) (s : FVec Ideal S64x256 .f32) (r : Fin 64) :
    newM m s (ix2 r 0) = max (m (ix2 r 0)) (Finset.univ.sup fun c : Fin 256 => s (ix2 r c)) := by
  pointwise [newM]
  rw [fold_max]

theorem wts_at (m : FVec Ideal S64x1 .f32) (s : FVec Ideal S64x256 .f32) (r : Fin 64) (c : Fin 256) :
    wts m s (ix2 r c) = Ideal.exp (s (ix2 r c) - m (ix2 r 0)) := by
  pointwise [wts]

theorem newL_at (l a : FVec Ideal S64x1 .f32) (e : FVec Ideal S64x256 .f32) (r : Fin 64) :
    newL l a e (ix2 r 0) = l (ix2 r 0) * a (ix2 r 0) + ∑ c : Fin 256, e (ix2 r c) := by
  pointwise [newL]

theorem newA_at (acc : FVec Ideal S64x64 .f32) (a : FVec Ideal S64x1 .f32) (e : FVec Ideal S64x256 .f32) (sc : Vec Ideal S1x1x256 .f32)
    (vt : FVec Ideal S64x256 .bf16) (r d : Fin 64) :
    newA acc a e sc vt (ix2 r d)
      = acc (ix2 r d) * a (ix2 r 0) + ∑ c : Fin 256, (e (ix2 r c) * (show EReal from sc (ix3 0 0 c))) * vt (ix2 d c) := by
  pointwise [newA]

theorem scores_at (q : FVec Ideal S64x64 .bf16) (kt : FVec Ideal S64x256 .bf16) (pos n : BitVec 32) (r : Fin 64) (c : Fin 256) :
    scores q kt pos n (ix2 r c)
      = if (pos + BitVec.ofNat 32 c.val).slt n then (∑ d : Fin 64, q (ix2 r d) * kt (ix2 d c)) * scale else ⊥ := by
  pointwise [scores]
  rw [ofBits_bot]
  show Scalar.select (BitVec.ofBool (BitVec.slt _ _)) _ _ = _
  by_cases h : (pos + BitVec.ofNat 32 c.val).slt n = true
  · rw [if_pos h]
    show Scalar.select (BitVec.ofBool ((pos + BitVec.ofNat 32 c.val).slt n)) _ _ = _
    rw [h]; rfl
  · rw [if_neg h]
    show Scalar.select (BitVec.ofBool ((pos + BitVec.ofNat 32 c.val).slt n)) _ _ = _
    rw [Bool.not_eq_true] at h
    rw [h]; rfl

theorem pair_at (a b : FVec Ideal S64x128 .bf16) (r : Fin 64) (c : Fin 256) :
    pair a b (ix2 r c) = if h : c.val < 128 then a (ix2 r ⟨c.val, h⟩) else b (ix2 r ⟨c.val - 128, by omega⟩) := by
  pointwise [pair]

/-! ## A column's key and value, element by element -/

/-- Row `d` of a position's key. -/
def kEl (codes : Fin 32 → BitVec 8) (oi : Fin 4 → BitVec 32) (ov : Fin 4 → BitVec 16) (T : IVec S8x2x4x8x128 32) (h : Fin 8)
    (d : Fin 64) : EReal :=
  Ideal.ofBits .bf16 (overlay oi ov (chan (d.val / 16) (d.val % 16))
    (level T h ⟨d.val / 16, by omega⟩ ⟨d.val % 16 / 2, by omega⟩ (d.val % 16 % 2)
      (codes ⟨4 * (d.val % 16 / 2) + d.val / 16, by omega⟩)))

/-- Row `d` of a position's value. -/
def vEl (codes : Fin 32 → BitVec 8) (T : IVec S8x2x4x8x128 32) (h : Fin 8) (d : Fin 64) : EReal :=
  Ideal.ofBits .bf16 (level T h ⟨d.val / 16, by omega⟩ ⟨d.val % 16 / 2, by omega⟩ (d.val % 16 % 2)
    (codes ⟨4 * (d.val % 16 / 2) + d.val / 16, by omega⟩))

theorem row_eq (d : Fin 64) : (⟨16 * (⟨d.val / 16, by omega⟩ : Fin 4).val + (⟨d.val % 16, by omega⟩ : Fin 16).val, by
    show 16 * (d.val / 16) + d.val % 16 < 64; omega⟩ : Fin 64) = d :=
  Fin.ext (by show 16 * (d.val / 16) + d.val % 16 = d.val; omega)

section

variable (arg3 : Memref sig .tc .vmem S1x8x64x64 .bf16) (harg3 : arg3.IsWhole)
  (arg6 : Memref sig .tc .vmem S1x8x32x2048 .i8) (harg6 : arg6.IsWhole)
  (arg7 : Memref sig .tc .vmem S1x8x32x2048 .i8) (harg7 : arg7.IsWhole)
  (arg8 : Memref sig .tc .vmem S1x8x2048 .f32) (harg8 : arg8.IsWhole)
  (arg9 : Memref sig .tc .vmem S1x8x4x2048 .i32) (harg9 : arg9.IsWhole)
  (arg10 : Memref sig .tc .vmem S1x8x4x2048 .i16) (harg10 : arg10.IsWhole)
  (arg11 : Memref sig .tc .vmem S8x2x4x8x128 .i32) (harg11 : arg11.IsWhole)
  (arg12 : Memref sig .tc .vmem S8x2x4x8x128 .i32) (harg12 : arg12.IsWhole)
  (x0 : Vec Ideal S1x8x64x64 .bf16) (x3 x4 : Vec Ideal S1x8x32x2048 .i8) (x5 : Vec Ideal S1x8x2048 .f32)
  (x6 : Vec Ideal S1x8x4x2048 .i32) (x7 : Vec Ideal S1x8x4x2048 .i16) (x8 x9 : Vec Ideal S8x2x4x8x128 .i32)
  (k : Fin k0_t1_loop.trips)

/-- The head of a trip. -/
abbrev hF : Fin 8 := ⟨hN k, hN_lt k⟩

variable (hxi : ∀ o p, (show BitVec 32 from x6 (ix4 0 (hF k) o p)).toNat < 64)

include hxi in
theorem kPair_at (n : ℕ) (hn : n < 8) (d : Fin 64) (c : Fin 256) :
    pair (kTile (F := Ideal) arg6 arg9 arg10 arg11 (iota .tc S16x128 32 [0] iota_S16x128_d0_w32) (harg6.unread x3) (harg9.unread x6)
        (harg10.unread x7) (harg11.unread x8) k (n * 256) (by omega))
      (kTile (F := Ideal) arg6 arg9 arg10 arg11 (iota .tc S16x128 32 [0] iota_S16x128_d0_w32) (harg6.unread x3) (harg9.unread x6)
        (harg10.unread x7) (harg11.unread x8) k (n * 256 + 128) (by omega)) (ix2 d c)
      = kEl (fun i => x3 (ix4 0 (hF k) i ⟨n * 256 + c.val, by omega⟩)) (fun o => x6 (ix4 0 (hF k) o ⟨n * 256 + c.val, by omega⟩))
          (fun o => x7 (ix4 0 (hF k) o ⟨n * 256 + c.val, by omega⟩)) x8 (hF k) d := by
  have key := fun off h c => kTile_at arg6 harg6 arg9 harg9 arg10 harg10 arg11 harg11 x3 x6 x7 x8 k off h hxi
    ⟨d.val / 16, by omega⟩ ⟨d.val % 16, by omega⟩ c
  have e2 (c : Fin 128) : (ix2 d c : S64x128.Idx) = ix2 ⟨16 * (d.val / 16) + d.val % 16, by omega⟩ c :=
    congrArg (ix2 · c) (row_eq d).symm
  rw [pair_at]
  by_cases h : c.val < 128
  · rw [dif_pos h, e2]; exact key _ _ _
  · rw [dif_neg h, e2]
    have e : (⟨n * 256 + 128 + (c.val - 128), by omega⟩ : Fin 2048) = ⟨n * 256 + c.val, by omega⟩ := Fin.ext (by show n * 256 + 128 + (c.val - 128) = n * 256 + c.val; omega)
    refine (key _ _ _).trans ?_
    simp only [e]; rfl

theorem vPair_at (n : ℕ) (hn : n < 8) (d : Fin 64) (c : Fin 256) :
    pair (vTile (F := Ideal) arg7 arg12 (harg7.unread x4) (harg12.unread x9) k (n * 256) (by omega))
      (vTile (F := Ideal) arg7 arg12 (harg7.unread x4) (harg12.unread x9) k (n * 256 + 128) (by omega)) (ix2 d c)
      = vEl (fun i => x4 (ix4 0 (hF k) i ⟨n * 256 + c.val, by omega⟩)) x9 (hF k) d := by
  have key := fun off h c => vTile_at arg7 harg7 arg12 harg12 x4 x9 k off h ⟨d.val / 16, by omega⟩ ⟨d.val % 16, by omega⟩ c
  have e2 (c : Fin 128) : (ix2 d c : S64x128.Idx) = ix2 ⟨16 * (d.val / 16) + d.val % 16, by omega⟩ c :=
    congrArg (ix2 · c) (row_eq d).symm
  rw [pair_at]
  by_cases h : c.val < 128
  · rw [dif_pos h, e2]; exact key _ _ _
  · rw [dif_neg h, e2]
    have e : (⟨n * 256 + 128 + (c.val - 128), by omega⟩ : Fin 2048) = ⟨n * 256 + c.val, by omega⟩ := Fin.ext (by show n * 256 + 128 + (c.val - 128) = n * 256 + c.val; omega)
    refine (key _ _ _).trans ?_
    simp only [e]; rfl

theorem q_at (r d : Fin 64) :
    shapeCast S64x64 (View.readAt (Elt Ideal) arg3.view (Rect.unit (s := S1x8x64x64) (k0_off2 k) S1x1x64x64.size (k0_off2_inb k)).toLoadRect (harg3.unread x0)) shapeCasts_S1x1x64x64_S64x64 (ix2 r d)
      = x0 (ix4 0 (hF k) r d) := by
  have cast (v : FVec Ideal S1x1x64x64 .bf16) : shapeCast S64x64 v shapeCasts_S1x1x64x64_S64x64 (ix2 r d) = v (ix4 0 0 r d) := by
    pointwise
  rw [cast]
  refine (harg3.readAt_unread x0 _ _).trans (congrArg x0 ?_)
  funext a
  apply Fin.ext
  match a with
  | 0 => rfl
  | 1 => rfl
  | 2 => exact (Rect.idx_unit_val _ _ _ _ _).trans (Nat.zero_add _)
  | 3 => exact (Rect.idx_unit_val _ _ _ _ _).trans (Nat.zero_add _)

theorem sc_at (n : ℕ) (hn : n < 8) (c : Fin 256) :
    View.readAt (Elt Ideal) arg8.view (Rect.unit (s := S1x8x2048) ![0, hN k, n * 256] S1x1x256.size (inb3 k (n * 256) (by omega))).toLoadRect (harg8.unread x5) (ix3 0 0 c)
      = x5 (ix3 0 (hF k) ⟨n * 256 + c.val, by omega⟩) := by
  refine (harg8.readAt_unread x5 _ _).trans (congrArg x5 ?_)
  funext a
  apply Fin.ext
  match a with
  | 0 => rfl
  | 1 => rfl
  | 2 => exact Rect.idx_unit_val _ _ _ _ _

/-! ## A block of eight chunks -/

/-- A head's state holds, at row `r`, the running values after `K` positions. -/
structure Holds (N : Fin 4 → EReal) (vn : Fin 64 → Fin 4 → EReal) (S sc : ℕ → EReal) (v : Fin 64 → ℕ → EReal) (r : Fin 64) (K : ℕ)
    (st : St Ideal) : Prop where
  m : st.m (ix2 r 0) = Soft.MX N S K
  l : st.l (ix2 r 0) = Soft.LX N S K
  acc : ∀ d : Fin 64, st.acc (ix2 r d) = Soft.AX N (vn d) S sc (v d) K

variable {N : Fin 4 → EReal} {vn : Fin 64 → Fin 4 → EReal} {S sc : ℕ → EReal} {v : Fin 64 → ℕ → EReal} {r : Fin 64} {K : ℕ}

theorem chunk_holds (hN : ∀ t, N t ≠ ⊤) (hN0 : N 0 ≠ ⊥) (hS : ∀ j, S j ≠ ⊤) (q : FVec Ideal S64x64 .bf16)
    (kt vt : FVec Ideal S64x256 .bf16) (sv : Vec Ideal S1x1x256 .f32) (pos n : BitVec 32) (st : St Ideal)
    (hs : ∀ c : Fin 256, scores q kt pos n (ix2 r c) = S (K + c.val)) (hsc : ∀ c : Fin 256, sv (ix3 0 0 c) = sc (K + c.val))
    (hv : ∀ (d : Fin 64) (c : Fin 256), vt (ix2 d c) = v d (K + c.val)) (h : Holds N vn S sc v r K st) :
    Holds N vn S sc v r (K + 256) (chunk q kt vt sv pos n st) := by
  have hm : newM st.m (scores q kt pos n) (ix2 r 0) = Soft.MX N S (K + 256) := by
    rw [newM_at, Soft.MX_add, h.m]
    simp only [hs]
  have ha : exp (subf st.m (newM st.m (scores q kt pos n))) (ix2 r 0) = Ideal.exp (Soft.MX N S K - Soft.MX N S (K + 256)) := by
    rw [← h.m, ← hm]; rfl
  refine ⟨hm, ?_, fun d => ?_⟩
  · show newL _ _ _ _ = _
    rw [newL_at, ha, h.l, Soft.LX_add hN hN0 hS]
    simp only [wts_at, hm, hs]
  · show newA _ _ _ _ _ _ = _
    rw [newA_at, ha, h.acc, Soft.AX_add hN hN0 hS]
    simp only [wts_at, hm, hs, hv]
    congr 1
    exact Finset.sum_congr rfl fun c _ => by rw [← hsc c]

variable (arg1 v1 : BitVec 32)

include hxi in
theorem steps_holds (hN : ∀ t, N t ≠ ⊤) (hN0 : N 0 ≠ ⊥) (hS : ∀ j, S j ≠ ⊤)
    (hs : ∀ p : Fin 2048, (if (arg1 * 2048#32 + BitVec.ofNat 32 p.val).slt v1 then
      (∑ d : Fin 64, (show EReal from x0 (ix4 0 (hF k) r d)) * kEl (fun i => x3 (ix4 0 (hF k) i p)) (fun o => x6 (ix4 0 (hF k) o p))
          (fun o => x7 (ix4 0 (hF k) o p)) x8 (hF k) d) * scale else ⊥) = S (K + p.val))
    (hsc : ∀ p : Fin 2048, x5 (ix3 0 (hF k) p) = sc (K + p.val))
    (hv : ∀ (d : Fin 64) (p : Fin 2048), vEl (fun i => x4 (ix4 0 (hF k) i p)) x9 (hF k) d = v d (K + p.val))
    (st : St Ideal) (h : Holds N vn S sc v r K st) (n : ℕ) (hn : n ≤ 8) :
    Holds N vn S sc v r (K + n * 256) (steps arg3 arg6 arg7 arg8 arg9 arg10 arg11 arg12 arg1 v1 (iota .tc S16x128 32 [0] iota_S16x128_d0_w32)
      (harg3.unread x0) (harg6.unread x3) (harg7.unread x4) (harg8.unread x5) (harg9.unread x6) (harg10.unread x7) (harg11.unread x8)
      (harg12.unread x9) k st n hn) := by
  induction n with
  | zero => rw [Nat.zero_mul, Nat.add_zero]; exact h
  | succ n ih =>
    have e : K + (n + 1) * 256 = K + n * 256 + 256 := by omega
    rw [e]
    refine chunk_holds hN hN0 hS _ _ _ _ _ _ _ (fun c => ?_) (fun c => ?_) (fun d c => ?_) (ih (by omega))
    · rw [scores_at]
      have e2 : K + n * 256 + c.val = K + (⟨n * 256 + c.val, by omega⟩ : Fin 2048).val := by show _ = K + (n * 256 + c.val); omega
      rw [e2, ← hs]
      have e3 : Scalar.addi (Scalar.muli arg1 2048#32) (BitVec.ofNat 32 (n * 256)) + BitVec.ofNat 32 c.val
          = arg1 * 2048#32 + BitVec.ofNat 32 (⟨n * 256 + c.val, by omega⟩ : Fin 2048).val := by
        show arg1 * 2048#32 + BitVec.ofNat 32 (n * 256) + BitVec.ofNat 32 c.val = arg1 * 2048#32 + BitVec.ofNat 32 (n * 256 + c.val)
        rw [BitVec.add_assoc, BitVec.ofNat_add]
      rw [e3]
      exact if_congr Iff.rfl (congrArg (· * scale) (Finset.sum_congr rfl fun d _ => congrArg₂ (· * ·) (q_at arg3 harg3 x0 k r d)
        (kPair_at arg6 harg6 arg9 harg9 arg10 harg10 arg11 harg11 x3 x6 x7 x8 k hxi n (by omega) d c))) rfl
    · rw [sc_at _ _ _ _ n (by omega), hsc]
      congr 1; show K + (n * 256 + c.val) = _; omega
    · rw [vPair_at _ _ _ _ _ _ _ n (by omega), hv]
      congr 1; show K + (n * 256 + c.val) = _; omega

end

end Cert.KernelIdeal.Gen

end
-- ==== Proof.Loop.lean ====
/- The loop over the heads: started on scratch arrays whose every row holds its running values after `K` positions, it
   leaves every row holding them after `K + 2048`. -/
module

public import proofs.«01_k».proof.Proof.Chunk
public import Idealize.ShloMosaic.Lib.WritesUnit

@[expose] public section

set_option maxRecDepth 16384

noncomputable section

namespace Cert.KernelIdeal.Gen

open Idealize.ShloMosaic Idealize.ShloMosaic.TcCoe Idealize.ShloMosaic.Tactic

theorem hN_eq (k : Fin k0_t1_loop.trips) : hN k = k.val := by
  revert k; decide +kernel

theorem trips_eq : k0_t1_loop.trips = 8 := by decide +kernel

/-- A position's scores and values, per head: what a batch's rows run over. -/
structure Data where
  N : Fin 8 → Fin 64 → Fin 4 → EReal
  vn : Fin 8 → Fin 64 → Fin 4 → EReal
  S : Fin 8 → Fin 64 → ℕ → EReal
  sc : Fin 8 → ℕ → EReal
  v : Fin 8 → Fin 64 → ℕ → EReal

/-- The scores are never `⊤`, and a row's first new score is not `⊥`. -/
structure Data.Ok (D : Data) : Prop where
  hN : ∀ h r t, D.N h r t ≠ ⊤
  hN0 : ∀ h r, D.N h r 0 ≠ ⊥
  hS : ∀ h r j, D.S h r j ≠ ⊤

/-- Row `r` of head `h` of the scratch arrays holds the running values after `K` positions. -/
structure Row (D : Data) (K : ℕ) (a : S8x64x64.Idx → EReal) (m l : S8x64x1.Idx → EReal) (h : Fin 8) (r : Fin 64) : Prop where
  m : m (ix3 h r 0) = Soft.MX (D.N h r) (D.S h r) K
  l : l (ix3 h r 0) = Soft.LX (D.N h r) (D.S h r) K
  acc : ∀ d : Fin 64, a (ix3 h r d) = Soft.AX (D.N h r) (D.vn h d) (D.S h r) (D.sc h) (D.v h d) K

/-- The blocks fetched for a grid point are the positions from `K` on. -/
structure Block (D : Data) (K : ℕ) (arg1 v1 : BitVec 32) (x0 : Vec Ideal S1x8x64x64 .bf16) (x3 x4 : Vec Ideal S1x8x32x2048 .i8)
    (x5 : Vec Ideal S1x8x2048 .f32) (x6 : Vec Ideal S1x8x4x2048 .i32) (x7 : Vec Ideal S1x8x4x2048 .i16)
    (x8 x9 : Vec Ideal S8x2x4x8x128 .i32) : Prop where
  xi : ∀ h o p, (show BitVec 32 from x6 (ix4 0 h o p)).toNat < 64
  s : ∀ (h : Fin 8) (r : Fin 64) (p : Fin 2048), (if (arg1 * 2048#32 + BitVec.ofNat 32 p.val).slt v1 then
      (∑ d : Fin 64, (show EReal from x0 (ix4 0 h r d)) * kEl (fun i => x3 (ix4 0 h i p)) (fun o => x6 (ix4 0 h o p))
          (fun o => x7 (ix4 0 h o p)) x8 h d) * scale else ⊥) = D.S h r (K + p.val)
  sc : ∀ (h : Fin 8) (p : Fin 2048), x5 (ix3 0 h p) = D.sc h (K + p.val)
  v : ∀ (h : Fin 8) (d : Fin 64) (p : Fin 2048), vEl (fun i => x4 (ix4 0 h i p)) x9 h d = D.v h d (K + p.val)

section

variable (𝒱 : Variants) (c : Dev nD) (bd : Option 𝒱.V) (i : grid0.Coords)
  (arg2 : Memref sig .tc .smem S16 .i32) (harg2 : arg2.IsWhole)
  (arg3 : Memref sig .tc .vmem S1x8x64x64 .bf16) (harg3 : arg3.IsWhole)
  (arg4 : Memref sig .tc .vmem S1x8x4x64 .bf16) (harg4 : arg4.IsWhole)
  (arg5 : Memref sig .tc .vmem S1x8x4x64 .bf16) (harg5 : arg5.IsWhole)
  (arg6 : Memref sig .tc .vmem S1x8x32x2048 .i8) (harg6 : arg6.IsWhole)
  (arg7 : Memref sig .tc .vmem S1x8x32x2048 .i8) (harg7 : arg7.IsWhole)
  (arg8 : Memref sig .tc .vmem S1x8x2048 .f32) (harg8 : arg8.IsWhole)
  (arg9 : Memref sig .tc .vmem S1x8x4x2048 .i32) (harg9 : arg9.IsWhole)
  (arg10 : Memref sig .tc .vmem S1x8x4x2048 .i16) (harg10 : arg10.IsWhole)
  (arg11 : Memref sig .tc .vmem S8x2x4x8x128 .i32) (harg11 : arg11.IsWhole)
  (arg12 : Memref sig .tc .vmem S8x2x4x8x128 .i32) (harg12 : arg12.IsWhole)
  (arg13 : Memref sig .tc .vmem S1x8x64x64 .bf16) (harg13 : arg13.IsWhole)
  (arg14 : Memref sig .tc .vmem S8x64x64 .f32) (harg14 : arg14.IsWhole)
  (arg15 : Memref sig .tc .vmem S8x64x1 .f32) (harg15 : arg15.IsWhole)
  (arg16 : Memref sig .tc .vmem S8x64x1 .f32) (harg16 : arg16.IsWhole)
  (arg1 : BitVec 32) (v1 : Elt Ideal .i32)
  (x0 : Vec Ideal S1x8x64x64 .bf16) (x3 x4 : Vec Ideal S1x8x32x2048 .i8) (x5 : Vec Ideal S1x8x2048 .f32)
  (x6 : Vec Ideal S1x8x4x2048 .i32) (x7 : Vec Ideal S1x8x4x2048 .i16) (x8 x9 : Vec Ideal S8x2x4x8x128 .i32)
  (G14 : BufTy.Contents (Elt Ideal) arg14.view.ty) (G15 : BufTy.Contents (Elt Ideal) arg15.view.ty)
  (G16 : BufTy.Contents (Elt Ideal) arg16.view.ty) {D : Data} {K : ℕ}

/-- A head's state as loaded holds what the head's rows of the scratch arrays hold. -/
theorem load_holds (k : Fin k0_t1_loop.trips) (r : Fin 64)
    (h : Row D K (arg14.view.read (Elt Ideal) G14) (arg15.view.read (Elt Ideal) G15) (arg16.view.read (Elt Ideal) G16) (hF k) r) :
    Holds (D.N (hF k) r) (D.vn (hF k)) (D.S (hF k) r) (D.sc (hF k)) (D.v (hF k)) r K (load arg14 arg15 arg16 k G14 G15 G16) := by
  have cm (v : FVec Ideal S1x64x1 .f32) : shapeCast S64x1 v shapeCasts_S1x64x1_S64x1 (ix2 r 0) = v (ix3 0 r 0) := by pointwise
  have ca (v : FVec Ideal S1x64x64 .f32) (d : Fin 64) : shapeCast S64x64 v shapeCasts_S1x64x64_S64x64 (ix2 r d) = v (ix3 0 r d) := by
    pointwise
  have em : (Rect.unit (s := S8x64x1) (k0_off3 k) S1x64x1.size (k0_off3_inb k)).toLoadRect.idx (ix3 0 r 0) = ix3 (hF k) r 0 := by
    funext a
    apply Fin.ext
    match a with
    | 0 => rfl
    | 1 => exact (Rect.idx_unit_val _ _ _ _ _).trans (Nat.zero_add _)
    | 2 => rfl
  have ea (d : Fin 64) : (Rect.unit (s := S8x64x64) (k0_off4 k) S1x64x64.size (k0_off4_inb k)).toLoadRect.idx (ix3 0 r d) = ix3 (hF k) r d := by
    funext a
    apply Fin.ext
    match a with
    | 0 => rfl
    | 1 => exact (Rect.idx_unit_val _ _ _ _ _).trans (Nat.zero_add _)
    | 2 => exact (Rect.idx_unit_val _ _ _ _ _).trans (Nat.zero_add _)
  refine ⟨?_, ?_, fun d => ?_⟩ <;> dsimp only [load]
  · refine (cm _).trans (Eq.trans ?_ h.m)
    exact congrArg (arg15.view.read (Elt Ideal) G15) em
  · refine (cm _).trans (Eq.trans ?_ h.l)
    exact congrArg (arg16.view.read (Elt Ideal) G16) em
  · refine (ca _ d).trans (Eq.trans ?_ (h.acc d))
    exact congrArg (arg14.view.read (Elt Ideal) G14) (ea d)

theorem read_acc_mem (v : View sig .tc .vmem S8x64x64 .f32) (f : v.ty.Contents (Elt Ideal)) (k : Fin k0_t1_loop.trips)
    (w : S1x64x64.Idx → EReal) (L : List (View.Piece (Elt Ideal) S8x64x64 .f32)) (h : Fin 8) (r d : Fin 64) (e : h.val = k.val) :
    v.read (Elt Ideal) (v.writes (Elt Ideal) f ((⟨Rect.unit (k0_off4 k) S1x64x64.size (k0_off4_inb k), w⟩ : View.Piece (Elt Ideal) S8x64x64 .f32) :: L)) (ix3 h r d) = w (ix3 0 r d) :=
  View.read_writes_cons_unit_of_mem v f _ w L (ix3 h r d) (ix3 0 r d) (off' := ![k.val, 0, 0]) (by rw [← hN_eq k]; rfl) fun a =>
    match a with
    | 0 => e
    | 1 => (Nat.zero_add _).symm
    | 2 => (Nat.zero_add _).symm

theorem read_acc_not_mem (v : View sig .tc .vmem S8x64x64 .f32) (f : v.ty.Contents (Elt Ideal)) (k : Fin k0_t1_loop.trips)
    (w : S1x64x64.Idx → EReal) (L : List (View.Piece (Elt Ideal) S8x64x64 .f32)) (h : Fin 8) (r d : Fin 64) (e : h.val ≠ k.val) :
    v.read (Elt Ideal) (v.writes (Elt Ideal) f ((⟨Rect.unit (k0_off4 k) S1x64x64.size (k0_off4_inb k), w⟩ : View.Piece (Elt Ideal) S8x64x64 .f32) :: L)) (ix3 h r d)
      = v.read (Elt Ideal) (v.writes (Elt Ideal) f L) (ix3 h r d) :=
  View.read_writes_cons_unit_of_not_mem v f _ w L (ix3 h r d) (off' := ![k.val, 0, 0]) (by rw [← hN_eq k]; rfl) 0
    (show h.val < k.val ∨ k.val + 1 ≤ h.val by omega)

theorem read_col_mem (v : View sig .tc .vmem S8x64x1 .f32) (f : v.ty.Contents (Elt Ideal)) (k : Fin k0_t1_loop.trips)
    (w : S1x64x1.Idx → EReal) (L : List (View.Piece (Elt Ideal) S8x64x1 .f32)) (h : Fin 8) (r : Fin 64) (e : h.val = k.val) :
    v.read (Elt Ideal) (v.writes (Elt Ideal) f ((⟨Rect.unit (k0_off3 k) S1x64x1.size (k0_off3_inb k), w⟩ : View.Piece (Elt Ideal) S8x64x1 .f32) :: L)) (ix3 h r 0) = w (ix3 0 r 0) :=
  View.read_writes_cons_unit_of_mem v f _ w L (ix3 h r 0) (ix3 0 r 0) (off' := ![k.val, 0, 0]) (by rw [← hN_eq k]; rfl) fun a =>
    match a with
    | 0 => e
    | 1 => (Nat.zero_add _).symm
    | 2 => rfl

theorem read_col_not_mem (v : View sig .tc .vmem S8x64x1 .f32) (f : v.ty.Contents (Elt Ideal)) (k : Fin k0_t1_loop.trips)
    (w : S1x64x1.Idx → EReal) (L : List (View.Piece (Elt Ideal) S8x64x1 .f32)) (h : Fin 8) (r : Fin 64) (e : h.val ≠ k.val) :
    v.read (Elt Ideal) (v.writes (Elt Ideal) f ((⟨Rect.unit (k0_off3 k) S1x64x1.size (k0_off3_inb k), w⟩ : View.Piece (Elt Ideal) S8x64x1 .f32) :: L)) (ix3 h r 0)
      = v.read (Elt Ideal) (v.writes (Elt Ideal) f L) (ix3 h r 0) :=
  View.read_writes_cons_unit_of_not_mem v f _ w L (ix3 h r 0) (off' := ![k.val, 0, 0]) (by rw [← hN_eq k]; rfl) 0
    (show h.val < k.val ∨ k.val + 1 ≤ h.val by omega)

/-- Storing a head's state makes the head's rows hold what it holds, and leaves the other heads' rows. -/
theorem store_row (k : Fin k0_t1_loop.trips) (st : St Ideal) (L14 : List (View.Piece (Elt Ideal) S8x64x64 .f32))
    (L15 L16 : List (View.Piece (Elt Ideal) S8x64x1 .f32)) (h : Fin 8) (r : Fin 64) (K' : ℕ)
    (hk : h.val = k.val → Holds (D.N h r) (D.vn h) (D.S h r) (D.sc h) (D.v h) r K' st)
    (hn : h.val ≠ k.val → Row D K' (arg14.view.read (Elt Ideal) (arg14.view.writes (Elt Ideal) G14 L14))
      (arg15.view.read (Elt Ideal) (arg15.view.writes (Elt Ideal) G15 L15))
      (arg16.view.read (Elt Ideal) (arg16.view.writes (Elt Ideal) G16 L16)) h r) :
    Row D K'
      (arg14.view.read (Elt Ideal) (arg14.view.writes (Elt Ideal) G14 (⟨Rect.unit (k0_off4 k) S1x64x64.size (k0_off4_inb k), shapeCast S1x64x64 st.acc shapeCasts_S64x64_S1x64x64⟩ :: L14)))
      (arg15.view.read (Elt Ideal) (arg15.view.writes (Elt Ideal) G15 (⟨Rect.unit (k0_off3 k) S1x64x1.size (k0_off3_inb k), shapeCast S1x64x1 st.m shapeCasts_S64x1_S1x64x1⟩ :: L15)))
      (arg16.view.read (Elt Ideal) (arg16.view.writes (Elt Ideal) G16 (⟨Rect.unit (k0_off3 k) S1x64x1.size (k0_off3_inb k), shapeCast S1x64x1 st.l shapeCasts_S64x1_S1x64x1⟩ :: L16))) h r := by
  have cm (v : FVec Ideal S64x1 .f32) : shapeCast S1x64x1 v shapeCasts_S64x1_S1x64x1 (ix3 0 r 0) = v (ix2 r 0) := by pointwise
  have ca (v : FVec Ideal S64x64 .f32) (d : Fin 64) : shapeCast S1x64x64 v shapeCasts_S64x64_S1x64x64 (ix3 0 r d) = v (ix2 r d) := by
    pointwise
  by_cases e : h.val = k.val
  · have H := hk e
    refine ⟨?_, ?_, fun d => ?_⟩
    · exact (read_col_mem _ _ k _ _ h r e).trans ((cm st.m).trans H.m)
    · exact (read_col_mem _ _ k _ _ h r e).trans ((cm st.l).trans H.l)
    · exact (read_acc_mem _ _ k _ _ h r d e).trans ((ca st.acc d).trans (H.acc d))
  · have H := hn e
    refine ⟨?_, ?_, fun d => ?_⟩
    · exact (read_col_not_mem _ _ k _ _ h r e).trans H.m
    · exact (read_col_not_mem _ _ k _ _ h r e).trans H.l
    · exact (read_acc_not_mem _ _ k _ _ h r d e).trans (H.acc d)

theorem pb_row (hD : D.Ok) (hB : Block D K arg1 v1 x0 x3 x4 x5 x6 x7 x8 x9)
    (h0 : ∀ h r, Row D K (arg14.view.read (Elt Ideal) G14) (arg15.view.read (Elt Ideal) G15) (arg16.view.read (Elt Ideal) G16) h r)
    (n : ℕ) (hn : n ≤ 8) (h : Fin 8) (r : Fin 64) :
    Row D (K + if h.val < n then 2048 else 0)
      (arg14.view.read (Elt Ideal) (arg14.view.writes (Elt Ideal) G14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 (iota .tc S16x128 32 [0] iota_S16x128_d0_w32) (harg3.unread x0) (harg6.unread x3) (harg7.unread x4) (harg8.unread x5) (harg9.unread x6) (harg10.unread x7) (harg11.unread x8) (harg12.unread x9) G14 G15 G16 n).1))
      (arg15.view.read (Elt Ideal) (arg15.view.writes (Elt Ideal) G15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 (iota .tc S16x128 32 [0] iota_S16x128_d0_w32) (harg3.unread x0) (harg6.unread x3) (harg7.unread x4) (harg8.unread x5) (harg9.unread x6) (harg10.unread x7) (harg11.unread x8) (harg12.unread x9) G14 G15 G16 n).2.1))
      (arg16.view.read (Elt Ideal) (arg16.view.writes (Elt Ideal) G16 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 (iota .tc S16x128 32 [0] iota_S16x128_d0_w32) (harg3.unread x0) (harg6.unread x3) (harg7.unread x4) (harg8.unread x5) (harg9.unread x6) (harg10.unread x7) (harg11.unread x8) (harg12.unread x9) G14 G15 G16 n).2.2)) h r := by
  induction n generalizing h with
  | zero => exact h0 h r
  | succ n ih =>
    have ih := fun h => ih (by omega) h
    have hk : n < k0_t1_loop.trips := by rw [trips_eq]; omega
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 (iota .tc S16x128 32 [0] iota_S16x128_d0_w32) (harg3.unread x0) (harg6.unread x3) (harg7.unread x4) (harg8.unread x5) (harg9.unread x6) (harg10.unread x7) (harg11.unread x8) (harg12.unread x9) G14 G15 G16 ⟨n, hk⟩
    rw [tripL_eq] at hs
    change pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 (iota .tc S16x128 32 [0] iota_S16x128_d0_w32) (harg3.unread x0) (harg6.unread x3) (harg7.unread x4) (harg8.unread x5) (harg9.unread x6) (harg10.unread x7) (harg11.unread x8) (harg12.unread x9) G14 G15 G16 (n + 1) = _ at hs
    generalize pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v1 (iota .tc S16x128 32 [0] iota_S16x128_d0_w32) (harg3.unread x0) (harg6.unread x3) (harg7.unread x4) (harg8.unread x5) (harg9.unread x6) (harg10.unread x7) (harg11.unread x8) (harg12.unread x9) G14 G15 G16 n = P at ih hs
    rw [hs]
    refine store_row arg14 arg15 arg16 G14 G15 G16 ⟨n, hk⟩ _ P.1 P.2.1 P.2.2 h r _ (fun e => ?_) (fun e => ?_)
    · change h.val = n at e
      have eh : hF ⟨n, hk⟩ = h := Fin.ext ((hN_eq _).trans e.symm)
      rw [if_pos (by omega)]
      have H := ih h
      rw [if_neg (by omega)] at H
      subst eh
      exact steps_holds arg3 harg3 arg6 harg6 arg7 harg7 arg8 harg8 arg9 harg9 arg10 harg10 arg11 harg11 arg12 harg12 x0 x3 x4 x5 x6 x7 x8 x9 _
        (hB.xi _) arg1 v1 (hD.hN _ r) (hD.hN0 _ r) (hD.hS _ r) (hB.s _ r) (hB.sc _) (hB.v _) _
        (load_holds arg14 arg15 arg16 _ _ _ _ r H) 8 le_rfl
    · change h.val ≠ n at e
      have e2 : (if h.val < n + 1 then 2048 else 0) = if h.val < n then 2048 else 0 := by
        by_cases q : h.val < n
        · rw [if_pos q, if_pos (by omega)]
        · rw [if_neg q, if_neg (by omega)]
      rw [e2]
      exact ih h

end

end Cert.KernelIdeal.Gen

end
-- ==== Proof.Init.lean ====
/- What a batch's first grid point stores before anything else: every row's running values over the new scores alone. -/
module

public import proofs.«01_k».proof.Proof.Loop

@[expose] public section

set_option maxRecDepth 16384

noncomputable section

namespace Cert.KernelIdeal.Gen

open Idealize.ShloMosaic Idealize.ShloMosaic.TcCoe Idealize.ShloMosaic.Tactic

theorem mask_at : ∀ (r : Fin 64) (t : Fin 4),
    IntOp.cmpi CmpIPredicate.sle (BitVec.ofNat 32 t.val)
        (Scalar.select
          (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi (Scalar.extui (Scalar.cmpi CmpIPredicate.sgt 16#32 0#32))
                (Scalar.extui (Scalar.cmpi CmpIPredicate.slt 16#32 0#32))))
            (IntOp.cmpi CmpIPredicate.ne (IntOp.remsi ArithUnit.vector (BitVec.ofNat 32 r.val) 16#32) 0#32))
          (IntOp.subi (IntOp.divsi ArithUnit.vector (BitVec.ofNat 32 r.val) 16#32) 1#32)
          (IntOp.divsi ArithUnit.vector (BitVec.ofNat 32 r.val) 16#32)) = BitVec.ofBool (decide (t.val ≤ r.val / 16)) := by
  decide +kernel

theorem pay9_at (q : Vec Ideal S1x1x64x64 .bf16) (kn : Vec Ideal S1x1x4x64 .bf16) (r : Fin 64) (t : Fin 4) :
    k0_pay9 (F := Ideal) q kn (ix2 r t)
      = if t.val ≤ r.val / 16 then (∑ d : Fin 64, (show EReal from q (ix4 0 0 r d)) * (show EReal from kn (ix4 0 0 t d))) * scale else ⊥ := by
  pointwise [k0_pay9]
  rw [ofBits_bot]
  rw [mask_at]
  by_cases h : t.val ≤ r.val / 16
  · rw [if_pos h, decide_eq_true h]; rfl
  · rw [if_neg h, decide_eq_false h]; rfl

theorem pay10_at (q : Vec Ideal S1x1x64x64 .bf16) (kn : Vec Ideal S1x1x4x64 .bf16) (r : Fin 64) :
    k0_pay10 (F := Ideal) q kn (ix2 r 0) = Finset.univ.sup fun t : Fin 4 => k0_pay9 (F := Ideal) q kn (ix2 r t) := by
  pointwise [k0_pay10]
  rw [fold_max]

theorem pay11_at (q : Vec Ideal S1x1x64x64 .bf16) (kn : Vec Ideal S1x1x4x64 .bf16) (r : Fin 64) (t : Fin 4) :
    k0_pay11 (F := Ideal) q kn (ix2 r t)
      = Ideal.exp (k0_pay9 (F := Ideal) q kn (ix2 r t) - k0_pay10 (F := Ideal) q kn (ix2 r 0)) := by
  pointwise [k0_pay11]

theorem pay12_at (m : FVec Ideal S64x1 .f32) (r : Fin 64) : k0_pay12 (F := Ideal) m (ix3 0 r 0) = m (ix2 r 0) := by
  pointwise [k0_pay12]

theorem pay13_at (e : FVec Ideal S64x4 .f32) (r : Fin 64) : k0_pay13 (F := Ideal) e (ix3 0 r 0) = ∑ t : Fin 4, e (ix2 r t) := by
  pointwise [k0_pay13]

theorem pay14_at (e : FVec Ideal S64x4 .f32) (vn : Vec Ideal S1x1x4x64 .bf16) (r d : Fin 64) :
    k0_pay14 (F := Ideal) e vn (ix3 0 r d) = ∑ t : Fin 4, e (ix2 r t) * (show EReal from vn (ix4 0 0 t d)) := by
  pointwise [k0_pay14]

/-! ## The pieces, one per head -/

variable {F : FTy → Type} [FloatOps F]

theorem inbAcc (n : ℕ) (h : n + 1 ≤ 8) : ∀ a, (![n, 0, 0] : Fin 3 → ℕ) a + S1x64x64.size a ≤ S8x64x64.size a := fun a =>
  match a with
  | 0 => h
  | 1 => Nat.le_refl _
  | 2 => Nat.le_refl _

theorem inbCol (n : ℕ) (h : n + 1 ≤ 8) : ∀ a, (![n, 0, 0] : Fin 3 → ℕ) a + S1x64x1.size a ≤ S8x64x1.size a := fun a =>
  match a with
  | 0 => h
  | 1 => Nat.le_refl _
  | 2 => Nat.le_refl _

theorem inbQ (n : ℕ) (h : n + 1 ≤ 8) : ∀ a, (![0, n, 0, 0] : Fin 4 → ℕ) a + S1x1x64x64.size a ≤ S1x8x64x64.size a := fun a =>
  match a with
  | 0 => Nat.le_refl _
  | 1 => h
  | 2 => Nat.le_refl _
  | 3 => Nat.le_refl _

theorem inbNew (n : ℕ) (h : n + 1 ≤ 8) : ∀ a, (![0, n, 0, 0] : Fin 4 → ℕ) a + S1x1x4x64.size a ≤ S1x8x4x64.size a := fun a =>
  match a with
  | 0 => Nat.le_refl _
  | 1 => h
  | 2 => Nat.le_refl _
  | 3 => Nat.le_refl _

/-- One piece per head below `n`, the last head first. -/
def accPieces (pay : Fin 8 → Vec F S1x64x64 .f32) : (n : ℕ) → n ≤ 8 → List (View.Piece (Elt F) S8x64x64 .f32)
  | 0, _ => []
  | n + 1, h => ⟨Rect.unit ![n, 0, 0] S1x64x64.size (inbAcc n h), pay ⟨n, h⟩⟩ :: accPieces pay n (by omega)

def colPieces (pay : Fin 8 → Vec F S1x64x1 .f32) : (n : ℕ) → n ≤ 8 → List (View.Piece (Elt F) S8x64x1 .f32)
  | 0, _ => []
  | n + 1, h => ⟨Rect.unit ![n, 0, 0] S1x64x1.size (inbCol n h), pay ⟨n, h⟩⟩ :: colPieces pay n (by omega)

theorem read_accPieces (pay : Fin 8 → Vec Ideal S1x64x64 .f32) (v : View sig .tc .vmem S8x64x64 .f32) (f : v.ty.Contents (Elt Ideal))
    (n : ℕ) (hn : n ≤ 8) (h : Fin 8) (hh : h.val < n) (r d : Fin 64) :
    v.read (Elt Ideal) (v.writes (Elt Ideal) f (accPieces pay n hn)) (ix3 h r d) = pay h (ix3 0 r d) := by
  induction n with
  | zero => omega
  | succ n ih =>
    by_cases e : h.val = n
    · obtain rfl : h = ⟨n, hn⟩ := Fin.ext e
      exact View.read_writes_cons_unit_of_mem v f _ (pay ⟨n, hn⟩) _ (ix3 ⟨n, hn⟩ r d) (ix3 0 r d) rfl fun a =>
        match a with
        | 0 => rfl
        | 1 => (Nat.zero_add _).symm
        | 2 => (Nat.zero_add _).symm
    · exact (View.read_writes_cons_unit_of_not_mem v f _ (pay ⟨n, hn⟩) _ (ix3 h r d) rfl 0
        (show h.val < n ∨ n + 1 ≤ h.val by omega)).trans (ih (by omega) (by omega))

theorem read_colPieces (pay : Fin 8 → Vec Ideal S1x64x1 .f32) (v : View sig .tc .vmem S8x64x1 .f32) (f : v.ty.Contents (Elt Ideal))
    (n : ℕ) (hn : n ≤ 8) (h : Fin 8) (hh : h.val < n) (r : Fin 64) :
    v.read (Elt Ideal) (v.writes (Elt Ideal) f (colPieces pay n hn)) (ix3 h r 0) = pay h (ix3 0 r 0) := by
  induction n with
  | zero => omega
  | succ n ih =>
    by_cases e : h.val = n
    · obtain rfl : h = ⟨n, hn⟩ := Fin.ext e
      exact View.read_writes_cons_unit_of_mem v f _ (pay ⟨n, hn⟩) _ (ix3 ⟨n, hn⟩ r 0) (ix3 0 r 0) rfl fun a =>
        match a with
        | 0 => rfl
        | 1 => (Nat.zero_add _).symm
        | 2 => rfl
    · exact (View.read_writes_cons_unit_of_not_mem v f _ (pay ⟨n, hn⟩) _ (ix3 h r 0) rfl 0
        (show h.val < n ∨ n + 1 ≤ h.val by omega)).trans (ih (by omega) (by omega))

section

variable (arg3 : Memref sig .tc .vmem S1x8x64x64 .bf16) (harg3 : arg3.IsWhole)
  (arg4 : Memref sig .tc .vmem S1x8x4x64 .bf16) (harg4 : arg4.IsWhole)
  (arg5 : Memref sig .tc .vmem S1x8x4x64 .bf16) (harg5 : arg5.IsWhole)
  (x0 : Vec F S1x8x64x64 .bf16) (x1 x2 : Vec F S1x8x4x64 .bf16)

/-- A head's queries, and its rows of a block of new keys or values. -/
def headQ (h : Fin 8) : Vec F S1x1x64x64 .bf16 :=
  View.readAt (Elt F) arg3.view (Rect.unit (s := S1x8x64x64) ![0, h.val, 0, 0] S1x1x64x64.size (inbQ h.val h.isLt)).toLoadRect (harg3.unread x0)

def headNew (h : Fin 8) : Vec F S1x1x4x64 .bf16 :=
  View.readAt (Elt F) arg4.view (Rect.unit (s := S1x8x4x64) ![0, h.val, 0, 0] S1x1x4x64.size (inbNew h.val h.isLt)).toLoadRect (harg4.unread x1)

def initAcc : List (View.Piece (Elt F) S8x64x64 .f32) :=
  accPieces (fun h => k0_pay14 (k0_pay11 (headQ arg3 harg3 x0 h) (headNew arg4 harg4 x1 h)) (headNew arg5 harg5 x2 h)) 8 le_rfl

def initM : List (View.Piece (Elt F) S8x64x1 .f32) :=
  colPieces (fun h => k0_pay12 (k0_pay10 (headQ arg3 harg3 x0 h) (headNew arg4 harg4 x1 h))) 8 le_rfl

def initL : List (View.Piece (Elt F) S8x64x1 .f32) :=
  colPieces (fun h => k0_pay13 (k0_pay11 (headQ arg3 harg3 x0 h) (headNew arg4 harg4 x1 h))) 8 le_rfl

end

section

variable (arg3 : Memref sig .tc .vmem S1x8x64x64 .bf16) (harg3 : arg3.IsWhole)
  (arg4 : Memref sig .tc .vmem S1x8x4x64 .bf16) (harg4 : arg4.IsWhole)
  (arg5 : Memref sig .tc .vmem S1x8x4x64 .bf16) (harg5 : arg5.IsWhole)
  (arg14 : Memref sig .tc .vmem S8x64x64 .f32) (arg15 arg16 : Memref sig .tc .vmem S8x64x1 .f32)
  (x0 : Vec Ideal S1x8x64x64 .bf16) (x1 x2 : Vec Ideal S1x8x4x64 .bf16)
  (G14 : BufTy.Contents (Elt Ideal) arg14.view.ty) (G15 : BufTy.Contents (Elt Ideal) arg15.view.ty)
  (G16 : BufTy.Contents (Elt Ideal) arg16.view.ty)

theorem headQ_at (h : Fin 8) (r d : Fin 64) : headQ (F := Ideal) arg3 harg3 x0 h (ix4 0 0 r d) = x0 (ix4 0 h r d) := by
  refine (harg3.readAt_unread x0 _ _).trans (congrArg x0 ?_)
  funext a
  apply Fin.ext
  match a with
  | 0 => rfl
  | 1 => rfl
  | 2 => exact (Rect.idx_unit_val _ _ _ _ _).trans (Nat.zero_add _)
  | 3 => exact (Rect.idx_unit_val _ _ _ _ _).trans (Nat.zero_add _)

theorem headNew_at (h : Fin 8) (t : Fin 4) (d : Fin 64) : headNew (F := Ideal) arg4 harg4 x1 h (ix4 0 0 t d) = x1 (ix4 0 h t d) := by
  refine (harg4.readAt_unread x1 _ _).trans (congrArg x1 ?_)
  funext a
  apply Fin.ext
  match a with
  | 0 => rfl
  | 1 => rfl
  | 2 => exact (Rect.idx_unit_val _ _ _ _ _).trans (Nat.zero_add _)
  | 3 => exact (Rect.idx_unit_val _ _ _ _ _).trans (Nat.zero_add _)

/-- The blocks of a batch's queries and new keys and values are what the batch's data say. -/
structure News (D : Data) (x0 : Vec Ideal S1x8x64x64 .bf16) (x1 x2 : Vec Ideal S1x8x4x64 .bf16) : Prop where
  n : ∀ (h : Fin 8) (r : Fin 64) (t : Fin 4), (if t.val ≤ r.val / 16 then
      (∑ d : Fin 64, (show EReal from x0 (ix4 0 h r d)) * (show EReal from x1 (ix4 0 h t d))) * scale else ⊥) = D.N h r t
  vn : ∀ (h : Fin 8) (d : Fin 64) (t : Fin 4), x2 (ix4 0 h t d) = D.vn h d t

theorem init_row {D : Data} (hN : News D x0 x1 x2) (h : Fin 8) (r : Fin 64) :
    Row D 0 (arg14.view.read (Elt Ideal) (arg14.view.writes (Elt Ideal) G14 (initAcc arg3 harg3 arg4 harg4 arg5 harg5 x0 x1 x2)))
      (arg15.view.read (Elt Ideal) (arg15.view.writes (Elt Ideal) G15 (initM arg3 harg3 arg4 harg4 x0 x1)))
      (arg16.view.read (Elt Ideal) (arg16.view.writes (Elt Ideal) G16 (initL arg3 harg3 arg4 harg4 x0 x1))) h r := by
  have e9 (t : Fin 4) : k0_pay9 (F := Ideal) (headQ arg3 harg3 x0 h) (headNew arg4 harg4 x1 h) (ix2 r t) = D.N h r t := by
    rw [pay9_at, ← hN.n h r t]
    exact if_congr Iff.rfl (congrArg (· * scale) (Finset.sum_congr rfl fun d _ => congrArg₂ (· * ·) (headQ_at arg3 harg3 x0 h r d)
      (headNew_at arg4 harg4 x1 h t d))) rfl
  have e10 : k0_pay10 (F := Ideal) (headQ arg3 harg3 x0 h) (headNew arg4 harg4 x1 h) (ix2 r 0) = Soft.MX (D.N h r) (D.S h r) 0 := by
    rw [pay10_at]
    simp only [e9, Soft.MX, Finset.range_zero, Finset.sup_empty]
    exact (max_bot_right _).symm
  have e11 (t : Fin 4) : k0_pay11 (F := Ideal) (headQ arg3 harg3 x0 h) (headNew arg4 harg4 x1 h) (ix2 r t)
      = Ideal.exp (D.N h r t - Soft.MX (D.N h r) (D.S h r) 0) := by
    rw [pay11_at, e9, e10]
  refine ⟨?_, ?_, fun d => ?_⟩
  · exact (read_colPieces _ _ _ 8 le_rfl h h.isLt r).trans ((pay12_at _ _).trans e10)
  · refine (read_colPieces _ _ _ 8 le_rfl h h.isLt r).trans ((pay13_at _ _).trans ?_)
    simp only [e11, Soft.LX, Finset.range_zero, Finset.sum_empty, add_zero]
  · refine (read_accPieces _ _ _ 8 le_rfl h h.isLt r d).trans ((pay14_at _ _ _ _).trans ?_)
    simp only [e11, Soft.AX, Finset.range_zero, Finset.sum_empty, add_zero]
    exact Finset.sum_congr rfl fun t _ => congrArg _ ((headNew_at arg5 harg5 x2 h t d).trans (hN.vn h d t))

end

end Cert.KernelIdeal.Gen

end
-- ==== Proof.Cases.lean ====
/- What each case of the body leaves in the scratch arrays and in the output block: the loop over the heads run on the first
   contents (the batch's first point) or on what the point before left, and the quotient at the batch's last point. -/
module

public import proofs.«01_k».proof.Proof.Init
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic

section

variable {F : FTy → Type} [FloatOps F]

/-- The batch's cache length as the body reads it. -/
def lenW (c : Dev nD) (i : grid0.Coords) (xt0 : TbBuf0 (F := F) c tbM0_0) : BitVec 32 :=
  tbM0_0.view.readAt (Elt F) (Rect.unit (s := S16) (k0_off1 i) S1.size (k0_off1_inb i)).toLoadRect xt0 (Shape.Idx.first (numel1_S1.symm ▸ Nat.one_pos))

/-- A head's accumulator and sum as the scratch arrays hold them. -/
def headAcc (arg14 : Memref sig .tc .vmem S8x64x64 .f32) (f : BufTy.Contents (Elt F) arg14.view.ty) (h : Fin 8) : Vec F S1x64x64 .f32 :=
  View.readAt (Elt F) arg14.view (Rect.unit (s := S8x64x64) ![h.val, 0, 0] S1x64x64.size (inbAcc h.val h.isLt)).toLoadRect f

def headL (arg16 : Memref sig .tc .vmem S8x64x1 .f32) (f : BufTy.Contents (Elt F) arg16.view.ty) (h : Fin 8) : Vec F S1x64x1 .f32 :=
  View.readAt (Elt F) arg16.view (Rect.unit (s := S8x64x1) ![h.val, 0, 0] S1x64x1.size (inbCol h.val h.isLt)).toLoadRect f

/-- One output piece per head below `n`, the last head first. -/
def outPieces (pay : Fin 8 → Vec F S1x1x64x64 .bf16) : (n : ℕ) → n ≤ 8 → List (View.Piece (Elt F) S1x8x64x64 .bf16)
  | 0, _ => []
  | n + 1, h => ⟨Rect.unit ![0, n, 0, 0] S1x1x64x64.size (inbQ n h), pay ⟨n, h⟩⟩ :: outPieces pay n (by omega)

def outs (arg14 : Memref sig .tc .vmem S8x64x64 .f32) (arg16 : Memref sig .tc .vmem S8x64x1 .f32)
    (f14 : BufTy.Contents (Elt F) arg14.view.ty) (f16 : BufTy.Contents (Elt F) arg16.view.ty) : List (View.Piece (Elt F) S1x8x64x64 .bf16) :=
  outPieces (fun h => k0_pay1060 (headAcc arg14 f14 h) (headL arg16 f16 h)) 8 le_rfl

theorem runA_0 (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : cond0_0 i) (hc2 : ¬cond0_2 i)
    (x0 : Vec F S1x8x64x64 .bf16) (x1 : Vec F S1x8x4x64 .bf16) (x2 : Vec F S1x8x4x64 .bf16) (x3 : Vec F S1x8x32x2048 .i8) (x4 : Vec F S1x8x32x2048 .i8) (x5 : Vec F S1x8x2048 .f32) (x6 : Vec F S1x8x4x2048 .i32) (x7 : Vec F S1x8x4x2048 .i16) (x8 : Vec F S8x2x4x8x128 .i32) (x9 : Vec F S8x2x4x8x128 .i32) (xt0 : TbBuf0 (F := F) c tbM0_0) (hc1 : cond0_1 i (tbM0_0.view.readAt (Elt F) (Rect.unit (s := S16) (k0_off1 i) S1.size (k0_off1_inb i)).toLoadRect xt0 (Shape.Idx.first (numel1_S1.symm ▸ Nat.one_pos)))) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1).2.1 = (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (lenW c i xt0) (iota .tc S16x128 32 [0] iota_S16x128_d0_w32) (harg3.unread x0) (harg6.unread x3) (harg7.unread x4) (harg8.unread x5) (harg9.unread x6) (harg10.unread x7) (harg11.unread x8) (harg12.unread x9) (arg14.view.writes (Elt F) arg14.view.junk (initAcc arg3 harg3 arg4 harg4 arg5 harg5 x0 x1 x2)) (arg15.view.writes (Elt F) arg15.view.junk (initM arg3 harg3 arg4 harg4 x0 x1)) (arg16.view.writes (Elt F) arg16.view.junk (initL arg3 harg3 arg4 harg4 x0 x1)) k0_t1_loop.trips).1 ++ (initAcc arg3 harg3 arg4 harg4 arg5 harg5 x0 x1 x2) := by
  unfold kernelRun0_A; rfl

theorem runA_1 (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : cond0_0 i) (hc2 : ¬cond0_2 i)
    (x0 : Vec F S1x8x64x64 .bf16) (x1 : Vec F S1x8x4x64 .bf16) (x2 : Vec F S1x8x4x64 .bf16) (x3 : Vec F S1x8x32x2048 .i8) (x4 : Vec F S1x8x32x2048 .i8) (x5 : Vec F S1x8x2048 .f32) (x6 : Vec F S1x8x4x2048 .i32) (x7 : Vec F S1x8x4x2048 .i16) (x8 : Vec F S8x2x4x8x128 .i32) (x9 : Vec F S8x2x4x8x128 .i32) (xt0 : TbBuf0 (F := F) c tbM0_0) (hc1 : cond0_1 i (tbM0_0.view.readAt (Elt F) (Rect.unit (s := S16) (k0_off1 i) S1.size (k0_off1_inb i)).toLoadRect xt0 (Shape.Idx.first (numel1_S1.symm ▸ Nat.one_pos)))) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1).2.2.1 = (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (lenW c i xt0) (iota .tc S16x128 32 [0] iota_S16x128_d0_w32) (harg3.unread x0) (harg6.unread x3) (harg7.unread x4) (harg8.unread x5) (harg9.unread x6) (harg10.unread x7) (harg11.unread x8) (harg12.unread x9) (arg14.view.writes (Elt F) arg14.view.junk (initAcc arg3 harg3 arg4 harg4 arg5 harg5 x0 x1 x2)) (arg15.view.writes (Elt F) arg15.view.junk (initM arg3 harg3 arg4 harg4 x0 x1)) (arg16.view.writes (Elt F) arg16.view.junk (initL arg3 harg3 arg4 harg4 x0 x1)) k0_t1_loop.trips).2.1 ++ (initM arg3 harg3 arg4 harg4 x0 x1) := by
  unfold kernelRun0_A; rfl

theorem runA_2 (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : cond0_0 i) (hc2 : ¬cond0_2 i)
    (x0 : Vec F S1x8x64x64 .bf16) (x1 : Vec F S1x8x4x64 .bf16) (x2 : Vec F S1x8x4x64 .bf16) (x3 : Vec F S1x8x32x2048 .i8) (x4 : Vec F S1x8x32x2048 .i8) (x5 : Vec F S1x8x2048 .f32) (x6 : Vec F S1x8x4x2048 .i32) (x7 : Vec F S1x8x4x2048 .i16) (x8 : Vec F S8x2x4x8x128 .i32) (x9 : Vec F S8x2x4x8x128 .i32) (xt0 : TbBuf0 (F := F) c tbM0_0) (hc1 : cond0_1 i (tbM0_0.view.readAt (Elt F) (Rect.unit (s := S16) (k0_off1 i) S1.size (k0_off1_inb i)).toLoadRect xt0 (Shape.Idx.first (numel1_S1.symm ▸ Nat.one_pos)))) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1).2.2.2.1 = (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (lenW c i xt0) (iota .tc S16x128 32 [0] iota_S16x128_d0_w32) (harg3.unread x0) (harg6.unread x3) (harg7.unread x4) (harg8.unread x5) (harg9.unread x6) (harg10.unread x7) (harg11.unread x8) (harg12.unread x9) (arg14.view.writes (Elt F) arg14.view.junk (initAcc arg3 harg3 arg4 harg4 arg5 harg5 x0 x1 x2)) (arg15.view.writes (Elt F) arg15.view.junk (initM arg3 harg3 arg4 harg4 x0 x1)) (arg16.view.writes (Elt F) arg16.view.junk (initL arg3 harg3 arg4 harg4 x0 x1)) k0_t1_loop.trips).2.2 ++ (initL arg3 harg3 arg4 harg4 x0 x1) := by
  unfold kernelRun0_A; rfl

theorem runB_0 (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : cond0_0 i) (hc2 : ¬cond0_2 i)
    (x0 : Vec F S1x8x64x64 .bf16) (x1 : Vec F S1x8x4x64 .bf16) (x2 : Vec F S1x8x4x64 .bf16) (x3 : Vec F S1x8x32x2048 .i8) (x4 : Vec F S1x8x32x2048 .i8) (x5 : Vec F S1x8x2048 .f32) (x6 : Vec F S1x8x4x2048 .i32) (x7 : Vec F S1x8x4x2048 .i16) (x8 : Vec F S8x2x4x8x128 .i32) (x9 : Vec F S8x2x4x8x128 .i32) (xt0 : TbBuf0 (F := F) c tbM0_0) (hc1 : ¬cond0_1 i (tbM0_0.view.readAt (Elt F) (Rect.unit (s := S16) (k0_off1 i) S1.size (k0_off1_inb i)).toLoadRect xt0 (Shape.Idx.first (numel1_S1.symm ▸ Nat.one_pos)))) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1).2.1 = (initAcc arg3 harg3 arg4 harg4 arg5 harg5 x0 x1 x2) := by
  unfold kernelRun0_B; rfl

theorem runB_1 (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : cond0_0 i) (hc2 : ¬cond0_2 i)
    (x0 : Vec F S1x8x64x64 .bf16) (x1 : Vec F S1x8x4x64 .bf16) (x2 : Vec F S1x8x4x64 .bf16) (x3 : Vec F S1x8x32x2048 .i8) (x4 : Vec F S1x8x32x2048 .i8) (x5 : Vec F S1x8x2048 .f32) (x6 : Vec F S1x8x4x2048 .i32) (x7 : Vec F S1x8x4x2048 .i16) (x8 : Vec F S8x2x4x8x128 .i32) (x9 : Vec F S8x2x4x8x128 .i32) (xt0 : TbBuf0 (F := F) c tbM0_0) (hc1 : ¬cond0_1 i (tbM0_0.view.readAt (Elt F) (Rect.unit (s := S16) (k0_off1 i) S1.size (k0_off1_inb i)).toLoadRect xt0 (Shape.Idx.first (numel1_S1.symm ▸ Nat.one_pos)))) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1).2.2.1 = (initM arg3 harg3 arg4 harg4 x0 x1) := by
  unfold kernelRun0_B; rfl

theorem runB_2 (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : cond0_0 i) (hc2 : ¬cond0_2 i)
    (x0 : Vec F S1x8x64x64 .bf16) (x1 : Vec F S1x8x4x64 .bf16) (x2 : Vec F S1x8x4x64 .bf16) (x3 : Vec F S1x8x32x2048 .i8) (x4 : Vec F S1x8x32x2048 .i8) (x5 : Vec F S1x8x2048 .f32) (x6 : Vec F S1x8x4x2048 .i32) (x7 : Vec F S1x8x4x2048 .i16) (x8 : Vec F S8x2x4x8x128 .i32) (x9 : Vec F S8x2x4x8x128 .i32) (xt0 : TbBuf0 (F := F) c tbM0_0) (hc1 : ¬cond0_1 i (tbM0_0.view.readAt (Elt F) (Rect.unit (s := S16) (k0_off1 i) S1.size (k0_off1_inb i)).toLoadRect xt0 (Shape.Idx.first (numel1_S1.symm ▸ Nat.one_pos)))) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1).2.2.2.1 = (initL arg3 harg3 arg4 harg4 x0 x1) := by
  unfold kernelRun0_B; rfl

theorem runC_0 (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : ¬cond0_0 i) (hc2 : ¬cond0_2 i)
    (x0 : Vec F S1x8x64x64 .bf16) (x1 : Vec F S1x8x4x64 .bf16) (x2 : Vec F S1x8x4x64 .bf16) (x3 : Vec F S1x8x32x2048 .i8) (x4 : Vec F S1x8x32x2048 .i8) (x5 : Vec F S1x8x2048 .f32) (x6 : Vec F S1x8x4x2048 .i32) (x7 : Vec F S1x8x4x2048 .i16) (x8 : Vec F S8x2x4x8x128 .i32) (x9 : Vec F S8x2x4x8x128 .i32) (xt0 : TbBuf0 (F := F) c tbM0_0) (xs0 : Vec F S8x64x64 .f32) (xs1 : Vec F S8x64x1 .f32) (xs2 : Vec F S8x64x1 .f32) (hc1 : cond0_1 i (tbM0_0.view.readAt (Elt F) (Rect.unit (s := S16) (k0_off1 i) S1.size (k0_off1_inb i)).toLoadRect xt0 (Shape.Idx.first (numel1_S1.symm ▸ Nat.one_pos)))) :
    (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1).2.1 = (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (lenW c i xt0) (iota .tc S16x128 32 [0] iota_S16x128_d0_w32) (harg3.unread x0) (harg6.unread x3) (harg7.unread x4) (harg8.unread x5) (harg9.unread x6) (harg10.unread x7) (harg11.unread x8) (harg12.unread x9) (harg14.unread xs0) (harg15.unread xs1) (harg16.unread xs2) k0_t1_loop.trips).1 := by
  unfold kernelRun0_C; rfl

theorem runC_1 (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : ¬cond0_0 i) (hc2 : ¬cond0_2 i)
    (x0 : Vec F S1x8x64x64 .bf16) (x1 : Vec F S1x8x4x64 .bf16) (x2 : Vec F S1x8x4x64 .bf16) (x3 : Vec F S1x8x32x2048 .i8) (x4 : Vec F S1x8x32x2048 .i8) (x5 : Vec F S1x8x2048 .f32) (x6 : Vec F S1x8x4x2048 .i32) (x7 : Vec F S1x8x4x2048 .i16) (x8 : Vec F S8x2x4x8x128 .i32) (x9 : Vec F S8x2x4x8x128 .i32) (xt0 : TbBuf0 (F := F) c tbM0_0) (xs0 : Vec F S8x64x64 .f32) (xs1 : Vec F S8x64x1 .f32) (xs2 : Vec F S8x64x1 .f32) (hc1 : cond0_1 i (tbM0_0.view.readAt (Elt F) (Rect.unit (s := S16) (k0_off1 i) S1.size (k0_off1_inb i)).toLoadRect xt0 (Shape.Idx.first (numel1_S1.symm ▸ Nat.one_pos)))) :
    (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1).2.2.1 = (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (lenW c i xt0) (iota .tc S16x128 32 [0] iota_S16x128_d0_w32) (harg3.unread x0) (harg6.unread x3) (harg7.unread x4) (harg8.unread x5) (harg9.unread x6) (harg10.unread x7) (harg11.unread x8) (harg12.unread x9) (harg14.unread xs0) (harg15.unread xs1) (harg16.unread xs2) k0_t1_loop.trips).2.1 := by
  unfold kernelRun0_C; rfl

theorem runC_2 (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : ¬cond0_0 i) (hc2 : ¬cond0_2 i)
    (x0 : Vec F S1x8x64x64 .bf16) (x1 : Vec F S1x8x4x64 .bf16) (x2 : Vec F S1x8x4x64 .bf16) (x3 : Vec F S1x8x32x2048 .i8) (x4 : Vec F S1x8x32x2048 .i8) (x5 : Vec F S1x8x2048 .f32) (x6 : Vec F S1x8x4x2048 .i32) (x7 : Vec F S1x8x4x2048 .i16) (x8 : Vec F S8x2x4x8x128 .i32) (x9 : Vec F S8x2x4x8x128 .i32) (xt0 : TbBuf0 (F := F) c tbM0_0) (xs0 : Vec F S8x64x64 .f32) (xs1 : Vec F S8x64x1 .f32) (xs2 : Vec F S8x64x1 .f32) (hc1 : cond0_1 i (tbM0_0.view.readAt (Elt F) (Rect.unit (s := S16) (k0_off1 i) S1.size (k0_off1_inb i)).toLoadRect xt0 (Shape.Idx.first (numel1_S1.symm ▸ Nat.one_pos)))) :
    (kernelRun0_C c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1).2.2.2.1 = (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (lenW c i xt0) (iota .tc S16x128 32 [0] iota_S16x128_d0_w32) (harg3.unread x0) (harg6.unread x3) (harg7.unread x4) (harg8.unread x5) (harg9.unread x6) (harg10.unread x7) (harg11.unread x8) (harg12.unread x9) (harg14.unread xs0) (harg15.unread xs1) (harg16.unread xs2) k0_t1_loop.trips).2.2 := by
  unfold kernelRun0_C; rfl

theorem runE_0 (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : ¬cond0_0 i) (hc2 : cond0_2 i)
    (x0 : Vec F S1x8x64x64 .bf16) (x1 : Vec F S1x8x4x64 .bf16) (x2 : Vec F S1x8x4x64 .bf16) (x3 : Vec F S1x8x32x2048 .i8) (x4 : Vec F S1x8x32x2048 .i8) (x5 : Vec F S1x8x2048 .f32) (x6 : Vec F S1x8x4x2048 .i32) (x7 : Vec F S1x8x4x2048 .i16) (x8 : Vec F S8x2x4x8x128 .i32) (x9 : Vec F S8x2x4x8x128 .i32) (xt0 : TbBuf0 (F := F) c tbM0_0) (xs0 : Vec F S8x64x64 .f32) (xs1 : Vec F S8x64x1 .f32) (xs2 : Vec F S8x64x1 .f32) (hc1 : cond0_1 i (tbM0_0.view.readAt (Elt F) (Rect.unit (s := S16) (k0_off1 i) S1.size (k0_off1_inb i)).toLoadRect xt0 (Shape.Idx.first (numel1_S1.symm ▸ Nat.one_pos)))) :
    (kernelRun0_E c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1).2.1 = (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (lenW c i xt0) (iota .tc S16x128 32 [0] iota_S16x128_d0_w32) (harg3.unread x0) (harg6.unread x3) (harg7.unread x4) (harg8.unread x5) (harg9.unread x6) (harg10.unread x7) (harg11.unread x8) (harg12.unread x9) (harg14.unread xs0) (harg15.unread xs1) (harg16.unread xs2) k0_t1_loop.trips).1 := by
  unfold kernelRun0_E; rfl

theorem runE_1 (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : ¬cond0_0 i) (hc2 : cond0_2 i)
    (x0 : Vec F S1x8x64x64 .bf16) (x1 : Vec F S1x8x4x64 .bf16) (x2 : Vec F S1x8x4x64 .bf16) (x3 : Vec F S1x8x32x2048 .i8) (x4 : Vec F S1x8x32x2048 .i8) (x5 : Vec F S1x8x2048 .f32) (x6 : Vec F S1x8x4x2048 .i32) (x7 : Vec F S1x8x4x2048 .i16) (x8 : Vec F S8x2x4x8x128 .i32) (x9 : Vec F S8x2x4x8x128 .i32) (xt0 : TbBuf0 (F := F) c tbM0_0) (xs0 : Vec F S8x64x64 .f32) (xs1 : Vec F S8x64x1 .f32) (xs2 : Vec F S8x64x1 .f32) (hc1 : cond0_1 i (tbM0_0.view.readAt (Elt F) (Rect.unit (s := S16) (k0_off1 i) S1.size (k0_off1_inb i)).toLoadRect xt0 (Shape.Idx.first (numel1_S1.symm ▸ Nat.one_pos)))) :
    (kernelRun0_E c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1).2.2.1 = (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (lenW c i xt0) (iota .tc S16x128 32 [0] iota_S16x128_d0_w32) (harg3.unread x0) (harg6.unread x3) (harg7.unread x4) (harg8.unread x5) (harg9.unread x6) (harg10.unread x7) (harg11.unread x8) (harg12.unread x9) (harg14.unread xs0) (harg15.unread xs1) (harg16.unread xs2) k0_t1_loop.trips).2.1 := by
  unfold kernelRun0_E; rfl

theorem runE_2 (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : ¬cond0_0 i) (hc2 : cond0_2 i)
    (x0 : Vec F S1x8x64x64 .bf16) (x1 : Vec F S1x8x4x64 .bf16) (x2 : Vec F S1x8x4x64 .bf16) (x3 : Vec F S1x8x32x2048 .i8) (x4 : Vec F S1x8x32x2048 .i8) (x5 : Vec F S1x8x2048 .f32) (x6 : Vec F S1x8x4x2048 .i32) (x7 : Vec F S1x8x4x2048 .i16) (x8 : Vec F S8x2x4x8x128 .i32) (x9 : Vec F S8x2x4x8x128 .i32) (xt0 : TbBuf0 (F := F) c tbM0_0) (xs0 : Vec F S8x64x64 .f32) (xs1 : Vec F S8x64x1 .f32) (xs2 : Vec F S8x64x1 .f32) (hc1 : cond0_1 i (tbM0_0.view.readAt (Elt F) (Rect.unit (s := S16) (k0_off1 i) S1.size (k0_off1_inb i)).toLoadRect xt0 (Shape.Idx.first (numel1_S1.symm ▸ Nat.one_pos)))) :
    (kernelRun0_E c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1).2.2.2.1 = (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (lenW c i xt0) (iota .tc S16x128 32 [0] iota_S16x128_d0_w32) (harg3.unread x0) (harg6.unread x3) (harg7.unread x4) (harg8.unread x5) (harg9.unread x6) (harg10.unread x7) (harg11.unread x8) (harg12.unread x9) (harg14.unread xs0) (harg15.unread xs1) (harg16.unread xs2) k0_t1_loop.trips).2.2 := by
  unfold kernelRun0_E; rfl

theorem runE_out (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : ¬cond0_0 i) (hc2 : cond0_2 i)
    (x0 : Vec F S1x8x64x64 .bf16) (x1 : Vec F S1x8x4x64 .bf16) (x2 : Vec F S1x8x4x64 .bf16) (x3 : Vec F S1x8x32x2048 .i8) (x4 : Vec F S1x8x32x2048 .i8) (x5 : Vec F S1x8x2048 .f32) (x6 : Vec F S1x8x4x2048 .i32) (x7 : Vec F S1x8x4x2048 .i16) (x8 : Vec F S8x2x4x8x128 .i32) (x9 : Vec F S8x2x4x8x128 .i32) (xt0 : TbBuf0 (F := F) c tbM0_0) (xs0 : Vec F S8x64x64 .f32) (xs1 : Vec F S8x64x1 .f32) (xs2 : Vec F S8x64x1 .f32) (hc1 : cond0_1 i (tbM0_0.view.readAt (Elt F) (Rect.unit (s := S16) (k0_off1 i) S1.size (k0_off1_inb i)).toLoadRect xt0 (Shape.Idx.first (numel1_S1.symm ▸ Nat.one_pos)))) :
    (kernelRun0_E c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1).1 = outs arg14 arg16 (arg14.view.writes (Elt F) (harg14.unread xs0) (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (lenW c i xt0) (iota .tc S16x128 32 [0] iota_S16x128_d0_w32) (harg3.unread x0) (harg6.unread x3) (harg7.unread x4) (harg8.unread x5) (harg9.unread x6) (harg10.unread x7) (harg11.unread x8) (harg12.unread x9) (harg14.unread xs0) (harg15.unread xs1) (harg16.unread xs2) k0_t1_loop.trips).1) (arg16.view.writes (Elt F) (harg16.unread xs2) (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (lenW c i xt0) (iota .tc S16x128 32 [0] iota_S16x128_d0_w32) (harg3.unread x0) (harg6.unread x3) (harg7.unread x4) (harg8.unread x5) (harg9.unread x6) (harg10.unread x7) (harg11.unread x8) (harg12.unread x9) (harg14.unread xs0) (harg15.unread xs1) (harg16.unread xs2) k0_t1_loop.trips).2.2) := by
  unfold kernelRun0_E; rfl

theorem runF_out (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : ¬cond0_0 i) (hc2 : cond0_2 i)
    (x0 : Vec F S1x8x64x64 .bf16) (x1 : Vec F S1x8x4x64 .bf16) (x2 : Vec F S1x8x4x64 .bf16) (x3 : Vec F S1x8x32x2048 .i8) (x4 : Vec F S1x8x32x2048 .i8) (x5 : Vec F S1x8x2048 .f32) (x6 : Vec F S1x8x4x2048 .i32) (x7 : Vec F S1x8x4x2048 .i16) (x8 : Vec F S8x2x4x8x128 .i32) (x9 : Vec F S8x2x4x8x128 .i32) (xt0 : TbBuf0 (F := F) c tbM0_0) (xs0 : Vec F S8x64x64 .f32) (xs1 : Vec F S8x64x1 .f32) (xs2 : Vec F S8x64x1 .f32) (hc1 : ¬cond0_1 i (tbM0_0.view.readAt (Elt F) (Rect.unit (s := S16) (k0_off1 i) S1.size (k0_off1_inb i)).toLoadRect xt0 (Shape.Idx.first (numel1_S1.symm ▸ Nat.one_pos)))) :
    (kernelRun0_F c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1).1 = outs arg14 arg16 (harg14.unread xs0) (harg16.unread xs2) := by
  unfold kernelRun0_F; rfl

end

theorem pay1060_at (a : Vec Ideal S1x64x64 .f32) (l : Vec Ideal S1x64x1 .f32) (r d : Fin 64) :
    k0_pay1060 (F := Ideal) a l (ix4 0 0 r d) = Ideal.div (a (ix3 0 r d)) (l (ix3 0 r 0)) := by
  pointwise [k0_pay1060]

theorem headAcc_at (arg14 : Memref sig .tc .vmem S8x64x64 .f32) (f : BufTy.Contents (Elt Ideal) arg14.view.ty) (h : Fin 8) (r d : Fin 64) :
    headAcc (F := Ideal) arg14 f h (ix3 0 r d) = arg14.view.read (Elt Ideal) f (ix3 h r d) := by
  refine congrArg (arg14.view.read (Elt Ideal) f) ?_
  funext a
  apply Fin.ext
  match a with
  | 0 => rfl
  | 1 => exact (Rect.idx_unit_val _ _ _ _ _).trans (Nat.zero_add _)
  | 2 => exact (Rect.idx_unit_val _ _ _ _ _).trans (Nat.zero_add _)

theorem headL_at (arg16 : Memref sig .tc .vmem S8x64x1 .f32) (f : BufTy.Contents (Elt Ideal) arg16.view.ty) (h : Fin 8) (r : Fin 64) :
    headL (F := Ideal) arg16 f h (ix3 0 r 0) = arg16.view.read (Elt Ideal) f (ix3 h r 0) := by
  refine congrArg (arg16.view.read (Elt Ideal) f) ?_
  funext a
  apply Fin.ext
  match a with
  | 0 => rfl
  | 1 => exact (Rect.idx_unit_val _ _ _ _ _).trans (Nat.zero_add _)
  | 2 => rfl

theorem read_outPieces (pay : Fin 8 → Vec Ideal S1x1x64x64 .bf16) (v : View sig .tc .vmem S1x8x64x64 .bf16) (f : v.ty.Contents (Elt Ideal))
    (n : ℕ) (hn : n ≤ 8) (h : Fin 8) (hh : h.val < n) (r d : Fin 64) :
    v.read (Elt Ideal) (v.writes (Elt Ideal) f (outPieces pay n hn)) (ix4 0 h r d) = pay h (ix4 0 0 r d) := by
  induction n with
  | zero => omega
  | succ n ih =>
    by_cases e : h.val = n
    · obtain rfl : h = ⟨n, hn⟩ := Fin.ext e
      exact View.read_writes_cons_unit_of_mem v f _ (pay ⟨n, hn⟩) _ (ix4 0 ⟨n, hn⟩ r d) (ix4 0 0 r d) rfl fun a =>
        match a with
        | 0 => rfl
        | 1 => rfl
        | 2 => (Nat.zero_add _).symm
        | 3 => (Nat.zero_add _).symm
    · exact (View.read_writes_cons_unit_of_not_mem v f _ (pay ⟨n, hn⟩) _ (ix4 0 h r d) rfl 1
        (show h.val < n ∨ n + 1 ≤ h.val by omega)).trans (ih (by omega) (by omega))

/-- The output block over scratch rows that hold the running values after `K` positions. -/
theorem read_outs {D : Data} {K : ℕ} (v : View sig .tc .vmem S1x8x64x64 .bf16) (f : v.ty.Contents (Elt Ideal))
    (arg14 : Memref sig .tc .vmem S8x64x64 .f32) (arg16 : Memref sig .tc .vmem S8x64x1 .f32) (m : S8x64x1.Idx → EReal)
    (f14 : BufTy.Contents (Elt Ideal) arg14.view.ty) (f16 : BufTy.Contents (Elt Ideal) arg16.view.ty) (h : Fin 8) (r : Fin 64)
    (H : Row D K (arg14.view.read (Elt Ideal) f14) m (arg16.view.read (Elt Ideal) f16) h r) (d : Fin 64) :
    v.read (Elt Ideal) (v.writes (Elt Ideal) f (outs arg14 arg16 f14 f16)) (ix4 0 h r d)
      = Ideal.div (Soft.AX (D.N h r) (D.vn h d) (D.S h r) (D.sc h) (D.v h d) K) (Soft.LX (D.N h r) (D.S h r) K) := by
  refine (read_outPieces _ v f 8 le_rfl h h.isLt r d).trans ((pay1060_at _ _ r d).trans ?_)
  rw [headAcc_at, headL_at, H.acc, H.l]

theorem Row.congr {D : Data} {K : ℕ} {a a' : S8x64x64.Idx → EReal} {m m' l l' : S8x64x1.Idx → EReal} {h : Fin 8} {r : Fin 64}
    (H : Row D K a m l h r) (ha : ∀ y, a' y = a y) (hm : ∀ y, m' y = m y) (hl : ∀ y, l' y = l y) : Row D K a' m' l' h r :=
  ⟨(hm _).trans H.m, (hl _).trans H.l, fun d => (ha _).trans (H.acc d)⟩

section

theorem rowB (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : cond0_0 i) (hc2 : ¬cond0_2 i)
    (x0 : Vec Ideal S1x8x64x64 .bf16) (x1 : Vec Ideal S1x8x4x64 .bf16) (x2 : Vec Ideal S1x8x4x64 .bf16) (x3 : Vec Ideal S1x8x32x2048 .i8) (x4 : Vec Ideal S1x8x32x2048 .i8) (x5 : Vec Ideal S1x8x2048 .f32) (x6 : Vec Ideal S1x8x4x2048 .i32) (x7 : Vec Ideal S1x8x4x2048 .i16) (x8 : Vec Ideal S8x2x4x8x128 .i32) (x9 : Vec Ideal S8x2x4x8x128 .i32) (xt0 : TbBuf0 (F := Ideal) c tbM0_0) (hc1 : ¬cond0_1 i (tbM0_0.view.readAt (Elt Ideal) (Rect.unit (s := S16) (k0_off1 i) S1.size (k0_off1_inb i)).toLoadRect xt0 (Shape.Idx.first (numel1_S1.symm ▸ Nat.one_pos)))) {D : Data} (hN : News D x0 x1 x2) (h : Fin 8) (r : Fin 64) : Row D 0 (sout0_B_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1) (sout0_B_1 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1) (sout0_B_2 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1) h r := by
  refine (init_row arg3 harg3 arg4 harg4 arg5 harg5 arg14 arg15 arg16 x0 x1 x2 arg14.view.junk arg15.view.junk arg16.view.junk hN h r).congr
    (fun y => (View.read_writes_apply_eq VS0_0 VS0_0.junk arg14.view arg14.view.junk y _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1 y)).trans (by rw [runB_0]))
    (fun y => (View.read_writes_apply_eq VS0_1 VS0_1.junk arg15.view arg15.view.junk y _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1 y)).trans (by rw [runB_1]))
    (fun y => (View.read_writes_apply_eq VS0_2 VS0_2.junk arg16.view arg16.view.junk y _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1 y)).trans (by rw [runB_2]))

theorem rowA (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : cond0_0 i) (hc2 : ¬cond0_2 i)
    (x0 : Vec Ideal S1x8x64x64 .bf16) (x1 : Vec Ideal S1x8x4x64 .bf16) (x2 : Vec Ideal S1x8x4x64 .bf16) (x3 : Vec Ideal S1x8x32x2048 .i8) (x4 : Vec Ideal S1x8x32x2048 .i8) (x5 : Vec Ideal S1x8x2048 .f32) (x6 : Vec Ideal S1x8x4x2048 .i32) (x7 : Vec Ideal S1x8x4x2048 .i16) (x8 : Vec Ideal S8x2x4x8x128 .i32) (x9 : Vec Ideal S8x2x4x8x128 .i32) (xt0 : TbBuf0 (F := Ideal) c tbM0_0) (hc1 : cond0_1 i (tbM0_0.view.readAt (Elt Ideal) (Rect.unit (s := S16) (k0_off1 i) S1.size (k0_off1_inb i)).toLoadRect xt0 (Shape.Idx.first (numel1_S1.symm ▸ Nat.one_pos)))) {D : Data} (hD : D.Ok) (hN : News D x0 x1 x2) (hB : Block D 0 (BitVec.ofNat 32 (i 1).val) (lenW c i xt0) x0 x3 x4 x5 x6 x7 x8 x9) (h : Fin 8) (r : Fin 64) : Row D 2048 (sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1) (sout0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1) (sout0_A_2 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1) h r := by
  have H := pb_row Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (lenW c i xt0) x0 x3 x4 x5 x6 x7 x8 x9
    (arg14.view.writes (Elt Ideal) arg14.view.junk (initAcc arg3 harg3 arg4 harg4 arg5 harg5 x0 x1 x2)) (arg15.view.writes (Elt Ideal) arg15.view.junk (initM arg3 harg3 arg4 harg4 x0 x1)) (arg16.view.writes (Elt Ideal) arg16.view.junk (initL arg3 harg3 arg4 harg4 x0 x1)) hD hB
    (init_row arg3 harg3 arg4 harg4 arg5 harg5 arg14 arg15 arg16 x0 x1 x2 arg14.view.junk arg15.view.junk arg16.view.junk hN) 8 le_rfl h r
  rw [if_pos h.isLt, Nat.zero_add] at H
  refine H.congr
    (fun y => (View.read_writes_apply_eq VS0_0 VS0_0.junk arg14.view arg14.view.junk y _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1 y)).trans (by rw [runA_0, trips_eq, View.writes_append]))
    (fun y => (View.read_writes_apply_eq VS0_1 VS0_1.junk arg15.view arg15.view.junk y _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1 y)).trans (by rw [runA_1, trips_eq, View.writes_append]))
    (fun y => (View.read_writes_apply_eq VS0_2 VS0_2.junk arg16.view arg16.view.junk y _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 hc1 y)).trans (by rw [runA_2, trips_eq, View.writes_append]))

theorem rowC (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : ¬cond0_0 i) (hc2 : ¬cond0_2 i)
    (x0 : Vec Ideal S1x8x64x64 .bf16) (x1 : Vec Ideal S1x8x4x64 .bf16) (x2 : Vec Ideal S1x8x4x64 .bf16) (x3 : Vec Ideal S1x8x32x2048 .i8) (x4 : Vec Ideal S1x8x32x2048 .i8) (x5 : Vec Ideal S1x8x2048 .f32) (x6 : Vec Ideal S1x8x4x2048 .i32) (x7 : Vec Ideal S1x8x4x2048 .i16) (x8 : Vec Ideal S8x2x4x8x128 .i32) (x9 : Vec Ideal S8x2x4x8x128 .i32) (xt0 : TbBuf0 (F := Ideal) c tbM0_0) (xs0 : Vec Ideal S8x64x64 .f32) (xs1 : Vec Ideal S8x64x1 .f32) (xs2 : Vec Ideal S8x64x1 .f32) (hc1 : cond0_1 i (tbM0_0.view.readAt (Elt Ideal) (Rect.unit (s := S16) (k0_off1 i) S1.size (k0_off1_inb i)).toLoadRect xt0 (Shape.Idx.first (numel1_S1.symm ▸ Nat.one_pos)))) {D : Data} (hD : D.Ok) {K : ℕ} (hB : Block D K (BitVec.ofNat 32 (i 1).val) (lenW c i xt0) x0 x3 x4 x5 x6 x7 x8 x9) (hX : ∀ h r, Row D K xs0 xs1 xs2 h r) (h : Fin 8) (r : Fin 64) : Row D (K + 2048) (sout0_C_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1) (sout0_C_1 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1) (sout0_C_2 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1) h r := by
  have H := pb_row Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (lenW c i xt0) x0 x3 x4 x5 x6 x7 x8 x9
    (harg14.unread xs0) (harg15.unread xs1) (harg16.unread xs2) hD hB
    (fun h r => by rw [harg14.read_unread, harg15.read_unread, harg16.read_unread]; exact hX h r) 8 le_rfl h r
  rw [if_pos h.isLt] at H
  refine H.congr
    (fun y => (View.read_writes_apply_eq VS0_0 VS0_0.junk arg14.view (harg14.unread xs0) y _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1 y)).trans (by rw [runC_0, trips_eq]))
    (fun y => (View.read_writes_apply_eq VS0_1 VS0_1.junk arg15.view (harg15.unread xs1) y _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1 y)).trans (by rw [runC_1, trips_eq]))
    (fun y => (View.read_writes_apply_eq VS0_2 VS0_2.junk arg16.view (harg16.unread xs2) y _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1 y)).trans (by rw [runC_2, trips_eq]))

theorem rowE (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : ¬cond0_0 i) (hc2 : cond0_2 i)
    (x0 : Vec Ideal S1x8x64x64 .bf16) (x1 : Vec Ideal S1x8x4x64 .bf16) (x2 : Vec Ideal S1x8x4x64 .bf16) (x3 : Vec Ideal S1x8x32x2048 .i8) (x4 : Vec Ideal S1x8x32x2048 .i8) (x5 : Vec Ideal S1x8x2048 .f32) (x6 : Vec Ideal S1x8x4x2048 .i32) (x7 : Vec Ideal S1x8x4x2048 .i16) (x8 : Vec Ideal S8x2x4x8x128 .i32) (x9 : Vec Ideal S8x2x4x8x128 .i32) (xt0 : TbBuf0 (F := Ideal) c tbM0_0) (xs0 : Vec Ideal S8x64x64 .f32) (xs1 : Vec Ideal S8x64x1 .f32) (xs2 : Vec Ideal S8x64x1 .f32) (hc1 : cond0_1 i (tbM0_0.view.readAt (Elt Ideal) (Rect.unit (s := S16) (k0_off1 i) S1.size (k0_off1_inb i)).toLoadRect xt0 (Shape.Idx.first (numel1_S1.symm ▸ Nat.one_pos)))) {D : Data} (hD : D.Ok) {K : ℕ} (hB : Block D K (BitVec.ofNat 32 (i 1).val) (lenW c i xt0) x0 x3 x4 x5 x6 x7 x8 x9) (hX : ∀ h r, Row D K xs0 xs1 xs2 h r) (h : Fin 8) (r : Fin 64) : Row D (K + 2048) (sout0_E_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1) (sout0_E_1 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1) (sout0_E_2 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1) h r := by
  have H := pb_row Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (lenW c i xt0) x0 x3 x4 x5 x6 x7 x8 x9
    (harg14.unread xs0) (harg15.unread xs1) (harg16.unread xs2) hD hB
    (fun h r => by rw [harg14.read_unread, harg15.read_unread, harg16.read_unread]; exact hX h r) 8 le_rfl h r
  rw [if_pos h.isLt] at H
  refine H.congr
    (fun y => (View.read_writes_apply_eq VS0_0 VS0_0.junk arg14.view (harg14.unread xs0) y _ (scover0_E_0 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1 y)).trans (by rw [runE_0, trips_eq]))
    (fun y => (View.read_writes_apply_eq VS0_1 VS0_1.junk arg15.view (harg15.unread xs1) y _ (scover0_E_1 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1 y)).trans (by rw [runE_1, trips_eq]))
    (fun y => (View.read_writes_apply_eq VS0_2 VS0_2.junk arg16.view (harg16.unread xs2) y _ (scover0_E_2 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1 y)).trans (by rw [runE_2, trips_eq]))

theorem outE (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : ¬cond0_0 i) (hc2 : cond0_2 i)
    (x0 : Vec Ideal S1x8x64x64 .bf16) (x1 : Vec Ideal S1x8x4x64 .bf16) (x2 : Vec Ideal S1x8x4x64 .bf16) (x3 : Vec Ideal S1x8x32x2048 .i8) (x4 : Vec Ideal S1x8x32x2048 .i8) (x5 : Vec Ideal S1x8x2048 .f32) (x6 : Vec Ideal S1x8x4x2048 .i32) (x7 : Vec Ideal S1x8x4x2048 .i16) (x8 : Vec Ideal S8x2x4x8x128 .i32) (x9 : Vec Ideal S8x2x4x8x128 .i32) (xt0 : TbBuf0 (F := Ideal) c tbM0_0) (xs0 : Vec Ideal S8x64x64 .f32) (xs1 : Vec Ideal S8x64x1 .f32) (xs2 : Vec Ideal S8x64x1 .f32) (hc1 : cond0_1 i (tbM0_0.view.readAt (Elt Ideal) (Rect.unit (s := S16) (k0_off1 i) S1.size (k0_off1_inb i)).toLoadRect xt0 (Shape.Idx.first (numel1_S1.symm ▸ Nat.one_pos)))) {D : Data} (hD : D.Ok) {K : ℕ} (hB : Block D K (BitVec.ofNat 32 (i 1).val) (lenW c i xt0) x0 x3 x4 x5 x6 x7 x8 x9) (hX : ∀ h r, Row D K xs0 xs1 xs2 h r) (h : Fin 8) (r : Fin 64) (d : Fin 64) :
    out0_E_10 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1 (ix4 0 h r d) = Ideal.div (Soft.AX (D.N h r) (D.vn h d) (D.S h r) (D.sc h) (D.v h d) (K + 2048)) (Soft.LX (D.N h r) (D.S h r) (K + 2048)) := by
  have H := pb_row Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (lenW c i xt0) x0 x3 x4 x5 x6 x7 x8 x9
    (harg14.unread xs0) (harg15.unread xs1) (harg16.unread xs2) hD hB
    (fun h r => by rw [harg14.read_unread, harg15.read_unread, harg16.read_unread]; exact hX h r) 8 le_rfl h r
  rw [if_pos h.isLt] at H
  unfold out0_E_10
  rw [runE_out, trips_eq]
  exact read_outs _ _ arg14 arg16 _ _ _ h r H d

theorem outF (c : Dev nD) (i : grid0.Coords) (arg3 : Memref sig .tc .vmem S1x8x64x64 .bf16) (harg3 : arg3.IsWhole) (arg4 : Memref sig .tc .vmem S1x8x4x64 .bf16) (harg4 : arg4.IsWhole) (arg5 : Memref sig .tc .vmem S1x8x4x64 .bf16) (harg5 : arg5.IsWhole) (arg6 : Memref sig .tc .vmem S1x8x32x2048 .i8) (harg6 : arg6.IsWhole) (arg7 : Memref sig .tc .vmem S1x8x32x2048 .i8) (harg7 : arg7.IsWhole) (arg8 : Memref sig .tc .vmem S1x8x2048 .f32) (harg8 : arg8.IsWhole) (arg9 : Memref sig .tc .vmem S1x8x4x2048 .i32) (harg9 : arg9.IsWhole) (arg10 : Memref sig .tc .vmem S1x8x4x2048 .i16) (harg10 : arg10.IsWhole) (arg11 : Memref sig .tc .vmem S8x2x4x8x128 .i32) (harg11 : arg11.IsWhole) (arg12 : Memref sig .tc .vmem S8x2x4x8x128 .i32) (harg12 : arg12.IsWhole) (arg13 : Memref sig .tc .vmem S1x8x64x64 .bf16) (harg13 : arg13.IsWhole) (arg14 : Memref sig .tc .vmem S8x64x64 .f32) (harg14 : arg14.IsWhole) (arg15 : Memref sig .tc .vmem S8x64x1 .f32) (harg15 : arg15.IsWhole) (arg16 : Memref sig .tc .vmem S8x64x1 .f32) (harg16 : arg16.IsWhole) (hc0 : ¬cond0_0 i) (hc2 : cond0_2 i)
    (x0 : Vec Ideal S1x8x64x64 .bf16) (x1 : Vec Ideal S1x8x4x64 .bf16) (x2 : Vec Ideal S1x8x4x64 .bf16) (x3 : Vec Ideal S1x8x32x2048 .i8) (x4 : Vec Ideal S1x8x32x2048 .i8) (x5 : Vec Ideal S1x8x2048 .f32) (x6 : Vec Ideal S1x8x4x2048 .i32) (x7 : Vec Ideal S1x8x4x2048 .i16) (x8 : Vec Ideal S8x2x4x8x128 .i32) (x9 : Vec Ideal S8x2x4x8x128 .i32) (xt0 : TbBuf0 (F := Ideal) c tbM0_0) (xs0 : Vec Ideal S8x64x64 .f32) (xs1 : Vec Ideal S8x64x1 .f32) (xs2 : Vec Ideal S8x64x1 .f32) (hc1 : ¬cond0_1 i (tbM0_0.view.readAt (Elt Ideal) (Rect.unit (s := S16) (k0_off1 i) S1.size (k0_off1_inb i)).toLoadRect xt0 (Shape.Idx.first (numel1_S1.symm ▸ Nat.one_pos)))) {D : Data} {K : ℕ} (hX : ∀ h r, Row D K xs0 xs1 xs2 h r) (h : Fin 8) (r : Fin 64) (d : Fin 64) :
    out0_F_10 c i arg3 harg3 arg4 harg4 arg5 harg5 arg6 harg6 arg7 harg7 arg8 harg8 arg9 harg9 arg10 harg10 arg11 harg11 arg12 harg12 arg13 harg13 arg14 harg14 arg15 harg15 arg16 harg16 hc0 hc2 x0 x1 x2 x3 x4 x5 x6 x7 x8 x9 xt0 xs0 xs1 xs2 hc1 (ix4 0 h r d) = Ideal.div (Soft.AX (D.N h r) (D.vn h d) (D.S h r) (D.sc h) (D.v h d) K) (Soft.LX (D.N h r) (D.S h r) K) := by
  unfold out0_F_10
  rw [runF_out]
  refine read_outs _ _ arg14 arg16 xs1 _ _ h r ?_ d
  rw [harg14.read_unread, harg16.read_unread]
  exact hX h r

end

end Cert.KernelIdeal.Gen

end
-- ==== Proof.Points.lean ====
/- The blocks of the region's arrays at a grid point, read at an index. -/
module

public import proofs.«01_k».proof.Proof.KernelIdealOk
public import proofs.«01_k».proof.Proof.Cases

@[expose] public section

set_option maxRecDepth 16384

noncomputable section

namespace Cert.KernelIdeal.Gen

open Idealize.ShloMosaic Idealize.ShloMosaic.TcCoe Idealize.ShloMosaic.Tactic

section

variable {F : FTy → Type} [FloatOps F]
variable (m : (ℓ : Loc nD τ sig) → Buf (Elt F) ℓ)

theorem coords_at : ∀ t : Fin grid0.N, (grid0.coords t 0).val = t.val / 16 ∧ (grid0.coords t 1).val = t.val % 16 := by
  decide +kernel

variable (hO : Ok m) (c : Dev nD)

/-- The table's word for a batch. -/
def lenB (b : Fin 16) : BitVec 32 := tbl m 0 (ix1 b)

/-- The batch of a point. -/
def bat (t : Fin (cfgM m hO).N) : Fin 16 := ⟨t.val / 16, by have h : t.val < 256 := lt_of_lt_of_eq t.isLt N_0; omega⟩

theorem off_at (t : Fin (cfgM m hO).N) : k0_off1 (grid0.coords t) 0 = t.val / 16 := by
  rw [← (coords_at t).1, ← batch_toNat (grid0.coords t)]; rfl

theorem lenAt_eq (t : Fin (cfgM m hO).N) : lenAt (tbl m) (grid0.coords t) = lenB m (bat m hO t) := by
  unfold lenAt lenB Pipeline.Prefetch.Contents.at
  refine congrArg (tbl m 0) ?_
  funext (a : Fin 1)
  obtain rfl : a = 0 := Subsingleton.elim _ _
  exact Fin.ext ((Rect.idx_unit_val _ _ _ _ _).trans (off_at m hO t))

theorem lenW_eq (t : Fin (cfgM m hO).N) : lenW c (grid0.coords t) (tbl m 0) = lenB m (bat m hO t) := by
  rw [← lenAt_eq]; rfl

theorem index0 (t : Fin (cfgM m hO).N) : ((cfgM m hO).win 0).index t = ![t.val / 16, 0, 0, 0] := by
  rw [← (coords_at t).1, ← batch_toNat (grid0.coords t)]; rfl

theorem index1 (t : Fin (cfgM m hO).N) : ((cfgM m hO).win 1).index t = ![t.val / 16, 0, 0, 0] := by
  rw [← (coords_at t).1, ← batch_toNat (grid0.coords t)]; rfl

theorem index2 (t : Fin (cfgM m hO).N) : ((cfgM m hO).win 2).index t = ![t.val / 16, 0, 0, 0] := by
  rw [← (coords_at t).1, ← batch_toNat (grid0.coords t)]; rfl

theorem index8 (t : Fin (cfgM m hO).N) : ((cfgM m hO).win 8).index t = ![0, 0, 0, 0, 0] := rfl

theorem index9 (t : Fin (cfgM m hO).N) : ((cfgM m hO).win 9).index t = ![0, 0, 0, 0, 0] := rfl

theorem index3 (t : Fin (cfgM m hO).N) :
    ((cfgM m hO).win 3).index t = ![t.val / 16, 0, 0, (Table.blkW (lenB m (bat m hO t)) (t.val % 16)).toNat] := by
  rw [← lenAt_eq, ← (coords_at t).1, ← (coords_at t).2]
  exact tr3 (tbl m) (grid0.coords t)

theorem index4 (t : Fin (cfgM m hO).N) :
    ((cfgM m hO).win 4).index t = ![t.val / 16, 0, 0, (Table.blkW (lenB m (bat m hO t)) (t.val % 16)).toNat] := by
  rw [← lenAt_eq, ← (coords_at t).1, ← (coords_at t).2]
  exact tr4 (tbl m) (grid0.coords t)

theorem index5 (t : Fin (cfgM m hO).N) :
    ((cfgM m hO).win 5).index t = ![t.val / 16, 0, (Table.blkW (lenB m (bat m hO t)) (t.val % 16)).toNat] := by
  rw [← lenAt_eq, ← (coords_at t).1, ← (coords_at t).2]
  exact tr5 (tbl m) (grid0.coords t)

theorem index6 (t : Fin (cfgM m hO).N) :
    ((cfgM m hO).win 6).index t = ![t.val / 16, 0, 0, (Table.blkW (lenB m (bat m hO t)) (t.val % 16)).toNat] := by
  rw [← lenAt_eq, ← (coords_at t).1, ← (coords_at t).2]
  exact tr6 (tbl m) (grid0.coords t)

theorem index7 (t : Fin (cfgM m hO).N) :
    ((cfgM m hO).win 7).index t = ![t.val / 16, 0, 0, (Table.blkW (lenB m (bat m hO t)) (t.val % 16)).toNat] := by
  rw [← lenAt_eq, ← (coords_at t).1, ← (coords_at t).2]
  exact tr7 (tbl m) (grid0.coords t)

theorem iblk0_at (t : Fin (cfgM m hO).N) (b : Fin 16) (hb : t.val / 16 = b.val) (h : Fin 8) (r d : Fin 64) :
    iblk m hO c 0 t (ix4 0 h r d) = V m c main_v5 (ix4 b h r d) := by
  blk_ext [iblk, V, index0 m hO t]

theorem iblk1_at (t : Fin (cfgM m hO).N) (b : Fin 16) (hb : t.val / 16 = b.val) (h : Fin 8) (r : Fin 4) (d : Fin 64) :
    iblk m hO c 1 t (ix4 0 h r d) = V m c main_v9 (ix4 b h r d) := by
  blk_ext [iblk, V, index1 m hO t]

theorem iblk2_at (t : Fin (cfgM m hO).N) (b : Fin 16) (hb : t.val / 16 = b.val) (h : Fin 8) (r : Fin 4) (d : Fin 64) :
    iblk m hO c 2 t (ix4 0 h r d) = V m c main_v13 (ix4 b h r d) := by
  blk_ext [iblk, V, index2 m hO t]

theorem iblk8_at (t : Fin (cfgM m hO).N) : iblk m hO c 8 t = V m c main_v34 := by
  funext y
  blk_ext [iblk, V, index8 m hO t]

theorem iblk9_at (t : Fin (cfgM m hO).N) : iblk m hO c 9 t = V m c main_v50 := by
  funext y
  blk_ext [iblk, V, index9 m hO t]

theorem iblk3_at (t : Fin (cfgM m hO).N) (b : Fin 16) (hb : t.val / 16 = b.val) (h : Fin 8) (i : Fin 32) (p : Fin 2048) (j : Fin 32768)
    (hj : (Table.blkW (lenB m (bat m hO t)) (t.val % 16)).toNat * 2048 + p.val = j.val) :
    iblk m hO c 3 t (ix4 0 h i p) = V m c main_v14 (ix4 b h i j) := by
  blk_ext [iblk, V, index3 m hO t]

theorem iblk4_at (t : Fin (cfgM m hO).N) (b : Fin 16) (hb : t.val / 16 = b.val) (h : Fin 8) (i : Fin 32) (p : Fin 2048) (j : Fin 32768)
    (hj : (Table.blkW (lenB m (bat m hO t)) (t.val % 16)).toNat * 2048 + p.val = j.val) :
    iblk m hO c 4 t (ix4 0 h i p) = V m c main_v15 (ix4 b h i j) := by
  blk_ext [iblk, V, index4 m hO t]

theorem iblk5_at (t : Fin (cfgM m hO).N) (b : Fin 16) (hb : t.val / 16 = b.val) (h : Fin 8) (p : Fin 2048) (j : Fin 32768)
    (hj : (Table.blkW (lenB m (bat m hO t)) (t.val % 16)).toNat * 2048 + p.val = j.val) :
    iblk m hO c 5 t (ix3 0 h p) = V m c main_v16 (ix3 b h j) := by
  blk_ext [iblk, V, index5 m hO t]

theorem iblk6_at (t : Fin (cfgM m hO).N) (b : Fin 16) (hb : t.val / 16 = b.val) (h : Fin 8) (i : Fin 4) (p : Fin 2048) (j : Fin 32768)
    (hj : (Table.blkW (lenB m (bat m hO t)) (t.val % 16)).toNat * 2048 + p.val = j.val) :
    iblk m hO c 6 t (ix4 0 h i p) = V m c main_v17 (ix4 b h i j) := by
  blk_ext [iblk, V, index6 m hO t]

theorem iblk7_at (t : Fin (cfgM m hO).N) (b : Fin 16) (hb : t.val / 16 = b.val) (h : Fin 8) (i : Fin 4) (p : Fin 2048) (j : Fin 32768)
    (hj : (Table.blkW (lenB m (bat m hO t)) (t.val % 16)).toNat * 2048 + p.val = j.val) :
    iblk m hO c 7 t (ix4 0 h i p) = V m c main_v18 (ix4 b h i j) := by
  blk_ext [iblk, V, index7 m hO t]

end

end Cert.KernelIdeal.Gen

end
-- ==== Proof.Grid.lean ====
/- Along a batch's sixteen points the scratch arrays hold the running values after each block, and the last point's output is
   the quotient after all of them. -/
module

public import proofs.«01_k».proof.Proof.Points

@[expose] public section

set_option maxRecDepth 16384

noncomputable section

namespace Cert.KernelIdeal.Gen

open Idealize.ShloMosaic Idealize.ShloMosaic.TcCoe Idealize.ShloMosaic.Tactic

theorem Row.skip {D : Data} {K : ℕ} {a : S8x64x64.Idx → EReal} {m l : S8x64x1.Idx → EReal} {h : Fin 8} {r : Fin 64}
    (R : Row D K a m l h r) (hs : ∀ p : Fin 2048, D.S h r (K + p.val) = ⊥) : Row D (K + 2048) a m l h r :=
  ⟨R.m.trans (Soft.MX_skip hs).symm, R.l.trans (Soft.LX_skip hs).symm, fun d => (R.acc d).trans (Soft.AX_skip hs).symm⟩

theorem ofNat_slt {n : ℕ} (hn : n < 2 ^ 31) (w : BitVec 32) : (BitVec.ofNat 32 n).slt w = true ↔ (n : ℤ) < w.toInt := by
  rw [BitVec.slt_iff_toInt_lt, BitVec.toInt_ofNat']
  rw [show ((n : ℤ)).bmod (2 ^ 32) = n from by rw [Int.bmod_def]; omega]

/-- The word the body branches on: the block starts before the batch's length. -/
theorem cond_iff (i : grid0.Coords) (w : BitVec 32) : cond0_1 i w ↔ (((i 1).val * 2048 : ℕ) : ℤ) < w.toInt := by
  have h : (i 1).val < 16 := (i 1).isLt
  rw [← ofNat_slt (by omega) w]
  have e : BitVec.ofNat 32 ((i 1).val * 2048) = Scalar.muli (BitVec.ofNat 32 (i 1).val) 2048#32 := by
    rw [BitVec.ofNat_mul]; rfl
  rw [e]
  unfold cond0_1
  generalize (Scalar.muli (BitVec.ofNat 32 (i 1).val) 2048#32) = x
  simp only [Scalar.cmpi, Scalar.extui]
  rw [show IntOp.cmpi .slt x w = BitVec.ofBool (x.slt w) from rfl]
  cases x.slt w <;> decide

theorem row_of {D : Data} {K : ℕ} {x : Vec Ideal S1x8x64x64 .bf16 × Vec Ideal S8x64x64 .f32 × Vec Ideal S8x64x1 .f32 × Vec Ideal S8x64x1 .f32}
    {o : Vec Ideal S1x8x64x64 .bf16} {a : Vec Ideal S8x64x64 .f32} {m' l : Vec Ideal S8x64x1 .f32} {h : Fin 8} {r : Fin 64}
    (e : x = (o, a, m', l)) (R : Row D K a m' l h r) : Row D K x.2.1 x.2.2.1 x.2.2.2 h r := by
  rw [e]; exact R

theorem out_of {x : Vec Ideal S1x8x64x64 .bf16 × Vec Ideal S8x64x64 .f32 × Vec Ideal S8x64x1 .f32 × Vec Ideal S8x64x1 .f32}
    {o : Vec Ideal S1x8x64x64 .bf16} {a : Vec Ideal S8x64x64 .f32} {m' l : Vec Ideal S8x64x1 .f32} {y : EReal} {i : S1x8x64x64.Idx}
    (e : x = (o, a, m', l)) (R : o i = y) : x.1 i = y := by
  rw [e]; exact R

section

variable (m : (ℓ : Loc nD τ sig) → Buf (Elt Ideal) ℓ) (hO : Ok m) (c : Dev nD)

/-- What the region's arrays hold, batch by batch: new scores and values, cached scores, scales and values. -/
structure Arrays (D : Fin 16 → Data) : Prop where
  ok : ∀ b, (D b).Ok
  n : ∀ (b : Fin 16) (h : Fin 8) (r : Fin 64) (t : Fin 4), (if t.val ≤ r.val / 16 then
      (∑ d : Fin 64, (show EReal from V m c main_v5 (ix4 b h r d)) * V m c main_v9 (ix4 b h t d)) * scale else ⊥) = (D b).N h r t
  vn : ∀ (b : Fin 16) (h : Fin 8) (t : Fin 4) (d : Fin 64), V m c main_v13 (ix4 b h t d) = (D b).vn h d t
  xi : ∀ (b : Fin 16) (h : Fin 8) (o : Fin 4) (j : Fin 32768), (show BitVec 32 from V m c main_v17 (ix4 b h o j)).toNat < 64
  s : ∀ (b : Fin 16) (h : Fin 8) (r : Fin 64) (j : Fin 32768), (if (j.val : ℤ) < (lenB m b).toInt then
      (∑ d : Fin 64, (show EReal from V m c main_v5 (ix4 b h r d)) * kEl (fun i => V m c main_v14 (ix4 b h i j))
        (fun o => V m c main_v17 (ix4 b h o j)) (fun o => V m c main_v18 (ix4 b h o j)) (V m c main_v34) h d) * scale
      else ⊥) = (D b).S h r j.val
  sc : ∀ (b : Fin 16) (h : Fin 8) (j : Fin 32768), V m c main_v16 (ix3 b h j) = (D b).sc h j.val
  v : ∀ (b : Fin 16) (h : Fin 8) (d : Fin 64) (j : Fin 32768),
      vEl (fun i => V m c main_v15 (ix4 b h i j)) (V m c main_v50) h d = (D b).v h d j.val

variable {c} {D : Fin 16 → Data} (A : Arrays m c D)

include A

theorem news (t : Fin (cfgM m hO).N) : News (D (bat m hO t)) (iblk m hO c 0 t) (iblk m hO c 1 t) (iblk m hO c 2 t) := by
  constructor
  · intro h r s
    rw [← A.n (bat m hO t) h r s]
    refine if_congr Iff.rfl (congrArg (· * scale) (Finset.sum_congr rfl fun d _ => congrArg₂ (· * ·) ?_ ?_)) rfl
    · exact iblk0_at m hO c t (bat m hO t) rfl h r d
    · exact iblk1_at m hO c t (bat m hO t) rfl h s d
  · intro h d s
    rw [← A.vn (bat m hO t) h s d]
    exact iblk2_at m hO c t (bat m hO t) rfl h s d

/-- An active point's blocks. -/
theorem blocks (t : Fin (cfgM m hO).N) (ha : ((t.val % 16 * 2048 : ℕ) : ℤ) < (lenB m (bat m hO t)).toInt) :
    Block (D (bat m hO t)) (t.val % 16 * 2048) (BitVec.ofNat 32 (grid0.coords t 1).val) (lenW c (grid0.coords t) (tbl m 0))
      (iblk m hO c 0 t) (iblk m hO c 3 t) (iblk m hO c 4 t) (iblk m hO c 5 t) (iblk m hO c 6 t) (iblk m hO c 7 t)
      (iblk m hO c 8 t) (iblk m hO c 9 t) := by
  have h16 : t.val % 16 < 16 := Nat.mod_lt _ (by decide)
  have hb : (Table.blkW (lenB m (bat m hO t)) (t.val % 16)).toNat = t.val % 16 := Table.blkW_eq _ _ h16 (by push_cast at ha; exact ha)
  have hj : ∀ p : Fin 2048, t.val % 16 * 2048 + p.val < 32768 := fun p => by omega
  have e3 := fun h i p => iblk3_at m hO c t (bat m hO t) rfl h i p ⟨_, hj p⟩ (by rw [hb])
  have e4 := fun h i p => iblk4_at m hO c t (bat m hO t) rfl h i p ⟨_, hj p⟩ (by rw [hb])
  have e5 := fun h p => iblk5_at m hO c t (bat m hO t) rfl h p ⟨_, hj p⟩ (by rw [hb])
  have e6 := fun h i p => iblk6_at m hO c t (bat m hO t) rfl h i p ⟨_, hj p⟩ (by rw [hb])
  have e7 := fun h i p => iblk7_at m hO c t (bat m hO t) rfl h i p ⟨_, hj p⟩ (by rw [hb])
  rw [lenW_eq, (coords_at t).2]
  constructor
  · intro h o p
    rw [e6]
    exact A.xi _ h o ⟨_, hj p⟩
  · intro h r p
    rw [← A.s (bat m hO t) h r ⟨_, hj p⟩]
    have ec : BitVec.ofNat 32 (t.val % 16) * 2048#32 + BitVec.ofNat 32 p.val = BitVec.ofNat 32 (t.val % 16 * 2048 + p.val) := by
      rw [BitVec.ofNat_add, BitVec.ofNat_mul]
    rw [ec]
    refine if_congr (ofNat_slt (by have := hj p; omega) _) (congrArg (· * scale) (Finset.sum_congr rfl fun d _ => congrArg₂ (· * ·) ?_ ?_)) rfl
    · exact iblk0_at m hO c t (bat m hO t) rfl h r d
    · rw [iblk8_at m hO c t]
      rw [show (fun i => iblk m hO c 3 t (ix4 0 h i p)) = _ from funext fun i => e3 h i p,
        show (fun i => iblk m hO c 6 t (ix4 0 h i p)) = _ from funext fun i => e6 h i p,
        show (fun i => iblk m hO c 7 t (ix4 0 h i p)) = _ from funext fun i => e7 h i p]
  · intro h p
    rw [← A.sc (bat m hO t) h ⟨_, hj p⟩]
    exact e5 h p
  · intro h d p
    rw [← A.v (bat m hO t) h d ⟨_, hj p⟩, iblk9_at m hO c t]
    rw [show (fun i => iblk m hO c 4 t (ix4 0 h i p)) = _ from funext fun i => e4 h i p]

/-- An inactive point's positions hold no score. -/
theorem idle_bot (t : Fin (cfgM m hO).N) (ha : ¬ ((t.val % 16 * 2048 : ℕ) : ℤ) < (lenB m (bat m hO t)).toInt) (h : Fin 8) (r : Fin 64)
    (p : Fin 2048) : (D (bat m hO t)).S h r (t.val % 16 * 2048 + p.val) = ⊥ := by
  have h16 : t.val % 16 < 16 := Nat.mod_lt _ (by decide)
  have hj : t.val % 16 * 2048 + p.val < 32768 := by omega
  rw [← A.s (bat m hO t) h r ⟨_, hj⟩]
  exact if_neg (by push_cast at ha ⊢; omega)

/-- The branch word of a point. -/
theorem cond_at (t : Fin (cfgM m hO).N) : cond0_1 (grid0.coords t) (lenW c (grid0.coords t) (tbl m 0)) ↔
    ((t.val % 16 * 2048 : ℕ) : ℤ) < (lenB m (bat m hO t)).toInt := by
  rw [cond_iff, lenW_eq, (coords_at t).2]

/-- What a point finds in the scratch arrays after the batch's first point: the rows after the blocks before. -/
theorem row_before (n : ℕ) (hn : n < (cfgM m hO).N) (h0 : ¬ n % 16 = 0) (hn' : n - 1 < (cfgM m hO).N)
    (ih : ∀ (h : Fin 8) (r : Fin 64), Row (D (bat m hO ⟨n - 1, hn'⟩)) ((n - 1) % 16 * 2048 + 2048) (outsAt0 m hO c (n - 1) hn').2.1
      (outsAt0 m hO c (n - 1) hn').2.2.1 (outsAt0 m hO c (n - 1) hn').2.2.2 h r) (h : Fin 8) (r : Fin 64) :
    Row (D (bat m hO ⟨n, hn⟩)) (n % 16 * 2048) (outsAt0 m hO c (n - 1) hn').2.1
      (outsAt0 m hO c (n - 1) hn').2.2.1 (outsAt0 m hO c (n - 1) hn').2.2.2 h r := by
  have eb : bat m hO ⟨n - 1, hn'⟩ = bat m hO ⟨n, hn⟩ := Fin.ext (show (n - 1) / 16 = n / 16 by omega)
  have ek : (n - 1) % 16 * 2048 + 2048 = n % 16 * 2048 := by omega
  have H := ih h r
  rw [eb, ek] at H
  exact H

/-- After the body at a point, every row holds the running values after the point's block. -/
theorem row_at (n : ℕ) : ∀ (hn : n < (cfgM m hO).N) (h : Fin 8) (r : Fin 64),
    Row (D (bat m hO ⟨n, hn⟩)) (n % 16 * 2048 + 2048) (outsAt0 m hO c n hn).2.1 (outsAt0 m hO c n hn).2.2.1 (outsAt0 m hO c n hn).2.2.2 h r := by
  induction n using Nat.strong_induction_on with
  | _ n ih =>
    intro hn h r
    by_cases h0 : n % 16 = 0
    · have h2 : ¬ n % 16 = 15 := by omega
      by_cases h1 : cond0_1 (grid0.coords ⟨n, hn⟩) (lenW c (grid0.coords ⟨n, hn⟩) (tbl m 0))
      · have e := outsAt0_A m hO c ⟨n, hn⟩ h0 h1 h2
        have B := blocks m hO A ⟨n, hn⟩ ((cond_at m hO A _).mp h1)
        rw [show n % 16 * 2048 + 2048 = 2048 by omega]
        rw [show (⟨n, hn⟩ : Fin (cfgM m hO).N).val % 16 * 2048 = 0 from by show n % 16 * 2048 = 0; omega] at B
        exact row_of e (rowA (hD := A.ok _) (hN := news m hO A ⟨n, hn⟩) (hB := B) (h := h) (r := r) ..)
      · have S := idle_bot m hO A ⟨n, hn⟩ (fun h => h1 ((cond_at m hO A _).mpr h)) h r
        rw [show n % 16 * 2048 = 0 by omega]
        rw [show (⟨n, hn⟩ : Fin (cfgM m hO).N).val % 16 * 2048 = 0 from by show n % 16 * 2048 = 0; omega] at S
        refine Row.skip ?_ S
        exact row_of (outsAt0_B m hO c ⟨n, hn⟩ h0 h1 h2) (rowB (hN := news m hO A ⟨n, hn⟩) (h := h) (r := r) ..)
    · have hn' : n - 1 < (cfgM m hO).N := by omega
      have X := row_before m hO A n hn h0 hn' (ih (n - 1) (by omega) hn')
      by_cases h1 : cond0_1 (grid0.coords ⟨n, hn⟩) (lenW c (grid0.coords ⟨n, hn⟩) (tbl m 0))
      · have B := blocks m hO A ⟨n, hn⟩ ((cond_at m hO A _).mp h1)
        by_cases h2 : n % 16 = 15
        · have e := outsAt0_E m hO c ⟨n, hn⟩ h0 h1 h2
          exact row_of e (rowE (hD := A.ok _) (hB := B) (hX := X) (h := h) (r := r) ..)
        · have e := outsAt0_C m hO c ⟨n, hn⟩ h0 h1 h2
          exact row_of e (rowC (hD := A.ok _) (hB := B) (hX := X) (h := h) (r := r) ..)
      · have S := idle_bot m hO A ⟨n, hn⟩ (fun h => h1 ((cond_at m hO A _).mpr h)) h r
        by_cases h2 : n % 16 = 15
        · exact row_of (outsAt0_F m hO c ⟨n, hn⟩ h0 h1 h2) (Row.skip (X h r) S)
        · exact row_of (outsAt0_D m hO c ⟨n, hn⟩ h0 h1 h2) (Row.skip (X h r) S)

/-- The batch's last point leaves the quotient after every position. -/
theorem out_at (t : Fin (cfgM m hO).N) (h2 : t.val % 16 = 15) (h : Fin 8) (r d : Fin 64) :
    (outsAt0 m hO c t.val t.isLt).1 (ix4 0 h r d)
      = Ideal.div (Soft.AX ((D (bat m hO t)).N h r) ((D (bat m hO t)).vn h d) ((D (bat m hO t)).S h r) ((D (bat m hO t)).sc h)
          ((D (bat m hO t)).v h d) 32768) (Soft.LX ((D (bat m hO t)).N h r) ((D (bat m hO t)).S h r) 32768) := by
  obtain ⟨n, hn⟩ := t
  have h2' : n % 16 = 15 := h2
  have h0 : ¬ n % 16 = 0 := by omega
  have hn' : n - 1 < (cfgM m hO).N := by omega
  have X := row_before m hO A n hn h0 hn' (row_at m hO A (n - 1) hn')
  have ek : n % 16 * 2048 + 2048 = 32768 := by omega
  by_cases h1 : cond0_1 (grid0.coords ⟨n, hn⟩) (lenW c (grid0.coords ⟨n, hn⟩) (tbl m 0))
  · have B := blocks m hO A ⟨n, hn⟩ ((cond_at m hO A _).mp h1)
    rw [← ek]
    exact out_of (outsAt0_E m hO c ⟨n, hn⟩ h0 h1 h2) (outE (hD := A.ok _) (hB := B) (hX := X) (h := h) (r := r) (d := d) ..)
  · have S := idle_bot m hO A ⟨n, hn⟩ (fun h => h1 ((cond_at m hO A _).mpr h))
    rw [← ek]
    exact out_of (outsAt0_F m hO c ⟨n, hn⟩ h0 h1 h2) (outF (hX := fun h r => Row.skip (X h r) (S h r)) (h := h) (r := r) (d := d) ..)

end

end Cert.KernelIdeal.Gen

end
-- ==== Proof.Out.lean ====
/- The region's output array, and the result the host operations after the region make of it. -/
module

public import proofs.«01_k».proof.Proof.Grid

@[expose] public section

set_option maxRecDepth 16384

noncomputable section

namespace Cert.KernelIdeal.Gen

open Idealize.ShloMosaic Idealize.ShloMosaic.TcCoe Idealize.ShloMosaic.Tactic

/-- The position of a channel among the kernel's rows. -/
def unchan (d : Fin 64) : Fin 64 := ⟨(d.val / 2 % 4) * 16 + d.val / 8 * 2 + d.val % 2, by omega⟩

section

variable (m : (ℓ : Loc nD τ sig) → Buf (Elt Ideal) ℓ) (hO : Ok m) (c : Dev nD)

/-- A batch's attention at a head, row and position. -/
def attn (D : Data) (h : Fin 8) (r d : Fin 64) : EReal :=
  Ideal.div (Soft.AX (D.N h r) (D.vn h d) (D.S h r) (D.sc h) (D.v h d) 32768) (Soft.LX (D.N h r) (D.S h r) 32768)

theorem index10 (t : Fin (cfgM m hO).N) : ((cfgM m hO).win 10).index t = ![t.val / 16, 0, 0, 0] := by
  rw [← (coords_at t).1, ← batch_toNat (grid0.coords t)]; rfl

/-- An axis of the output array. -/
def ax10 (i : Fin 4) : Fin ((cfgM m hO).win 10).shape.rank := i

theorem covers10 : ((cfgM m hO).win 10).Covers := by
  refine ⟨fun (a : Fin 4) => ?_, fun β => ?_⟩
  · match a with
    | 0 => exact (by decide : 0 < 1)
    | 1 => exact (by decide : 0 < 8)
    | 2 => exact (by decide : 0 < 64)
    | 3 => exact (by decide : 0 < 64)
  · have h0 : (β (ax10 m hO 0)).val < (16 + 1 - 1) / 1 := (β (ax10 m hO 0)).isLt
    have h1 : (β (ax10 m hO 1)).val < (8 + 8 - 1) / 8 := (β (ax10 m hO 1)).isLt
    have h2 : (β (ax10 m hO 2)).val < (64 + 64 - 1) / 64 := (β (ax10 m hO 2)).isLt
    have h3 : (β (ax10 m hO 3)).val < (64 + 64 - 1) / 64 := (β (ax10 m hO 3)).isLt
    have ht : 16 * (β (ax10 m hO 0)).val + 15 < (cfgM m hO).N := lt_of_lt_of_eq (by omega : _ < 256) N_0.symm
    refine ⟨⟨16 * (β (ax10 m hO 0)).val + 15, ht⟩, (flush0_10 _ _).mpr ?_, fun (a : Fin 4) => ⟨?_, ?_⟩⟩
    · show (16 * (β (ax10 m hO 0)).val + 15) % 16 = 15
      omega
    · rw [index10]
      match a with
      | 0 => show (16 * (β (ax10 m hO 0)).val + 15) / 16 = (β (ax10 m hO 0)).val; omega
      | 1 => show 0 = (β (ax10 m hO 1)).val; omega
      | 2 => show 0 = (β (ax10 m hO 2)).val; omega
      | 3 => show 0 = (β (ax10 m hO 3)).val; omega
    · match a with
      | 0 => exact .inl rfl
      | 1 => exact .inl rfl
      | 2 => exact .inl rfl
      | 3 => exact .inl rfl

theorem arr_out {c : Dev nD} {D : Fin 16 → Data} (A : Arrays m c D) :
    (dats m hO 0 c).arrAt 10 (cfgM m hO).N = fun y : S16x8x64x64.Idx => attn (D (y 0)) (y 1) (y 2) (y 3) := by
  refine (dats m hO 0 c).arrAt_eq_of_covers 10 _ (covers10 m hO) fun t hf y => ?_
  blk_simp
  rw [after0_10]
  have h2 := (flush0_10 _ t).mp hf
  have key : ∀ z : S1x8x64x64.Idx, (outsAt0 m hO c t.val t.isLt).1 z
      = attn (D (bat m hO t)) (z 1) (z 2) (z 3) := fun z => by
    have e' : z = ix4 0 (z 1) (z 2) (z 3) := by blk_ext
    rw [e']
    exact out_at m hO A t h2 (z 1) (z 2) (z 3)
  have e : ∀ z : S1x8x64x64.Idx, ((((cfgM m hO).win 10).blk t).view.emb z : S16x8x64x64.Idx)
      = ix4 (bat m hO t) (z 1) (z 2) (z 3) := fun z => by
    blk_ext [index10 m hO t, bat]
  rw [e y]
  exact key y

theorem tail57 (V : Valuation τ sig (Elt Ideal)) (b : Fin 16) (s : Fin 4) (e : Fin 8192) :
    (StableHlo.after hostOps1 V (Proc.devRef .tc main_v57) : S16x4x8192.Idx → EReal) (ix3 b s e)
      = (V (Proc.devRef .tc main_v51) : S16x8x64x64.Idx → EReal)
          (ix4 b ⟨e.val / 1024, by omega⟩ ⟨s.val * 16 + e.val / 64 % 16, by omega⟩ (unchan ⟨e.val % 64, by omega⟩)) := by
  after_results
  pointwise
  rfl
end

end Cert.KernelIdeal.Gen

end
-- ==== Proof.Args.lean ====
/- The attention as mathematics of the argument arrays, and the region's arrays as the host operations make them of the
   arguments: the channels of a head are permuted, and a byte's two table entries are packed in a word. -/
module

public import proofs.«01_k».proof.Proof.Out

@[expose] public section

set_option maxRecDepth 16384

noncomputable section

namespace Cert.KernelIdeal.Gen

open Idealize.ShloMosaic Idealize.ShloMosaic.TcCoe Idealize.ShloMosaic.Tactic

/-- The argument arrays, read at indices. -/
structure Ins where
  x : Fin 16 → Fin 4 → Fin 8192 → EReal
  kn : Fin 16 → Fin 4 → Fin 8 → Fin 64 → EReal
  vn : Fin 16 → Fin 4 → Fin 8 → Fin 64 → EReal
  ck : Fin 16 → Fin 32768 → Fin 8 → Fin 32 → BitVec 8
  cv : Fin 16 → Fin 32768 → Fin 8 → Fin 32 → BitVec 8
  kt : Fin 8 → Fin 64 → Fin 16 → BitVec 16
  vt : Fin 8 → Fin 64 → Fin 16 → BitVec 16
  vs : Fin 16 → Fin 32768 → Fin 8 → EReal
  len : Fin 16 → BitVec 32
  oi : Fin 16 → Fin 32768 → Fin 8 → Fin 4 → BitVec 32
  ov : Fin 16 → Fin 32768 → Fin 8 → Fin 4 → BitVec 16

/-- The code of a channel of parity `par` in its byte. -/
def nib (c : BitVec 8) (par : ℕ) : Fin 16 := ⟨if par % 2 = 0 then c.toNat % 16 else c.toNat / 16, by have := c.isLt; split <;> omega⟩

namespace Ins

variable (I : Ins)

/-- A query's channel. -/
def q (b : Fin 16) (h : Fin 8) (r ch : Fin 64) : EReal := I.x b ⟨r.val / 16, by omega⟩ ⟨h.val * 1024 + r.val % 16 * 64 + ch.val, by omega⟩

/-- A cached key's channel: its level, or the outlier that has the channel. -/
def key (b : Fin 16) (j : Fin 32768) (h : Fin 8) (ch : Fin 64) : EReal :=
  Ideal.ofBits .bf16 (overlay (I.oi b j h) (I.ov b j h) ch.val (I.kt h ch (nib (I.ck b j h ⟨ch.val / 2, by omega⟩) ch.val)))

/-- A cached value's channel. -/
def val (b : Fin 16) (j : Fin 32768) (h : Fin 8) (ch : Fin 64) : EReal :=
  Ideal.ofBits .bf16 (I.vt h ch (nib (I.cv b j h ⟨ch.val / 2, by omega⟩) ch.val))

/-- A new token's score. -/
def sNew (b : Fin 16) (h : Fin 8) (r : Fin 64) (t : Fin 4) : EReal :=
  if t.val ≤ r.val / 16 then (∑ ch : Fin 64, I.q b h r ch * I.kn b t h ch) * scale else ⊥

/-- A cached position's score. -/
def sOld (b : Fin 16) (h : Fin 8) (r : Fin 64) (j : Fin 32768) : EReal :=
  if (j.val : ℤ) < (I.len b).toInt then (∑ ch : Fin 64, I.q b h r ch * I.key b j h ch) * scale else ⊥

/-- The channel at a position of the kernel's rows. -/
def sig : Fin 64 ≃ Fin 64 where
  toFun d := ⟨d.val / 2 % 8 * 8 + d.val / 16 * 2 + d.val % 2, by omega⟩
  invFun := unchan
  left_inv := by decide
  right_inv := by decide

theorem chan_sig (d : Fin 64) : chan (d.val / 16) (d.val % 16) = (sig d).val := by
  show 8 * (d.val % 16 / 2) + 2 * (d.val / 16) + d.val % 16 % 2 = d.val / 2 % 8 * 8 + d.val / 16 * 2 + d.val % 2
  omega

/-- A batch's scores and values, a value's channels in the order of the kernel's rows. -/
def data (b : Fin 16) : Data where
  N h r t := I.sNew b h r t
  vn h d t := I.vn b t h (sig d)
  S h r j := if hj : j < 32768 then I.sOld b h r ⟨j, hj⟩ else ⊥
  sc h j := if hj : j < 32768 then I.vs b ⟨j, hj⟩ h else 0
  v h d j := if hj : j < 32768 then I.val b ⟨j, hj⟩ h (sig d) else 0

end Ins

/-- The arrays a memory of the kernel holds. -/
def insOf (m : (ℓ : Loc nD τ sig) → Buf (Elt Ideal) ℓ) (c : Dev nD) : Ins where
  x b s e := (m ((c : Thread nD τ).loc main_arg0) : S16x4x8192.Idx → EReal) (ix3 b s e)
  kn b t h d := (m ((c : Thread nD τ).loc main_arg1) : S16x4x8x64.Idx → EReal) (ix4 b t h d)
  vn b t h d := (m ((c : Thread nD τ).loc main_arg2) : S16x4x8x64.Idx → EReal) (ix4 b t h d)
  ck b j h i := (m ((c : Thread nD τ).loc main_arg3) : S16x32768x8x32.Idx → BitVec 8) (ix4 b j h i)
  cv b j h i := (m ((c : Thread nD τ).loc main_arg4) : S16x32768x8x32.Idx → BitVec 8) (ix4 b j h i)
  kt h ch n := (m ((c : Thread nD τ).loc main_arg5) : S8x64x16.Idx → BitVec 16) (ix3 h ch n)
  vt h ch n := (m ((c : Thread nD τ).loc main_arg6) : S8x64x16.Idx → BitVec 16) (ix3 h ch n)
  vs b j h := (m ((c : Thread nD τ).loc main_arg7) : S16x32768x8.Idx → EReal) (ix3 b j h)
  len b := (m ((c : Thread nD τ).loc main_arg8) : S16.Idx → BitVec 32) (ix1 b)
  oi b j h o := (m ((c : Thread nD τ).loc main_arg9) : S16x32768x8x4.Idx → BitVec 32) (ix4 b j h o)
  ov b j h o := (m ((c : Thread nD τ).loc main_arg10) : S16x32768x8x4.Idx → BitVec 16) (ix4 b j h o)

section

variable (W : Valuation τ sig (Elt Ideal))

theorem host5 (b : Fin 16) (h : Fin 8) (r d : Fin 64) :
    (StableHlo.after hostOps0 W (Proc.devRef .tc main_v5) : S16x8x64x64.Idx → EReal) (ix4 b h r d)
      = (W (Proc.devRef .tc main_arg0) : S16x4x8192.Idx → EReal)
          (ix3 b ⟨r.val / 16, by omega⟩ ⟨h.val * 1024 + r.val % 16 * 64 + (Ins.sig d).val, by omega⟩) := by
  after_results
  pointwise
  rfl

theorem host9 (b : Fin 16) (h : Fin 8) (t : Fin 4) (d : Fin 64) :
    (StableHlo.after hostOps0 W (Proc.devRef .tc main_v9) : S16x8x4x64.Idx → EReal) (ix4 b h t d)
      = (W (Proc.devRef .tc main_arg1) : S16x4x8x64.Idx → EReal) (ix4 b t h (Ins.sig d)) := by
  after_results
  pointwise
  rfl

theorem host13 (b : Fin 16) (h : Fin 8) (t : Fin 4) (d : Fin 64) :
    (StableHlo.after hostOps0 W (Proc.devRef .tc main_v13) : S16x8x4x64.Idx → EReal) (ix4 b h t d)
      = (W (Proc.devRef .tc main_arg2) : S16x4x8x64.Idx → EReal) (ix4 b t h (Ins.sig d)) := by
  after_results
  pointwise
  rfl

theorem host14 (b : Fin 16) (h : Fin 8) (i : Fin 32) (j : Fin 32768) :
    (StableHlo.after hostOps0 W (Proc.devRef .tc main_v14) : S16x8x32x32768.Idx → BitVec 8) (ix4 b h i j)
      = (W (Proc.devRef .tc main_arg3) : S16x32768x8x32.Idx → BitVec 8) (ix4 b j h i) := by
  after_results
  pointwise

theorem host15 (b : Fin 16) (h : Fin 8) (i : Fin 32) (j : Fin 32768) :
    (StableHlo.after hostOps0 W (Proc.devRef .tc main_v15) : S16x8x32x32768.Idx → BitVec 8) (ix4 b h i j)
      = (W (Proc.devRef .tc main_arg4) : S16x32768x8x32.Idx → BitVec 8) (ix4 b j h i) := by
  after_results
  pointwise

theorem host16 (b : Fin 16) (h : Fin 8) (j : Fin 32768) :
    (StableHlo.after hostOps0 W (Proc.devRef .tc main_v16) : S16x8x32768.Idx → EReal) (ix3 b h j)
      = (W (Proc.devRef .tc main_arg7) : S16x32768x8.Idx → EReal) (ix3 b j h) := by
  after_results
  pointwise

theorem host17 (b : Fin 16) (h : Fin 8) (o : Fin 4) (j : Fin 32768) :
    (StableHlo.after hostOps0 W (Proc.devRef .tc main_v17) : S16x8x4x32768.Idx → BitVec 32) (ix4 b h o j)
      = (W (Proc.devRef .tc main_arg9) : S16x32768x8x4.Idx → BitVec 32) (ix4 b j h o) := by
  after_results
  pointwise

theorem host18 (b : Fin 16) (h : Fin 8) (o : Fin 4) (j : Fin 32768) :
    (StableHlo.after hostOps0 W (Proc.devRef .tc main_v18) : S16x8x4x32768.Idx → BitVec 16) (ix4 b h o j)
      = (W (Proc.devRef .tc main_arg10) : S16x32768x8x4.Idx → BitVec 16) (ix4 b j h o) := by
  after_results
  pointwise

/-- A packed word: the entry of a byte's low code and, sixteen bits up, of its high code. -/
def packW (t : S8x64x16.Idx → BitVec 16) (h : Fin 8) (s : Fin 2) (y : Fin 4) (w : Fin 8) (l : Fin 128) : BitVec 32 :=
  (t (ix3 h ⟨w.val * 8 + y.val * 2, by omega⟩ ⟨l.val % 16, by omega⟩)).setWidth 32
    ||| (t (ix3 h ⟨w.val * 8 + y.val * 2 + 1, by omega⟩ ⟨s.val * 8 + l.val / 16, by omega⟩)).setWidth 32 <<< 16

theorem host34 (h : Fin 8) (s : Fin 2) (y : Fin 4) (w : Fin 8) (l : Fin 128) :
    (StableHlo.after hostOps0 W (Proc.devRef .tc main_v34) : S8x2x4x8x128.Idx → BitVec 32) (ix5 h s y w l)
      = packW (W (Proc.devRef .tc main_arg5)) h s y w l := by
  after_results
  pointwise
  simp only [id]
  pointwise [ori]
  rfl

theorem host50 (h : Fin 8) (s : Fin 2) (y : Fin 4) (w : Fin 8) (l : Fin 128) :
    (StableHlo.after hostOps0 W (Proc.devRef .tc main_v50) : S8x2x4x8x128.Idx → BitVec 32) (ix5 h s y w l)
      = packW (W (Proc.devRef .tc main_arg6)) h s y w l := by
  after_results
  pointwise
  simp only [id]
  pointwise [ori]
  rfl

end

theorem pack_lo (a c : BitVec 16) : (a.setWidth 32 ||| c.setWidth 32 <<< 16).extractLsb' (16 * 0) 16 = a := by
  apply BitVec.eq_of_getLsbD_eq
  intro i hi
  simp [BitVec.getLsbD_extractLsb', hi, show i < 32 by omega]

theorem pack_hi (a c : BitVec 16) : (a.setWidth 32 ||| c.setWidth 32 <<< 16).extractLsb' (16 * 1) 16 = c := by
  apply BitVec.eq_of_getLsbD_eq
  intro i hi
  simp [BitVec.getLsbD_extractLsb', hi, show 16 + i < 32 by omega]

theorem level_pack {kt : S8x64x16.Idx → BitVec 16} {T : IVec S8x2x4x8x128 32}
    (hT : ∀ h s y w l, T (ix5 h s y w l) = packW kt h s y w l) (h : Fin 8) (t : Fin 4) (r : Fin 8) (p : ℕ) (hp : p < 2)
    (b : BitVec 8) : level T h t r p b = kt (ix3 h ⟨r.val * 8 + t.val * 2 + p, by omega⟩ (nib b p)) := by
  have hb := b.isLt
  rw [level, hT, packW]
  match p, hp with
  | 0, _ =>
    rw [pack_lo]
    refine congrArg (fun n => kt (ix3 h _ n)) (Fin.ext ?_)
    simp only [nib, Nat.zero_mod, if_true]
    omega
  | 1, _ =>
    rw [pack_hi]
    refine congrArg (fun n => kt (ix3 h _ n)) (Fin.ext ?_)
    simp only [nib, Nat.one_mod, one_ne_zero, if_false]
    split
    · show 1 * 8 + _ = _
      omega
    · show 0 * 8 + _ = _
      omega

theorem nib_par (c : BitVec 8) {a b : ℕ} (h : a % 2 = b % 2) : nib c a = nib c b := by simp only [nib, h]

/-- Finiteness. -/
def Real' (x : EReal) : Prop := x ≠ ⊥ ∧ x ≠ ⊤

/-- What the scores are made of is finite, and the outlier indices are channels. -/
structure Ins.Fine (I : Ins) : Prop where
  x : ∀ b s e, Real' (I.x b s e)
  kn : ∀ b t h d, Real' (I.kn b t h d)
  kt : ∀ h ch n, Real' (Ideal.ofBits .bf16 (I.kt h ch n))
  ov : ∀ b j h o, Real' (Ideal.ofBits .bf16 (I.ov b j h o))
  oi : ∀ b j h o, (I.oi b j h o).toNat < 64

theorem Real'.mul {x y : EReal} (hx : Real' x) (hy : Real' y) : Real' (x * y) := by
  obtain ⟨hx0, hx1⟩ := hx
  obtain ⟨hy0, hy1⟩ := hy
  lift x to ℝ using ⟨hx1, hx0⟩
  lift y to ℝ using ⟨hy1, hy0⟩
  rw [← EReal.coe_mul]
  exact ⟨EReal.coe_ne_bot _, EReal.coe_ne_top _⟩

theorem Real'.add {x y : EReal} (hx : Real' x) (hy : Real' y) : Real' (x + y) := by
  obtain ⟨hx0, hx1⟩ := hx
  obtain ⟨hy0, hy1⟩ := hy
  lift x to ℝ using ⟨hx1, hx0⟩
  lift y to ℝ using ⟨hy1, hy0⟩
  rw [← EReal.coe_add]
  exact ⟨EReal.coe_ne_bot _, EReal.coe_ne_top _⟩

theorem Real'.sum {ι : Type} (s : Finset ι) (f : ι → EReal) (h : ∀ i, Real' (f i)) : Real' (∑ i ∈ s, f i) := by
  classical
  induction s using Finset.induction_on with
  | empty => exact ⟨EReal.zero_ne_bot, EReal.zero_ne_top⟩
  | insert i s hi ih => rw [Finset.sum_insert hi]; exact (h i).add ih

theorem scale_real : Real' scale := by
  unfold scale
  have e : Ideal.ofBits FTy.f32 1040187392#32 = ((0.125 : ℝ) : EReal) := by
    simp [Ideal.ofBits, Ideal.ieee]
    rw [← EReal.coe_mul]
    norm_num
  rw [e]
  exact ⟨EReal.coe_ne_bot _, EReal.coe_ne_top _⟩

namespace Ins.Fine

variable {I : Ins} (hI : I.Fine)
include hI

theorem key (b : Fin 16) (j : Fin 32768) (h : Fin 8) (ch : Fin 64) : Real' (I.key b j h ch) := by
  unfold Ins.key overlay
  split
  · exact hI.ov ..
  · split
    · exact hI.ov ..
    · split
      · exact hI.ov ..
      · split
        · exact hI.ov ..
        · exact hI.kt ..

theorem ok (b : Fin 16) : (I.data b).Ok where
  hN h r t := by
    show I.sNew b h r t ≠ ⊤
    unfold Ins.sNew
    split
    · exact ((Real'.sum _ _ fun ch => (hI.x ..).mul (hI.kn ..)).mul scale_real).2
    · exact bot_ne_top
  hN0 h r := by
    show I.sNew b h r 0 ≠ ⊥
    unfold Ins.sNew
    rw [if_pos (show (0 : Fin 4).val ≤ r.val / 16 from Nat.zero_le _)]
    exact ((Real'.sum _ _ fun ch => (hI.x ..).mul (hI.kn ..)).mul scale_real).1
  hS h r j := by
    show (if hj : j < 32768 then I.sOld b h r ⟨j, hj⟩ else ⊥) ≠ ⊤
    split
    · unfold Ins.sOld
      split
      · exact ((Real'.sum _ _ fun ch => (hI.x ..).mul (hI.key ..)).mul scale_real).2
      · exact bot_ne_top
    · exact bot_ne_top

end Ins.Fine

section

variable (m : (ℓ : Loc nD τ sig) → Buf (Elt Ideal) ℓ) (c : Dev nD)

/-- The level of a row's channel, from the table of the arguments. -/
theorem level_sig {kt : S8x64x16.Idx → BitVec 16} {T : IVec S8x2x4x8x128 32}
    (hT : ∀ h s y w l, T (ix5 h s y w l) = packW kt h s y w l) (codes : Fin 32 → BitVec 8) (h : Fin 8) (d : Fin 64) :
    level T h ⟨d.val / 16, by omega⟩ ⟨d.val % 16 / 2, by omega⟩ (d.val % 16 % 2) (codes ⟨4 * (d.val % 16 / 2) + d.val / 16, by omega⟩)
      = kt (ix3 h (Ins.sig d) (nib (codes ⟨(Ins.sig d).val / 2, by omega⟩) (Ins.sig d).val)) := by
  have e1 : (⟨4 * (d.val % 16 / 2) + d.val / 16, by omega⟩ : Fin 32) = ⟨(Ins.sig d).val / 2, by omega⟩ :=
    Fin.ext (by show _ = (d.val / 2 % 8 * 8 + d.val / 16 * 2 + d.val % 2) / 2; simp only []; omega)
  have e2 : d.val % 16 % 2 % 2 = (Ins.sig d).val % 2 := by
    show _ = (d.val / 2 % 8 * 8 + d.val / 16 * 2 + d.val % 2) % 2
    omega
  rw [level_pack hT _ _ _ _ (Nat.mod_lt _ (by decide)), e1, nib_par _ e2]
  refine congrArg (fun n => kt (ix3 h n _)) (Fin.ext ?_)
  show d.val % 16 / 2 * 8 + d.val / 16 * 2 + d.val % 16 % 2 = d.val / 2 % 8 * 8 + d.val / 16 * 2 + d.val % 2
  omega

theorem kEl_ins (b : Fin 16) (j : Fin 32768) (h : Fin 8) (d : Fin 64) :
    kEl (fun i => V m c main_v14 (ix4 b h i j)) (fun o => V m c main_v17 (ix4 b h o j)) (fun o => V m c main_v18 (ix4 b h o j))
      (V m c main_v34) h d = (insOf m c).key b j h (Ins.sig d) := by
  have e17 : (fun o => V m c main_v17 (ix4 b h o j)) = (insOf m c).oi b j h := funext fun o => host17 (fun b => m (c, b)) b h o j
  have e18 : (fun o => V m c main_v18 (ix4 b h o j)) = (insOf m c).ov b j h := funext fun o => host18 (fun b => m (c, b)) b h o j
  have e14 : (fun i => V m c main_v14 (ix4 b h i j)) = (insOf m c).ck b j h := funext fun o => host14 (fun b => m (c, b)) b h o j
  unfold kEl
  rw [e17, e18, e14, Ins.chan_sig, level_sig (T := V m c main_v34) (fun h s y w l => host34 (fun b => m (c, b)) h s y w l)]
  rfl

theorem vEl_ins (b : Fin 16) (j : Fin 32768) (h : Fin 8) (d : Fin 64) :
    vEl (fun i => V m c main_v15 (ix4 b h i j)) (V m c main_v50) h d = (insOf m c).val b j h (Ins.sig d) := by
  have e15 : (fun i => V m c main_v15 (ix4 b h i j)) = (insOf m c).cv b j h := funext fun o => host15 (fun b => m (c, b)) b h o j
  unfold vEl
  rw [e15, level_sig (T := V m c main_v50) (fun h s y w l => host50 (fun b => m (c, b)) h s y w l)]
  rfl

theorem q_ins (b : Fin 16) (h : Fin 8) (r d : Fin 64) : V m c main_v5 (ix4 b h r d) = (insOf m c).q b h r (Ins.sig d) :=
  host5 (fun b => m (c, b)) b h r d

theorem kn_ins (b : Fin 16) (h : Fin 8) (t : Fin 4) (d : Fin 64) : V m c main_v9 (ix4 b h t d) = (insOf m c).kn b t h (Ins.sig d) :=
  host9 (fun b => m (c, b)) b h t d

theorem arrays (hI : (insOf m c).Fine) (hlen : ∀ b, lenB m b = (insOf m c).len b) : Arrays m c (insOf m c).data where
  ok := hI.ok
  n b h r t := by
    show _ = (insOf m c).sNew b h r t
    unfold Ins.sNew
    refine if_congr Iff.rfl (congrArg (· * scale) ?_) rfl
    refine (Finset.sum_congr rfl fun d _ => ?_).trans
      (Equiv.sum_comp Ins.sig fun ch => (insOf m c).q b h r ch * (insOf m c).kn b t h ch)
    exact congrArg₂ (fun x y : EReal => x * y) (q_ins m c b h r d) (kn_ins m c b h t d)
  vn b h t d := host13 (fun b => m (c, b)) b h t d
  xi b h o j := by
    rw [show V m c main_v17 (ix4 b h o j) = (insOf m c).oi b j h o from host17 (fun b => m (c, b)) b h o j]
    exact hI.oi ..
  s b h r j := by
    show _ = if hj : j.val < 32768 then (insOf m c).sOld b h r ⟨j.val, hj⟩ else ⊥
    rw [dif_pos j.isLt, hlen]
    unfold Ins.sOld
    refine if_congr Iff.rfl (congrArg (· * scale) ?_) rfl
    refine (Finset.sum_congr rfl fun d _ => ?_).trans
      (Equiv.sum_comp Ins.sig fun ch => (insOf m c).q b h r ch * (insOf m c).key b j h ch)
    exact congrArg₂ (fun x y : EReal => x * y) (q_ins m c b h r d) (kEl_ins m c b j h d)
  sc b h j := by
    show _ = if hj : j.val < 32768 then (insOf m c).vs b ⟨j.val, hj⟩ h else 0
    rw [dif_pos j.isLt]
    exact host16 (fun b => m (c, b)) b h j
  v b h d j := by
    show _ = if hj : j.val < 32768 then (insOf m c).val b ⟨j.val, hj⟩ h (Ins.sig d) else 0
    rw [dif_pos j.isLt]
    exact vEl_ins m c b j h d

end

end Cert.KernelIdeal.Gen

end
-- ==== Proof.Value.lean ====
/- The kernel's result array after a run, from a memory whose arrays are fine: the attention over the arguments. -/
module

public import proofs.«01_k».proof.Proof.Out
public import proofs.«01_k».proof.Proof.Args
public import proofs.«01_k».proof.Proof.KernelIdealOk

@[expose] public section

noncomputable section

namespace Cert.KernelIdeal.Gen

open Idealize.ShloMosaic Idealize.ShloMosaic.TcCoe Idealize.ShloMosaic.Pipeline Idealize.SL.Sem

/-- The result the arguments determine. -/
def resultOf (I : Ins) : S16x4x8192.Idx → EReal := fun i =>
  attn (I.data (i 0)) ⟨(i 2).val / 1024, by have h : (i 2).val < 8192 := (i 2).isLt; omega⟩
    ⟨(i 1).val * 16 + (i 2).val / 64 % 16, by have h : (i 1).val < 4 := (i 1).isLt; omega⟩ (unchan ⟨(i 2).val % 64, by omega⟩)

variable (m : (ℓ : Loc nD τ sig) → Buf (Elt Ideal) ℓ) (c : Dev nD)

theorem len_at (b : Fin 16) : lenB m b = (insOf m c).len b := by
  obtain rfl : c = 0 := Subsingleton.elim _ _
  exact congrFun (V_main_arg8 m 0) (ix1 b)

theorem value_at (hO : Ok m) (hI : (insOf m c).Fine) :
    Pipeline.afterTail pcfgs (fun _ => adm m hO) (dats m hO) 0 (V0 m) [hostOps1] c main_v57 = resultOf (insOf m c) := by
  funext i
  have e : i = ix3 (i 0) (i 1) (i 2) := by blk_ext
  rw [e]
  unfold Pipeline.afterTail
  refine (tail57 _ (i 0) (i 1) (i 2)).trans ?_
  refine (congrFun (Pipeline.withArrays_arr spec0 (by decide) c (V0 m c) (fun w => (dats m hO 0 c).arrAt w _) 10) _).trans ?_
  exact congrFun (arr_out m hO (arrays m c hI (len_at m c))) _

theorem run_value (ρ : Dev nD → PrngReg) (hI : ∀ c, (insOf m c).Fine) :
    θ_run defs (onTc (τ := τ) (main (F := Ideal))) ⟨m, fun _ => 0, ρ⟩ (fun r => ∀ c : Dev nD,
      r.2.mem ((c.tc : Thread nD τ).loc main_v57) = resultOf (insOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v57 (by decide : main_v57 ∈ Pipeline.restRefs sig spec0)).trans (value_at m c (ok m) (hI c)),
      ((h c).2 main_arg0 (by decide : main_arg0 ∈ Pipeline.restRefs sig spec0)).trans (W_main_arg0 m (ok m) (dats m (ok m)) c),
      ((h c).2 main_arg1 (by decide : main_arg1 ∈ Pipeline.restRefs sig spec0)).trans (W_main_arg1 m (ok m) (dats m (ok m)) c),
      ((h c).2 main_arg2 (by decide : main_arg2 ∈ Pipeline.restRefs sig spec0)).trans (W_main_arg2 m (ok m) (dats m (ok m)) c),
      ((h c).2 main_arg3 (by decide : main_arg3 ∈ Pipeline.restRefs sig spec0)).trans (W_main_arg3 m (ok m) (dats m (ok m)) c),
      ((h c).2 main_arg4 (by decide : main_arg4 ∈ Pipeline.restRefs sig spec0)).trans (W_main_arg4 m (ok m) (dats m (ok m)) c),
      ((h c).2 main_arg5 (by decide : main_arg5 ∈ Pipeline.restRefs sig spec0)).trans (W_main_arg5 m (ok m) (dats m (ok m)) c),
      ((h c).2 main_arg6 (by decide : main_arg6 ∈ Pipeline.restRefs sig spec0)).trans (W_main_arg6 m (ok m) (dats m (ok m)) c),
      ((h c).2 main_arg7 (by decide : main_arg7 ∈ Pipeline.restRefs sig spec0)).trans (W_main_arg7 m (ok m) (dats m (ok m)) c),
      ((h c).2 main_arg8 (by decide : main_arg8 ∈ Pipeline.restRefs sig spec0)).trans (W_main_arg8 m (ok m) (dats m (ok m)) c),
      ((h c).2 main_arg9 (by decide : main_arg9 ∈ Pipeline.restRefs sig spec0)).trans (W_main_arg9 m (ok m) (dats m (ok m)) c),
      ((h c).2 main_arg10 (by decide : main_arg10 ∈ Pipeline.restRefs sig spec0)).trans (W_main_arg10 m (ok m) (dats m (ok m)) c)⟩)
    (run_main m ρ (ok m))

end Cert.KernelIdeal.Gen

end
-- ==== Proof.Fine.lean ====
/- What the precondition says of the arrays: the floats the scores are made of are finite, and the outlier indices are
   channels. -/
module

public import proofs.«01_k».proof.Defs
public import proofs.«01_k».proof.Proof.Args

@[expose] public section

noncomputable section

namespace Cert.Pre_pre

open Idealize.ShloMosaic

theorem facts : Facts where
  bcast_S_S16x4x8192 := by decide
  bcast_S_S16x4x8x64 := by decide
  bcast_S_S8x64x16 := by decide
  bcast_S_S16x32768x8x4 := by decide

theorem inf_bf16 : Ideal.ofBits .bf16 0x7F80#16 = ⊤ := by
  simp [Ideal.ofBits, Ideal.ieee]

theorem finite_of_lt {x : EReal} (h : Ideal.cmp .olt (max x (-x)) (Ideal.ofBits .bf16 0x7F80#16) = 1#1) :
    Cert.KernelIdeal.Gen.Real' x := by
  rw [inf_bf16] at h
  have h' : max x (-x) < ⊤ := by
    by_contra hn
    have : Ideal.cmp .olt (max x (-x)) ⊤ = 0#1 := by
      show BitVec.ofBool (decide _) = _
      rw [decide_eq_false hn]; rfl
    rw [this] at h
    exact absurd h (by decide)
  constructor
  · rintro rfl; simp at h'
  · rintro rfl; simp at h'

theorem and_one {a b : BitVec 1} (h : a &&& b = 1#1) : a = 1#1 ∧ b = 1#1 := by
  revert a b; decide

theorem chan_of {w : BitVec 32} (h : IntOp.cmpi .sge w 0#32 &&& IntOp.cmpi .slt w 64#32 = 1#1) : w.toNat < 64 := by
  obtain ⟨h0, h1⟩ := and_one h
  have hb : ∀ b : Bool, BitVec.ofBool b = 1#1 → b = true := by decide
  have h0' : BitVec.sle 0#32 w = true := hb _ h0
  have h1' : BitVec.slt w 64#32 = true := hb _ h1
  rw [BitVec.sle_iff_toInt_le] at h0'
  rw [BitVec.slt_iff_toInt_lt] at h1'
  have e := BitVec.toInt_eq_toNat_cond w
  have e0 : (0#32).toInt = 0 := rfl
  have e1 : (64#32).toInt = 64 := rfl
  have := w.isLt
  rw [e0] at h0'
  rw [e1] at h1'
  split at e <;> omega

end Cert.Pre_pre

namespace Cert.KernelIdeal.Gen

open Idealize.ShloMosaic Idealize.ShloMosaic.TcCoe

theorem fine (m : (ℓ : Loc nD τ sig) → Buf (Elt Ideal) ℓ) (h : Cert.Pre_KernelIdeal_pre (hPre_pre := Cert.Pre_pre.facts) m) (c : Dev nD) :
    (insOf m c).Fine := by
  obtain ⟨h0, h1, h2, h3, h4⟩ := h c
  exact
  { x := fun b s e => Cert.Pre_pre.finite_of_lt (congrFun h0 (ix3 b s e))
    kn := fun b t h d => Cert.Pre_pre.finite_of_lt (congrFun h1 (ix4 b t h d))
    kt := fun h ch n => Cert.Pre_pre.finite_of_lt (congrFun h2 (ix3 h ch n))
    ov := fun b j h o => Cert.Pre_pre.finite_of_lt (congrFun h3 (ix4 b j h o))
    oi := fun b j h o => Cert.Pre_pre.chan_of (congrFun h4 (ix4 b j h o)) }

end Cert.KernelIdeal.Gen

end
-- ==== Proof.RefCode.lean ====
/- The reference's keys and values, read at an index: the level a code names in its table, and the outliers. -/
module

public import proofs.«01_k».proof.Proof.Args
public import proofs.«01_k».proof.Proof.Gen.ReferenceIdeal.Read

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic
open Cert.KernelIdeal.Gen (nib overlay scale Ins)

/-- The channel at a position of the reference's rows: the even channels, then the odd. -/
def rch (e : Fin 64) : Fin 64 := ⟨if e.val < 32 then 2 * e.val else 2 * (e.val - 32) + 1, by split <;> omega⟩

theorem rch_lo {e : Fin 64} (h : e.val < 32) : (rch e).val = 2 * e.val := if_pos h

theorem rch_hi {e : Fin 64} (h : ¬ e.val < 32) : (rch e).val = 2 * (e.val - 32) + 1 := if_neg h

theorem tab_key (x5 : S8x64x16.Idx → BitVec 16) (h : Fin 8) (e : Fin 64) (n : Fin 16) :
    val_main_v11 (F := Ideal) x5 (ix3 h e n) = Ideal.ofBits .bf16 (x5 (ix3 h (rch e) n)) := by
  unfold val_main_v11 val_main_v9 val_main_v10 val_main_v0
  pointwise
  split
  · next he => exact congrArg (fun k => Ideal.ofBits .bf16 (x5 (ix3 h k n))) (Fin.ext (rch_lo he).symm)
  · next he => exact congrArg (fun k => Ideal.ofBits .bf16 (x5 (ix3 h k n))) (Fin.ext (by rw [rch_hi he]; show 1 + 2 * (e.val - 32) = _; omega))

theorem tab_val (x5 : S8x64x16.Idx → BitVec 16) (h : Fin 8) (e : Fin 64) (n : Fin 16) :
    val_main_v14 (F := Ideal) x5 (ix3 h e n) = Ideal.ofBits .bf16 (x5 (ix3 h (rch e) n)) := by
  unfold val_main_v14 val_main_v12 val_main_v13 val_main_v1
  pointwise
  split
  · next he => exact congrArg (fun k => Ideal.ofBits .bf16 (x5 (ix3 h k n))) (Fin.ext (rch_lo he).symm)
  · next he => exact congrArg (fun k => Ideal.ofBits .bf16 (x5 (ix3 h k n))) (Fin.ext (by rw [rch_hi he]; show 1 + 2 * (e.val - 32) = _; omega))

theorem nib_hi : ∀ x : BitVec 8, IntOp.shrsi .host (x.setWidth 32) 4#32 = BitVec.ofNat 32 (nib x 1).val := by
  decide +kernel

theorem nib_lo : ∀ x : BitVec 8, IntOp.andi (x.setWidth 32) 15#32 = BitVec.ofNat 32 (nib x 0).val := by
  decide +kernel

theorem half_at : ∀ e : Fin 64, IntOp.cmpi .sge (BitVec.ofNat 32 e.val) 32#32 = if e.val < 32 then 0#1 else 1#1 := by
  decide +kernel

theorem rch_par (e : Fin 64) : (rch e).val % 2 = if e.val < 32 then 0 else 1 := by
  split
  · next h => rw [rch_lo h]; omega
  · next h => rw [rch_hi h]; omega

theorem rch_half (e : Fin 64) : (rch e).val / 2 = if e.val < 32 then e.val else e.val - 32 := by
  split
  · next h => rw [rch_lo h]; omega
  · next h => rw [rch_hi h]; omega

/-- A bit of a code, as the lookup tests it. -/
def bit (w k : BitVec 32) : BitVec 1 := IntOp.cmpi .eq (IntOp.andi (IntOp.shrsi .host w k) 1#32) 1#32

/-- Four levels of selects by a code's bits choose the code's entry. -/
theorem tree (f : Fin 16 → EReal) (n : Fin 16) (w : BitVec 32) (hw : w = BitVec.ofNat 32 n.val) :
    (let s0 (a b : EReal) : EReal := Scalar.select (bit w 0#32) a b
     let s1 (a b : EReal) : EReal := Scalar.select (bit w 1#32) a b
     let s2 (a b : EReal) : EReal := Scalar.select (bit w 2#32) a b
     let s3 (a b : EReal) : EReal := Scalar.select (bit w 3#32) a b
     s3 (s2 (s1 (s0 (f 15) (f 14)) (s0 (f 13) (f 12))) (s1 (s0 (f 11) (f 10)) (s0 (f 9) (f 8))))
       (s2 (s1 (s0 (f 7) (f 6)) (s0 (f 5) (f 4))) (s1 (s0 (f 3) (f 2)) (s0 (f 1) (f 0))))) = f n := by
  subst hw
  fin_cases n <;> rfl

theorem code_key (x3 : S16x32768x8x32.Idx → BitVec 8) (b : Fin 16) (j : Fin 32768) (h : Fin 8) (e : Fin 64) :
    val_main_v24 (F := Ideal) x3 (ix4 b j h e)
      = BitVec.ofNat 32 (nib (x3 (ix4 b j h ⟨(rch e).val / 2, by omega⟩)) (rch e).val).val := by
  unfold val_main_v24 val_main_call0_v0 val_main_v23 val_main_v22 val_main_c_3 val_main_v21 val_main_v20 val_main_c_2
    val_main_v19 val_main_v18 val_main_c_1 val_main_v17 val_main_v16 val_main_v15
  pointwise
  rw [half_at]
  by_cases he : e.val < 32
  · have e1 : (⟨e.val, he⟩ : Fin 32) = ⟨(rch e).val / 2, by omega⟩ := Fin.ext ((rch_half e).trans (if_pos he)).symm
    simp only [if_pos he, dif_pos he]
    rw [e1, Cert.KernelIdeal.Gen.nib_par (b := 0) _ (by rw [rch_par, if_pos he])]
    exact nib_lo _
  · have e1 : (⟨e.val - 32, by omega⟩ : Fin 32) = ⟨(rch e).val / 2, by omega⟩ := Fin.ext ((rch_half e).trans (if_neg he)).symm
    simp only [if_neg he, dif_neg he]
    rw [e1, Cert.KernelIdeal.Gen.nib_par (b := 1) _ (by rw [rch_par, if_neg he])]
    exact nib_hi _

theorem look_key (x3 : S16x32768x8x32.Idx → BitVec 8) (x5 : S8x64x16.Idx → BitVec 16) (b : Fin 16) (j : Fin 32768) (h : Fin 8)
    (e : Fin 64) :
    val_main_v95 (F := Ideal) x3 x5 (ix4 b j h e)
      = Ideal.ofBits .bf16 (x5 (ix3 h (rch e) (nib (x3 (ix4 b j h ⟨(rch e).val / 2, by omega⟩)) (rch e).val))) := by
  unfold val_main_v95 val_main_v94 val_main_v93 val_main_c_15 val_main_v92 val_main_v91 val_main_c_14 val_main_v90
    val_main_v89 val_main_c_13 val_main_v88 val_main_v87 val_main_v86 val_main_v85 val_main_c_12 val_main_v84 val_main_v83
    val_main_c_11 val_main_v82 val_main_v81 val_main_c_10 val_main_v80 val_main_v79 val_main_v78 val_main_v77 val_main_v76
    val_main_v75 val_main_c_9 val_main_v74 val_main_v73 val_main_c_8 val_main_v72 val_main_v71 val_main_c_7 val_main_v70
    val_main_call8_v1 val_main_call8_v0 val_main_v69 val_main_call7_v1 val_main_call7_v0 val_main_v68 val_main_call6_v1
    val_main_call6_v0 val_main_v67 val_main_call5_v1 val_main_call5_v0 val_main_v66 val_main_call4_v1 val_main_call4_v0
    val_main_v65 val_main_call3_v1 val_main_call3_v0 val_main_v64 val_main_call2_v1 val_main_call2_v0 val_main_v63
    val_main_call1_v1 val_main_call1_v0 val_main_v62 val_main_v61 val_main_c_6 val_main_v60 val_main_v59 val_main_c_5
    val_main_v58 val_main_v57 val_main_c_4 val_main_v56 val_main_v55 val_main_v54 val_main_v53 val_main_v52 val_main_v51
    val_main_v50 val_main_v49 val_main_v48 val_main_v47 val_main_v46 val_main_v45 val_main_v44 val_main_v43 val_main_v42
    val_main_v41 val_main_v40 val_main_v39 val_main_v38 val_main_v37 val_main_v36 val_main_v35 val_main_v34 val_main_v33
    val_main_v32 val_main_v31 val_main_v30 val_main_v29 val_main_v28 val_main_v27 val_main_v26 val_main_v25
  pointwise
  simp only [tab_key]
  exact tree (fun n => Ideal.ofBits .bf16 (x5 (ix3 h (rch e) n))) _ _ (code_key x3 b j h e)

theorem code_val (x3 : S16x32768x8x32.Idx → BitVec 8) (b : Fin 16) (j : Fin 32768) (h : Fin 8) (e : Fin 64) :
    val_main_v133 (F := Ideal) x3 (ix4 b j h e)
      = BitVec.ofNat 32 (nib (x3 (ix4 b j h ⟨(rch e).val / 2, by omega⟩)) (rch e).val).val := by
  unfold val_main_v133 val_main_call20_v0 val_main_v132 val_main_v131 val_main_c_18 val_main_v130 val_main_v129 val_main_c_17
    val_main_v128 val_main_v127 val_main_c_16 val_main_v126 val_main_v125 val_main_v124
  pointwise
  rw [half_at]
  by_cases he : e.val < 32
  · have e1 : (⟨e.val, he⟩ : Fin 32) = ⟨(rch e).val / 2, by omega⟩ := Fin.ext ((rch_half e).trans (if_pos he)).symm
    simp only [if_pos he, dif_pos he]
    rw [e1, Cert.KernelIdeal.Gen.nib_par (b := 0) _ (by rw [rch_par, if_pos he])]
    exact nib_lo _
  · have e1 : (⟨e.val - 32, by omega⟩ : Fin 32) = ⟨(rch e).val / 2, by omega⟩ := Fin.ext ((rch_half e).trans (if_neg he)).symm
    simp only [if_neg he, dif_neg he]
    rw [e1, Cert.KernelIdeal.Gen.nib_par (b := 1) _ (by rw [rch_par, if_neg he])]
    exact nib_hi _

theorem look_val (x3 : S16x32768x8x32.Idx → BitVec 8) (x5 : S8x64x16.Idx → BitVec 16) (b : Fin 16) (j : Fin 32768) (h : Fin 8)
    (e : Fin 64) :
    val_main_v204 (F := Ideal) x3 x5 (ix4 b j h e)
      = Ideal.ofBits .bf16 (x5 (ix3 h (rch e) (nib (x3 (ix4 b j h ⟨(rch e).val / 2, by omega⟩)) (rch e).val))) := by
  unfold val_main_v204 val_main_v203 val_main_v202 val_main_c_30 val_main_v201 val_main_v200 val_main_c_29 val_main_v199
    val_main_v198 val_main_c_28 val_main_v197 val_main_v196 val_main_v195 val_main_v194 val_main_c_27 val_main_v193
    val_main_v192 val_main_c_26 val_main_v191 val_main_v190 val_main_c_25 val_main_v189 val_main_v188 val_main_v187
    val_main_v186 val_main_v185 val_main_v184 val_main_c_24 val_main_v183 val_main_v182 val_main_c_23 val_main_v181
    val_main_v180 val_main_c_22 val_main_v179 val_main_call28_v1 val_main_call28_v0 val_main_v178 val_main_call27_v1
    val_main_call27_v0 val_main_v177 val_main_call26_v1 val_main_call26_v0 val_main_v176 val_main_call25_v1
    val_main_call25_v0 val_main_v175 val_main_call24_v1 val_main_call24_v0 val_main_v174 val_main_call23_v1
    val_main_call23_v0 val_main_v173 val_main_call22_v1 val_main_call22_v0 val_main_v172 val_main_call21_v1
    val_main_call21_v0 val_main_v171 val_main_v170 val_main_c_21 val_main_v169 val_main_v168 val_main_c_20 val_main_v167
    val_main_v166 val_main_c_19 val_main_v165 val_main_v164 val_main_v163 val_main_v162 val_main_v161 val_main_v160
    val_main_v159 val_main_v158 val_main_v157 val_main_v156 val_main_v155 val_main_v154 val_main_v153 val_main_v152
    val_main_v151 val_main_v150 val_main_v149 val_main_v148 val_main_v147 val_main_v146 val_main_v145 val_main_v144
    val_main_v143 val_main_v142 val_main_v141 val_main_v140 val_main_v139 val_main_v138 val_main_v137 val_main_v136
    val_main_v135 val_main_v134
  pointwise
  simp only [tab_val]
  exact tree (fun n => Ideal.ofBits .bf16 (x5 (ix3 h (rch e) n))) _ _ (code_val x3 b j h e)

theorem chan_lo : ∀ e : Fin 32, IntOp.muli 2#32 (BitVec.ofNat 32 e.val) = BitVec.ofNat 32 (2 * e.val) := by decide +kernel

theorem chan_hi : ∀ e : Fin 32, IntOp.addi (IntOp.muli 2#32 (BitVec.ofNat 32 e.val)) 1#32 = BitVec.ofNat 32 (2 * e.val + 1) := by
  decide +kernel

theorem chan_at (e : Fin 64) : val_main_v8 (F := Ideal) (ix1 e) = BitVec.ofNat 32 (rch e).val := by
  unfold val_main_v8 val_main_v7 val_main_v6 val_main_c_0 val_main_v5 val_main_v4 val_main_c val_main_v3
  pointwise
  split
  · next he => exact (chan_lo ⟨e.val, he⟩).trans (congrArg (BitVec.ofNat 32) (rch_lo he).symm)
  · next he => exact (chan_hi ⟨e.val - 32, by omega⟩).trans (congrArg (BitVec.ofNat 32) (rch_hi he).symm)

theorem select_ofBool {α : Type} (p : Bool) (a b : α) : Scalar.select (BitVec.ofBool p) a b = if p then a else b := by
  cases p <;> rfl

theorem select_eq {α : Type} (x : BitVec 32) (n : ℕ) (hn : n < 2 ^ 32) (a b : α) :
    Scalar.select (IntOp.cmpi .eq x (BitVec.ofNat 32 n)) a b = if x.toNat = n then a else b := by
  have e : x = BitVec.ofNat 32 n ↔ x.toNat = n := by
    constructor
    · rintro rfl; rw [BitVec.toNat_ofNat, Nat.mod_eq_of_lt hn]
    · rintro rfl; exact BitVec.eq_of_toNat_eq (by rw [BitVec.toNat_ofNat, Nat.mod_eq_of_lt hn])
  exact (select_ofBool (x == BitVec.ofNat 32 n) a b).trans (if_congr (beq_iff_eq.trans e) rfl rfl)

theorem key_at (x3 : S16x32768x8x32.Idx → BitVec 8) (x5 : S8x64x16.Idx → BitVec 16) (x9 : S16x32768x8x4.Idx → BitVec 32)
    (x10 : S16x32768x8x4.Idx → BitVec 16) (b : Fin 16) (j : Fin 32768) (h : Fin 8) (e : Fin 64) :
    val_main_v123 (F := Ideal) x3 x5 x9 x10 (ix4 b j h e)
      = Ideal.ofBits .bf16 (overlay (fun o => x9 (ix4 b j h o)) (fun o => x10 (ix4 b j h o)) (rch e).val
          (x5 (ix3 h (rch e) (nib (x3 (ix4 b j h ⟨(rch e).val / 2, by omega⟩)) (rch e).val)))) := by
  unfold val_main_v123 val_main_call19_v0 val_main_v122 val_main_v121 val_main_v120 val_main_v119 val_main_v118 val_main_v117
    val_main_v116 val_main_call18_v0 val_main_v115 val_main_v114 val_main_v113 val_main_v112 val_main_v111 val_main_v110
    val_main_v109 val_main_call17_v0 val_main_v108 val_main_v107 val_main_v106 val_main_v105 val_main_v104 val_main_v103
    val_main_v102 val_main_call16_v0 val_main_v101 val_main_v100 val_main_v99 val_main_v98 val_main_v97 val_main_v96
  pointwise
  rw [chan_at, look_key]
  unfold val_main_v2
  have hr : (rch e).val < 2 ^ 32 := by omega
  simp only [select_eq _ _ hr]
  unfold overlay
  split
  · rfl
  · split
    · rfl
    · split
      · rfl
      · split <;> rfl

end Cert.ReferenceIdeal.Read

end
-- ==== Proof.Ref.lean ====
/- The reference's result, read at an index. -/
module

public import proofs.«01_k».proof.Proof.RefCode

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic
open Cert.KernelIdeal.Gen (nib overlay scale Ins)

/-- The reference's argument arrays. -/
def insR (x0 : S16x4x8192.Idx → EReal) (x1 x2 : S16x4x8x64.Idx → EReal) (x3 x4 : S16x32768x8x32.Idx → BitVec 8)
    (x5 x6 : S8x64x16.Idx → BitVec 16) (x7 : S16x32768x8.Idx → EReal) (x8 : S16.Idx → BitVec 32)
    (x9 : S16x32768x8x4.Idx → BitVec 32) (x10 : S16x32768x8x4.Idx → BitVec 16) : Ins where
  x b s e := x0 (ix3 b s e)
  kn b t h d := x1 (ix4 b t h d)
  vn b t h d := x2 (ix4 b t h d)
  ck b j h i := x3 (ix4 b j h i)
  cv b j h i := x4 (ix4 b j h i)
  kt h ch n := x5 (ix3 h ch n)
  vt h ch n := x6 (ix3 h ch n)
  vs b j h := x7 (ix3 b j h)
  len b := x8 (ix1 b)
  oi b j h o := x9 (ix4 b j h o)
  ov b j h o := x10 (ix4 b j h o)

/-- The kernel's row of a token and a query head of the group. -/
def row (s : Fin 4) (g : Fin 16) : Fin 64 := ⟨s.val * 16 + g.val, by omega⟩

/-- The two orders of a head's channels. -/
def rchE : Fin 64 ≃ Fin 64 where
  toFun := rch
  invFun c := ⟨c.val % 2 * 32 + c.val / 2, by omega⟩
  left_inv := by decide
  right_inv := by decide

theorem data_sc (I : Ins) (b : Fin 16) (h : Fin 8) (j : Fin 32768) : (I.data b).sc h j.val = I.vs b j h := dif_pos j.isLt

theorem data_v (I : Ins) (b : Fin 16) (h : Fin 8) (d : Fin 64) (j : Fin 32768) :
    (I.data b).v h d j.val = I.val b j h (Ins.sig d) := dif_pos j.isLt

theorem sup_range (n : ℕ) (S : ℕ → EReal) : (Finset.univ.sup fun k : Fin n => S k.val) = (Finset.range n).sup S := by
  refine le_antisymm (Finset.sup_le fun k _ => Finset.le_sup (f := S) (Finset.mem_range.2 k.isLt)) (Finset.sup_le fun k hk => ?_)
  exact Finset.le_sup (f := fun k : Fin n => S k.val) (Finset.mem_univ ⟨k, Finset.mem_range.1 hk⟩)

theorem select_slt {α : Type} (j : Fin 32768) (w : BitVec 32) (a b : α) :
    Scalar.select (IntOp.cmpi .slt (BitVec.ofNat 32 j.val) w) a b = if (j.val : ℤ) < w.toInt then a else b :=
  (select_ofBool _ a b).trans (if_congr (Cert.KernelIdeal.Gen.ofNat_slt (by omega) w) rfl rfl)

theorem sle_at : ∀ t s : Fin 4, (BitVec.ofNat 32 t.val).sle (BitVec.ofNat 32 s.val) = decide (t ≤ s) := by decide +kernel

theorem select_sle {α : Type} (t s : Fin 4) (a b : α) :
    Scalar.select (IntOp.cmpi .sle (BitVec.ofNat 32 t.val) (BitVec.ofNat 32 s.val)) a b = if t ≤ s then a else b :=
  (select_ofBool _ a b).trans (if_congr (by rw [sle_at]; exact decide_eq_true_iff) rfl rfl)

/-- The host's maximum along the last axis of a rank-5 array. -/
theorem reduce_max {n0 n1 n2 n3 n4 : ℕ} {u : Shape} (x : FVec Ideal (⟨5, ![n0, n1, n2, n3, n4]⟩ : Shape) .f32) (init : FVec Ideal u .f32)
    (h : (⟨5, ![n0, n1, n2, n3, n4]⟩ : Shape).ReducesTo [4] (⟨4, ![n0, n1, n2, n3]⟩ : Shape)) (hu : 0 < u.numel)
    (i0 : Fin n0) (i1 : Fin n1) (i2 : Fin n2) (i3 : Fin n3) :
    Host.reduce (FloatOps.maximumf (F := Ideal) (φ := .f32)) x init h hu (ix4 i0 i1 i2 i3)
      = Finset.univ.fold max (init (Shape.Idx.first hu)) (fun k : Fin n4 => (x (ix5 i0 i1 i2 i3 k) : EReal)) := by
  refine (Host.reduce_eq_fold (f := (max : EReal → EReal → EReal)) x init h hu _).trans ?_
  rw [Shape.ReducesTo.fold_fiber_r5_a4]
  rfl

section

variable (x0 : S16x4x8192.Idx → EReal) (x1 x2 : S16x4x8x64.Idx → EReal) (x3 x4 : S16x32768x8x32.Idx → BitVec 8)
  (x5 x6 : S8x64x16.Idx → BitVec 16) (x7 : S16x32768x8.Idx → EReal) (x8 : S16.Idx → BitVec 32)
  (x9 : S16x32768x8x4.Idx → BitVec 32) (x10 : S16x32768x8x4.Idx → BitVec 16) (b : Fin 16) (h : Fin 8)

theorem query_at (s : Fin 4) (g : Fin 16) (e : Fin 64) : val_main_v205 (F := Ideal) x0 (ix5 b s h g e)
    = (insR x0 x1 x2 x3 x4 x5 x6 x7 x8 x9 x10).q b h (row s g) e := by
  unfold val_main_v205 Ins.q row insR
  pointwise
  refine congrArg₂ (fun a c => x0 (ix3 b a c)) (Fin.ext ?_) (Fin.ext ?_)
  · show s.val = (s.val * 16 + g.val) / 16
    omega
  · show h.val * 1024 + g.val * 64 + e.val = h.val * 1024 + (s.val * 16 + g.val) % 16 * 64 + e.val
    omega

theorem queryP_at (s : Fin 4) (g : Fin 16) (e : Fin 64) : val_main_v208 (F := Ideal) x0 (ix5 b s h g e)
    = (insR x0 x1 x2 x3 x4 x5 x6 x7 x8 x9 x10).q b h (row s g) (rch e) := by
  rw [← query_at]
  unfold val_main_v208 val_main_v207 val_main_v206
  pointwise
  split
  · next he => exact congrArg (fun k => val_main_v205 (F := Ideal) x0 (ix5 b s h g k)) (Fin.ext (rch_lo he).symm)
  · next he =>
    exact congrArg (fun k => val_main_v205 (F := Ideal) x0 (ix5 b s h g k))
      (Fin.ext (by rw [rch_hi he]; show 1 + 2 * (e.val - 32) = _; omega))

theorem sOld_at (g : Fin 16) (s : Fin 4) (j : Fin 32768) : val_main_v220 (F := Ideal) x0 x3 x5 x8 x9 x10 (ix5 b h g s j)
    = (insR x0 x1 x2 x3 x4 x5 x6 x7 x8 x9 x10).sOld b h (row s g) j := by
  unfold val_main_v220 val_main_call36_v2 val_main_call36_v1 val_main_call36_v0 val_main_cst_31 val_main_v219 val_main_v218
    val_main_v217 val_main_v216 val_main_v215 val_main_v214 val_main_v213 val_main_v212 val_main_v211 val_main_cst
    val_main_v210 val_main_v209
  pointwise
  rw [select_slt]
  unfold Ins.sOld
  refine if_congr Iff.rfl (congrArg (· * scale) ?_) Cert.KernelIdeal.Gen.ofBits_bot
  refine (Finset.sum_congr rfl fun e _ => ?_).trans
    (Equiv.sum_comp rchE fun ch => (insR x0 x1 x2 x3 x4 x5 x6 x7 x8 x9 x10).q b h (row s g) ch
      * (insR x0 x1 x2 x3 x4 x5 x6 x7 x8 x9 x10).key b j h ch)
  rw [mul_comm]
  exact congrArg₂ (fun x y : EReal => x * y) (queryP_at x0 x1 x2 x3 x4 x5 x6 x7 x8 x9 x10 b h s g e) (key_at x3 x5 x9 x10 b j h e)

theorem sNew_at (g : Fin 16) (s t : Fin 4) : val_main_v232 (F := Ideal) x0 x1 (ix5 b h g s t)
    = (insR x0 x1 x2 x3 x4 x5 x6 x7 x8 x9 x10).sNew b h (row s g) t := by
  unfold val_main_v232 val_main_call37_v2 val_main_call37_v1 val_main_call37_v0 val_main_cst_33 val_main_v231 val_main_v230
    val_main_cst_32 val_main_v229 val_main_v228 val_main_v227 val_main_v226 val_main_v225 val_main_v224 val_main_v223
    val_main_v222 val_main_v221
  pointwise
  rw [select_sle]
  unfold Ins.sNew
  have e : t ≤ s ↔ t.val ≤ (row s g).val / 16 := by
    show t.val ≤ s.val ↔ t.val ≤ (s.val * 16 + g.val) / 16
    omega
  refine if_congr e (congrArg (· * scale) (Finset.sum_congr rfl fun e _ => ?_)) Cert.KernelIdeal.Gen.ofBits_bot
  rw [mul_comm]
  exact congrArg (fun x : EReal => x * x1 (ix4 b t h e)) (query_at x0 x1 x2 x3 x4 x5 x6 x7 x8 x9 x10 b h s g e)

/-- A row's new scores. -/
abbrev Nr (g : Fin 16) (s : Fin 4) : Fin 4 → EReal := ((insR x0 x1 x2 x3 x4 x5 x6 x7 x8 x9 x10).data b).N h (row s g)

/-- A row's cached scores. -/
abbrev Sr (g : Fin 16) (s : Fin 4) : ℕ → EReal := ((insR x0 x1 x2 x3 x4 x5 x6 x7 x8 x9 x10).data b).S h (row s g)

theorem Sr_at (g : Fin 16) (s : Fin 4) (j : Fin 32768) : Sr x0 x1 x2 x3 x4 x5 x6 x7 x8 x9 x10 b h g s j.val
    = (insR x0 x1 x2 x3 x4 x5 x6 x7 x8 x9 x10).sOld b h (row s g) j := dif_pos j.isLt

theorem maximumf_at (y z : FVec Ideal S16x8x16x4x1 .f32) (i : S16x8x16x4x1.Idx) :
    maximumf y z i = max (show EReal from y i) (show EReal from z i) := rfl

theorem keep_at (y : S16x8x16x4.Idx → EReal) (b : Fin 16) (h : Fin 8) (g : Fin 16) (s : Fin 4) :
    broadcastInDim S16x8x16x4x1 ![0, 1, 2, 3] bcast_S16x8x16x4_S16x8x16x4x1_0_1_2_3 y (ix5 b h g s 0) = y (ix4 b h g s) := by
  pointwise

theorem maxOld_at (g : Fin 16) (s : Fin 4) : val_main_v233 (F := Ideal) x0 x3 x5 x8 x9 x10 (ix4 b h g s)
    = (Finset.range 32768).sup (Sr x0 x1 x2 x3 x4 x5 x6 x7 x8 x9 x10 b h g s) := by
  unfold val_main_v233
  rw [reduce_max, ← sup_range, show val_main_cst_34 (F := Ideal) (Shape.Idx.first h_S_) = Ideal.ofBits .f32 0xFF800000#32 from rfl,
    Cert.KernelIdeal.Gen.fold_max]
  exact Finset.sup_congr rfl fun j _ =>
    (sOld_at x0 x1 x2 x3 x4 x5 x6 x7 x8 x9 x10 b h g s j).trans (Sr_at x0 x1 x2 x3 x4 x5 x6 x7 x8 x9 x10 b h g s j).symm

theorem maxNew_at (g : Fin 16) (s : Fin 4) : val_main_v235 (F := Ideal) x0 x1 (ix4 b h g s) = Finset.univ.sup (Nr x0 x1 x2 x3 x4 x5 x6 x7 x8 x9 x10 b h g s) := by
  unfold val_main_v235
  rw [reduce_max, show val_main_cst_35 (F := Ideal) (Shape.Idx.first h_S_) = Ideal.ofBits .f32 0xFF800000#32 from rfl,
    Cert.KernelIdeal.Gen.fold_max]
  exact Finset.sup_congr rfl fun t _ => sNew_at x0 x1 x2 x3 x4 x5 x6 x7 x8 x9 x10 b h g s t

theorem max_read (g : Fin 16) (s : Fin 4) : val_main_v237 (F := Ideal) x0 x1 x3 x5 x8 x9 x10 (ix5 b h g s 0)
    = max (show EReal from val_main_v233 (F := Ideal) x0 x3 x5 x8 x9 x10 (ix4 b h g s)) (show EReal from val_main_v235 (F := Ideal) x0 x1 (ix4 b h g s)) := by
  unfold val_main_v237 val_main_v236 val_main_v234
  exact (maximumf_at _ _ _).trans (congrArg₂ max (keep_at _ _ _ _ _) (keep_at _ _ _ _ _))

theorem max_at (g : Fin 16) (s : Fin 4) : val_main_v237 (F := Ideal) x0 x1 x3 x5 x8 x9 x10 (ix5 b h g s 0)
    = Soft.MX (Nr x0 x1 x2 x3 x4 x5 x6 x7 x8 x9 x10 b h g s) (Sr x0 x1 x2 x3 x4 x5 x6 x7 x8 x9 x10 b h g s) 32768 := by
  rw [max_read, maxOld_at x0 x1 x2 x3 x4 x5 x6 x7 x8 x9 x10, maxNew_at x0 x1 x2 x3 x4 x5 x6 x7 x8 x9 x10]
  exact max_comm _ _

theorem expOld_at (g : Fin 16) (s : Fin 4) (j : Fin 32768) : val_main_v240 (F := Ideal) x0 x1 x3 x5 x8 x9 x10 (ix5 b h g s j)
    = Ideal.exp (Sr x0 x1 x2 x3 x4 x5 x6 x7 x8 x9 x10 b h g s j.val - Soft.MX (Nr x0 x1 x2 x3 x4 x5 x6 x7 x8 x9 x10 b h g s) (Sr x0 x1 x2 x3 x4 x5 x6 x7 x8 x9 x10 b h g s) 32768) := by
  unfold val_main_v240 val_main_v239 val_main_v238
  pointwise
  rw [sOld_at x0 x1 x2 x3 x4 x5 x6 x7 x8 x9 x10 b h g s j, max_at x0 x1 x2 x3 x4 x5 x6 x7 x8 x9 x10 b h g s, Sr_at]

theorem expNew_at (g : Fin 16) (s t : Fin 4) : val_main_v243 (F := Ideal) x0 x1 x3 x5 x8 x9 x10 (ix5 b h g s t)
    = Ideal.exp (Nr x0 x1 x2 x3 x4 x5 x6 x7 x8 x9 x10 b h g s t - Soft.MX (Nr x0 x1 x2 x3 x4 x5 x6 x7 x8 x9 x10 b h g s) (Sr x0 x1 x2 x3 x4 x5 x6 x7 x8 x9 x10 b h g s) 32768) := by
  unfold val_main_v243 val_main_v242 val_main_v241
  pointwise
  rw [sNew_at x0 x1 x2 x3 x4 x5 x6 x7 x8 x9 x10 b h g s t, max_at x0 x1 x2 x3 x4 x5 x6 x7 x8 x9 x10 b h g s]
  rfl

theorem den_at (g : Fin 16) (s : Fin 4) : val_main_v248 (F := Ideal) x0 x1 x3 x5 x8 x9 x10 (ix5 b h g s 0)
    = Soft.LX (Nr x0 x1 x2 x3 x4 x5 x6 x7 x8 x9 x10 b h g s) (Sr x0 x1 x2 x3 x4 x5 x6 x7 x8 x9 x10 b h g s) 32768 := by
  unfold val_main_v248 val_main_v247 val_main_v246 val_main_cst_37 val_main_v245 val_main_v244 val_main_cst_36
  pointwise
  unfold Soft.LX
  refine (add_comm (G := EReal) _ _).trans (congrArg₂ (fun x y : EReal => x + y) ?_ ?_)
  · exact Finset.sum_congr rfl fun t _ => expNew_at x0 x1 x2 x3 x4 x5 x6 x7 x8 x9 x10 b h g s t
  · rw [Finset.sum_range]
    refine Finset.sum_congr rfl fun j _ => ?_
    exact expOld_at x0 x1 x2 x3 x4 x5 x6 x7 x8 x9 x10 b h g s j

theorem pOld_at (g : Fin 16) (s : Fin 4) (j : Fin 32768) : val_main_v255 (F := Ideal) x0 x1 x3 x5 x7 x8 x9 x10 (ix5 b h g s j)
    = Ideal.div (Ideal.exp (Sr x0 x1 x2 x3 x4 x5 x6 x7 x8 x9 x10 b h g s j.val - Soft.MX (Nr x0 x1 x2 x3 x4 x5 x6 x7 x8 x9 x10 b h g s) (Sr x0 x1 x2 x3 x4 x5 x6 x7 x8 x9 x10 b h g s) 32768)) (Soft.LX (Nr x0 x1 x2 x3 x4 x5 x6 x7 x8 x9 x10 b h g s) (Sr x0 x1 x2 x3 x4 x5 x6 x7 x8 x9 x10 b h g s) 32768)
      * ((insR x0 x1 x2 x3 x4 x5 x6 x7 x8 x9 x10).data b).sc h j.val := by
  unfold val_main_v255 val_main_v254 val_main_v253 val_main_v252 val_main_v251 val_main_v250 val_main_v249
  pointwise
  rw [expOld_at x0 x1 x2 x3 x4 x5 x6 x7 x8 x9 x10 b h g s j, den_at x0 x1 x2 x3 x4 x5 x6 x7 x8 x9 x10 b h g s]
  refine congrArg₂ (fun x y : EReal => x * y) rfl ?_
  exact (data_sc (insR x0 x1 x2 x3 x4 x5 x6 x7 x8 x9 x10) b h j).symm

theorem pNew_at (g : Fin 16) (s t : Fin 4) : val_main_v258 (F := Ideal) x0 x1 x3 x5 x8 x9 x10 (ix5 b h g s t)
    = Ideal.div (Ideal.exp (Nr x0 x1 x2 x3 x4 x5 x6 x7 x8 x9 x10 b h g s t - Soft.MX (Nr x0 x1 x2 x3 x4 x5 x6 x7 x8 x9 x10 b h g s) (Sr x0 x1 x2 x3 x4 x5 x6 x7 x8 x9 x10 b h g s) 32768)) (Soft.LX (Nr x0 x1 x2 x3 x4 x5 x6 x7 x8 x9 x10 b h g s) (Sr x0 x1 x2 x3 x4 x5 x6 x7 x8 x9 x10 b h g s) 32768) := by
  unfold val_main_v258 val_main_v257 val_main_v256
  pointwise
  rw [expNew_at x0 x1 x2 x3 x4 x5 x6 x7 x8 x9 x10 b h g s t, den_at x0 x1 x2 x3 x4 x5 x6 x7 x8 x9 x10 b h g s]

theorem oNew_at (s : Fin 4) (g : Fin 16) (d : Fin 64) : val_main_v260 (F := Ideal) x0 x1 x2 x3 x5 x8 x9 x10 (ix5 b s h g (Ins.sig d))
    = ∑ t, Ideal.div (Ideal.exp (Nr x0 x1 x2 x3 x4 x5 x6 x7 x8 x9 x10 b h g s t - Soft.MX (Nr x0 x1 x2 x3 x4 x5 x6 x7 x8 x9 x10 b h g s) (Sr x0 x1 x2 x3 x4 x5 x6 x7 x8 x9 x10 b h g s) 32768)) (Soft.LX (Nr x0 x1 x2 x3 x4 x5 x6 x7 x8 x9 x10 b h g s) (Sr x0 x1 x2 x3 x4 x5 x6 x7 x8 x9 x10 b h g s) 32768)
      * ((insR x0 x1 x2 x3 x4 x5 x6 x7 x8 x9 x10).data b).vn h d t := by
  unfold val_main_v260 val_main_v259
  pointwise
  refine Finset.sum_congr rfl fun t _ => ?_
  rw [pNew_at x0 x1 x2 x3 x4 x5 x6 x7 x8 x9 x10 b h g s t, mul_comm]
  rfl

theorem oOld_at (s : Fin 4) (g : Fin 16) (d e : Fin 64) (he : rch e = Ins.sig d) : val_main_v262 (F := Ideal) x0 x1 x3 x4 x5 x6 x7 x8 x9 x10 (ix5 b s h g e)
    = ∑ j ∈ Finset.range 32768, (Ideal.div (Ideal.exp (Sr x0 x1 x2 x3 x4 x5 x6 x7 x8 x9 x10 b h g s j - Soft.MX (Nr x0 x1 x2 x3 x4 x5 x6 x7 x8 x9 x10 b h g s) (Sr x0 x1 x2 x3 x4 x5 x6 x7 x8 x9 x10 b h g s) 32768)) (Soft.LX (Nr x0 x1 x2 x3 x4 x5 x6 x7 x8 x9 x10 b h g s) (Sr x0 x1 x2 x3 x4 x5 x6 x7 x8 x9 x10 b h g s) 32768)
      * ((insR x0 x1 x2 x3 x4 x5 x6 x7 x8 x9 x10).data b).sc h j) * ((insR x0 x1 x2 x3 x4 x5 x6 x7 x8 x9 x10).data b).v h d j := by
  unfold val_main_v262 val_main_v261
  pointwise
  rw [Finset.sum_range]
  refine Finset.sum_congr rfl fun j _ => ?_
  rw [pOld_at x0 x1 x2 x3 x4 x5 x6 x7 x8 x9 x10 b h g s j, mul_comm, look_val]
  refine congrArg₂ (fun x y : EReal => x * y) rfl ?_
  have look : ∀ c, c = Ins.sig d → Ideal.ofBits .bf16 (x6 (ix3 h c (nib (x4 (ix4 b j h ⟨c.val / 2, by omega⟩)) c.val)))
      = ((insR x0 x1 x2 x3 x4 x5 x6 x7 x8 x9 x10).data b).v h d j.val := by
    rintro _ rfl
    exact (data_v (insR x0 x1 x2 x3 x4 x5 x6 x7 x8 x9 x10) b h d j).symm
  exact look _ he

theorem sum_at (hI : (insR x0 x1 x2 x3 x4 x5 x6 x7 x8 x9 x10).Fine) (s : Fin 4) (g : Fin 16) (d e e' : Fin 64) (he : rch e = Ins.sig d) (he' : e' = Ins.sig d) :
    val_main_v262 (F := Ideal) x0 x1 x3 x4 x5 x6 x7 x8 x9 x10 (ix5 b s h g e) + val_main_v260 (F := Ideal) x0 x1 x2 x3 x5 x8 x9 x10 (ix5 b s h g e')
    = Cert.KernelIdeal.Gen.attn ((insR x0 x1 x2 x3 x4 x5 x6 x7 x8 x9 x10).data b) h (row s g) d := by
  have hok := hI.ok b
  subst he'
  refine Eq.trans ?_ (Soft.AX_div (hok.hN _ _) (hok.hN0 _ _) (hok.hS _ _) 32768).symm
  exact congrArg₂ (fun x y : EReal => x + y) (oOld_at x0 x1 x2 x3 x4 x5 x6 x7 x8 x9 x10 b h s g d e he) (oNew_at x0 x1 x2 x3 x4 x5 x6 x7 x8 x9 x10 b h s g d)

/-- The reference's result is the attention over the arguments. -/
theorem result_at (hI : (insR x0 x1 x2 x3 x4 x5 x6 x7 x8 x9 x10).Fine) (s : Fin 4) (k : Fin 8192) : val_main_v273 (F := Ideal) x0 x1 x2 x3 x4 x5 x6 x7 x8 x9 x10 (ix3 b s k)
    = Cert.KernelIdeal.Gen.attn ((insR x0 x1 x2 x3 x4 x5 x6 x7 x8 x9 x10).data b) ⟨k.val / 1024, by omega⟩ (row s ⟨k.val / 64 % 16, by omega⟩)
        (Cert.KernelIdeal.Gen.unchan ⟨k.val % 64, by omega⟩) := by
  unfold val_main_v273 val_main_v272 val_main_v271 val_main_v270 val_main_v269 val_main_v268 val_main_v267 val_main_v266
    val_main_v265 val_main_v264 val_main_v263
  pointwise
  have hs : Ins.sig (Cert.KernelIdeal.Gen.unchan ⟨k.val % 64, by omega⟩) = ⟨k.val % 64, by omega⟩ := Ins.sig.right_inv _
  split
  · next h0 =>
    refine sum_at x0 x1 x2 x3 x4 x5 x6 x7 x8 x9 x10 b _ hI s _ _ _ _ ?_ ?_
    · exact (Fin.ext ((rch_lo (e := ⟨k.val / 2 % 32, by omega⟩) (by show k.val / 2 % 32 < 32; omega)).trans (by show 2 * (k.val / 2 % 32) = k.val % 64; omega))).trans hs.symm
    · exact (Fin.ext (by show 2 * (k.val / 2 % 32) = k.val % 64; omega)).trans hs.symm
  · next h0 =>
    refine sum_at x0 x1 x2 x3 x4 x5 x6 x7 x8 x9 x10 b _ hI s _ _ _ _ ?_ ?_
    · exact (Fin.ext ((rch_hi (e := ⟨32 + k.val / 2 % 32, by omega⟩) (by show ¬ 32 + k.val / 2 % 32 < 32; omega)).trans (by show 2 * (32 + k.val / 2 % 32 - 32) + 1 = k.val % 64; omega))).trans hs.symm
    · exact (Fin.ext (by show 1 + 2 * (k.val / 2 % 32) = k.val % 64; omega)).trans hs.symm

end
-- ==== Proof.lean ====
module

public import proofs.«01_k».proof.Defs
public import proofs.«01_k».proof.Proof.KernelOk
public import proofs.«01_k».proof.Proof.KernelIdealOk
public import proofs.«01_k».proof.Proof.Gen.ReferenceIdeal.Run
public import proofs.«01_k».proof.Proof.Gen.ReferenceIdeal.Read
public import proofs.«01_k».proof.Proof.Value
public import proofs.«01_k».proof.Proof.Fine
public import proofs.«01_k».proof.Proof.Ref
public import Idealize.ShloMosaic.Adequacy
public import Idealize.ShloMosaic.Init

@[expose] public section

noncomputable section

namespace Cert.Proof

open Idealize.ShloMosaic Idealize.ShloMosaic.TcCoe Idealize.SL.Sem

theorem frame_p : Cert.quiescent_Kernel (hKernel := Cert.Kernel.Gen.facts) :=
  fun m ρ _ => Cert.Kernel.Gen.frame m ρ (Cert.Kernel.Gen.ok m)

theorem frame_pi : Cert.quiescent_KernelIdeal (hKernelIdeal := Cert.KernelIdeal.Gen.facts) :=
  fun m ρ _ => Cert.KernelIdeal.Gen.frame m ρ (Cert.KernelIdeal.Gen.ok m)

theorem frame_pi_pre : Cert.quiescent_KernelIdeal_pre_pre (hKernelIdeal := Cert.KernelIdeal.Gen.facts) (hPre_pre := Cert.Pre_pre.facts) :=
  fun m ρ _ => Cert.KernelIdeal.Gen.frame m ρ (Cert.KernelIdeal.Gen.ok m)

theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_pre (hReferenceIdeal := Cert.ReferenceIdeal.Gen.facts) (hPre_pre := Cert.Pre_pre.facts) :=
  fun m ρ _ => frame_ri m ρ trivial

/-- The reference's result, from arguments that are fine. -/
theorem reference_value (m' : (ℓ : Loc Cert.ReferenceIdeal.nD Cert.ReferenceIdeal.τ Cert.ReferenceIdeal.sig) → Buf (Elt Ideal) ℓ)
    (c : Dev Cert.ReferenceIdeal.nD) (I : Cert.KernelIdeal.Gen.Ins) (hI : I.Fine) (hm : Cert.ReferenceIdeal.Read.insR
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10)) = I) :
    (Cert.ReferenceIdeal.Read.val_main_v273 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10)) : Cert.KernelIdeal.S16x4x8192.Idx → EReal) = Cert.KernelIdeal.Gen.resultOf I := by
  subst hm
  funext i
  have e : i = ix3 (i 0) (i 1) (i 2) := by blk_ext
  rw [e]
  exact Cert.ReferenceIdeal.Read.result_at _ _ _ _ _ _ _ _ _ _ _ (i 0) hI (i 1) (i 2)

theorem value : Cert.algebraic_KernelIdeal_ReferenceIdeal_pre_pre (hKernelIdeal := Cert.KernelIdeal.Gen.facts)
    (hReferenceIdeal := Cert.ReferenceIdeal.Gen.facts) (hPre_pre := Cert.Pre_pre.facts) := by
  intro m g m' g' hpre hm
  have hI := Cert.KernelIdeal.Gen.fine m hpre
  refine ⟨fun c => Cert.KernelIdeal.Gen.resultOf (Cert.KernelIdeal.Gen.insOf m c), Cert.KernelIdeal.Gen.run_value m g hI, ?_⟩
  refine (θ_run Cert.ReferenceIdeal.defs _ _).mono (fun r h c => ⟨(h c).1.trans ?_, (h c).2⟩)
    (Cert.ReferenceIdeal.Value.run (F := Ideal) m' g')
  refine (Cert.ReferenceIdeal.Read.val_main_v273_eq (F := Ideal) _).trans ?_
  refine reference_value m' c _ (hI c) ?_
  obtain ⟨h0, h1, h2, h3, h4, h5, h6, h7, h8, h9, h10⟩ := hm c
  rw [h0, h1, h2, h3, h4, h5, h6, h7, h8, h9, h10]
  rfl

theorem claim : Cert.Claim :=
  ⟨Cert.Kernel.Gen.facts, Cert.KernelIdeal.Gen.facts, Cert.ReferenceIdeal.Gen.facts, Cert.Pre_pre.facts, frame_p, frame_pi,
    frame_pi_pre, frame_ri, frame_ri_pre, trivial, value⟩

end Cert.Proof

end
